-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_hwk_finite [hPre_hwk_finite : Cert.Pre_hwk_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_hwk_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_hwk_finite [hPre_hwk_finite : Cert.Pre_hwk_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_hwk_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_hwk_finite [hKernel8Ideal : Cert.Kernel8Ideal.Facts] [hPre_hwk_finite : Cert.Pre_hwk_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_hwk_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_hwk_finite [hReference8Ideal : Cert.Reference8Ideal.Facts] [hPre_hwk_finite : Cert.Pre_hwk_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_hwk_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  IdealRules.named_const.Statement Cert.Kernel8Ideal.κ "xattn_scale" .f32 0x3D8293EE#32 (((11863283 / 268435456) * (Real.log 2)⁻¹ : ℝ) : EReal)

def algebraic_Kernel8Ideal_Reference8Ideal_pre_hwk_finite [hKernel8Ideal : Cert.Kernel8Ideal.Facts] [hReference8Ideal : Cert.Reference8Ideal.Facts] [hPre_hwk_finite : Cert.Pre_hwk_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_hwk_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "log2_e" .f32 0x3FB8AA3B#32 (((Real.log 2)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)) (v2 : (c : Dev Cert.Kernel9Ideal.nD) → Buf (Elt Ideal) ((c.tc : Thread Cert.Kernel9Ideal.nD Cert.Kernel9Ideal.τ).loc Cert.Kernel9Ideal.main_v12_2)) (v3 : (c : Dev Cert.Kernel9Ideal.nD) → Buf (Elt Ideal) ((c.tc : Thread Cert.Kernel9Ideal.nD Cert.Kernel9Ideal.τ).loc Cert.Kernel9Ideal.main_v12_3)) (v4 : (c : Dev Cert.Kernel9Ideal.nD) → Buf (Elt Ideal) ((c.tc : Thread Cert.Kernel9Ideal.nD Cert.Kernel9Ideal.τ).loc Cert.Kernel9Ideal.main_v12_4)) (v5 : (c : Dev Cert.Kernel9Ideal.nD) → Buf (Elt Ideal) ((c.tc : Thread Cert.Kernel9Ideal.nD Cert.Kernel9Ideal.τ).loc Cert.Kernel9Ideal.main_v12_5)) (v6 : (c : Dev Cert.Kernel9Ideal.nD) → Buf (Elt Ideal) ((c.tc : Thread Cert.Kernel9Ideal.nD Cert.Kernel9Ideal.τ).loc Cert.Kernel9Ideal.main_v12_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_v12_2) = v2 c
          ∧ r.2.mem ((c.tc : Thread Cert.Kernel9Ideal.nD Cert.Kernel9Ideal.τ).loc Cert.Kernel9Ideal.main_v12_3) = v3 c
          ∧ r.2.mem ((c.tc : Thread Cert.Kernel9Ideal.nD Cert.Kernel9Ideal.τ).loc Cert.Kernel9Ideal.main_v12_4) = v4 c
          ∧ r.2.mem ((c.tc : Thread Cert.Kernel9Ideal.nD Cert.Kernel9Ideal.τ).loc Cert.Kernel9Ideal.main_v12_5) = v5 c
          ∧ r.2.mem ((c.tc : Thread Cert.Kernel9Ideal.nD Cert.Kernel9Ideal.τ).loc Cert.Kernel9Ideal.main_v12_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v93) = v0 c
          ∧ r.2.mem ((c.tc : Thread Cert.Reference9Ideal.nD Cert.Reference9Ideal.τ).loc Cert.Reference9Ideal.main_v96) = v1 c
          ∧ r.2.mem ((c.tc : Thread Cert.Reference9Ideal.nD Cert.Reference9Ideal.τ).loc Cert.Reference9Ideal.main_v97) = v2 c
          ∧ r.2.mem ((c.tc : Thread Cert.Reference9Ideal.nD Cert.Reference9Ideal.τ).loc Cert.Reference9Ideal.main_v100) = v3 c
          ∧ r.2.mem ((c.tc : Thread Cert.Reference9Ideal.nD Cert.Reference9Ideal.τ).loc Cert.Reference9Ideal.main_v101) = v4 c
          ∧ r.2.mem ((c.tc : Thread Cert.Reference9Ideal.nD Cert.Reference9Ideal.τ).loc Cert.Reference9Ideal.main_v103) = v5 c
          ∧ r.2.mem ((c.tc : Thread Cert.Reference9Ideal.nD Cert.Reference9Ideal.τ).loc Cert.Reference9Ideal.main_v104) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_qk_finite : Cert.Pre_qk_finite.Facts) (hPre_hwk_finite : Cert.Pre_hwk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_hwk_finite (hKernel8Ideal := hKernel8Ideal) (hPre_hwk_finite := hPre_hwk_finite)
    ∧ quiescent_Reference8Ideal (hReference8Ideal := hReference8Ideal)
    ∧ quiescent_Reference8Ideal_pre_hwk_finite (hReference8Ideal := hReference8Ideal) (hPre_hwk_finite := hPre_hwk_finite)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_hwk_finite (hKernel8Ideal := hKernel8Ideal) (hReference8Ideal := hReference8Ideal) (hPre_hwk_finite := hPre_hwk_finite)
    ∧ preserves_Kernel9_Kernel9Ideal
    ∧ algebraic_Kernel9Ideal_Reference9Ideal (hKernel9Ideal := hKernel9Ideal) (hReference9Ideal := hReference9Ideal)
-- ==== Pre_hwk_finite.lean ====
abbrev S2x16384x2048 : Shape := ⟨3, ![2, 16384, 2048]⟩
abbrev S2048x2048 : Shape := ⟨2, ![2048, 2048]⟩
abbrev S2x256x2048 : Shape := ⟨3, ![2, 256, 2048]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2x256x2048 : S_.BroadcastsInDim S2x256x2048 (![] : Fin 0 → Fin S2x256x2048.rank)
  reducesTo_S2x256x2048_S_d0_1_2 : S2x256x2048.ReducesTo [0, 1, 2] S_

variable [Facts]

def fn {F : FTy → Type} [FloatOps F] (main_arg0 : FVec F S2x16384x2048 .f32) (main_arg1 : FVec F S2048x2048 .f32) (main_arg2 : FVec F S2x256x2048 .f32) (main_arg3 : FVec F S2x256x2048 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2x256x2048 .f32 := Host.absf main_arg2
  let main_cst_2 : FVec F S_ .f32 := constant S_ .f32 0x7F800000#32
  let main_v10 : FVec F S2x256x2048 .f32 := broadcastInDim S2x256x2048 ![] bcast_S_S2x256x2048 main_cst_2
  let main_v11 : IVec S2x256x2048 1 := cmpf .olt main_v9 main_v10
  let main_c_3 : IVec S_ 1 := constantI S_ 1 1#1
  let main_v12 : IVec S_ 1 := (fun x v => Host.reduce IntOp.andi x v reducesTo_S2x256x2048_S_d0_1_2 h_S_) main_v11 main_c_3
  let main_v13 : IVec S_ 1 := andi main_v8 main_v12
  main_v13
-- ==== Pre_qk_finite.lean ====
abbrev S2x16384x8x192 : Shape := ⟨4, ![2, 16384, 8, 192]⟩
abbrev S2x16384x8x128 : Shape := ⟨4, ![2, 16384, 8, 128]⟩
abbrev S_ : Shape := ⟨0, ![]⟩

class Facts : Prop where
  bcast_S_S2x16384x8x192 : S_.BroadcastsInDim S2x16384x8x192 (![] : Fin 0 → Fin S2x16384x8x192.rank)

variable [Facts]

def fn {F : FTy → Type} [FloatOps F] (main_arg0 : FVec F S2x16384x8x192 .f32) (main_arg1 : FVec F S2x16384x8x192 .f32) (main_arg2 : FVec F S2x16384x8x128 .f32) : IVec S2x16384x8x192 1 :=
  let main_v0 : FVec F S2x16384x8x192 .f32 := Host.absf main_arg0
  let main_cst : FVec F S_ .f32 := constant S_ .f32 0x7F800000#32
  let main_v1 : FVec F S2x16384x8x192 .f32 := broadcastInDim S2x16384x8x192 ![] bcast_S_S2x16384x8x192 main_cst
  let main_v2 : IVec S2x16384x8x192 1 := cmpf .olt main_v0 main_v1
  let main_v3 : FVec F S2x16384x8x192 .f32 := Host.absf main_arg1
  let main_cst_0 : FVec F S_ .f32 := constant S_ .f32 0x7F800000#32
  let main_v4 : FVec F S2x16384x8x192 .f32 := broadcastInDim S2x16384x8x192 ![] bcast_S_S2x16384x8x192 main_cst_0
  let main_v5 : IVec S2x16384x8x192 1 := cmpf .olt main_v3 main_v4
  let main_v6 : IVec S2x16384x8x192 1 := andi main_v2 main_v5
  main_v6
-- ==== Kernel.lean ====
abbrev S2x16384x8x192 : Shape := ⟨4, ![2, 16384, 8, 192]⟩
abbrev S2x16384x8x128 : Shape := ⟨4, ![2, 16384, 8, 128]⟩
abbrev S_ : Shape := ⟨0, ![]⟩
abbrev S2x32x512x8x192 : Shape := ⟨5, ![2, 32, 512, 8, 192]⟩
abbrev S2x8x32x192x512 : Shape := ⟨5, ![2, 8, 32, 192, 512]⟩
abbrev S2x8x16384x192 : Shape := ⟨4, ![2, 8, 16384, 192]⟩
abbrev S2x32x512x8x128 : Shape := ⟨5, ![2, 32, 512, 8, 128]⟩
abbrev S2x8x32x128x512 : Shape := ⟨5, ![2, 8, 32, 128, 512]⟩
abbrev S2x16384x1024 : Shape := ⟨3, ![2, 16384, 1024]⟩
abbrev S1x1x8x192x512 : Shape := ⟨5, ![1, 1, 8, 192, 512]⟩
abbrev S1x1x16384x192 : Shape := ⟨4, ![1, 1, 16384, 192]⟩
abbrev S1x1x32x128x512 : Shape := ⟨5, ![1, 1, 32, 128, 512]⟩
abbrev S1x4096x128 : Shape := ⟨3, ![1, 4096, 128]⟩
abbrev S4x512x512 : Shape := ⟨3, ![4, 512, 512]⟩
abbrev S1x512 : Shape := ⟨2, ![1, 512]⟩
abbrev S128x512 : Shape := ⟨2, ![128, 512]⟩
abbrev S1x1x1x192x512 : Shape := ⟨5, ![1, 1, 1, 192, 512]⟩
abbrev S192x512 : Shape := ⟨2, ![192, 512]⟩
abbrev S1x1x512x192 : Shape := ⟨4, ![1, 1, 512, 192]⟩
abbrev S512x192 : Shape := ⟨2, ![512, 192]⟩
abbrev S512x512 : Shape := ⟨2, ![512, 512]⟩
abbrev S1x512x512 : Shape := ⟨3, ![1, 512, 512]⟩
abbrev S512 : Shape := ⟨1, ![512]⟩
abbrev S1x1x1x128x512 : Shape := ⟨5, ![1, 1, 1, 128, 512]⟩
abbrev S512x128 : Shape := ⟨2, ![512, 128]⟩
abbrev S1x512x128 : Shape := ⟨3, ![1, 512, 128]⟩

abbrev nBuf : Space → Nat
  | .hbm => 18
  | .vmem => 15
  | .smem => 0
  | _ => 0

abbrev bufTy : (tb : Table) → Fin (tcTables nBuf tb) → BufTy
  | .hbm, ⟨0, _⟩ => ⟨S2x16384x8x192, .f32⟩
  | .hbm, ⟨1, _⟩ => ⟨S2x16384x8x192, .f32⟩
  | .hbm, ⟨2, _⟩ => ⟨S2x16384x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16384x8x192, .f32⟩
  | .hbm, ⟨8, _⟩ => ⟨S2x16384x8x192, .f32⟩
  | .hbm, ⟨9, _⟩ => ⟨S2x16384x8x192, .bf16⟩
  | .hbm, ⟨10, _⟩ => ⟨S2x32x512x8x192, .bf16⟩
  | .hbm, ⟨11, _⟩ => ⟨S2x8x32x192x512, .bf16⟩
  | .hbm, ⟨12, _⟩ => ⟨S2x16384x8x192, .bf16⟩
  | .hbm, ⟨13, _⟩ => ⟨S2x8x16384x192, .bf16⟩
  | .hbm, ⟨14, _⟩ => ⟨S2x16384x8x128, .bf16⟩
  | .hbm, ⟨15, _⟩ => ⟨S2x32x512x8x128, .bf16⟩
  | .hbm, ⟨16, _⟩ => ⟨S2x8x32x128x512, .bf16⟩
  | .hbm, ⟨17, _⟩ => ⟨S2x16384x1024, .bf16⟩
  | .local _ .vmem, ⟨0, _⟩ => ⟨S1x1x8x192x512, .bf16⟩
  | .local _ .vmem, ⟨1, _⟩ => ⟨S1x1x8x192x512, .bf16⟩
  | .local _ .vmem, ⟨2, _⟩ => ⟨S1x1x16384x192, .bf16⟩
  | .local _ .vmem, ⟨3, _⟩ => ⟨S1x1x16384x192, .bf16⟩
  | .local _ .vmem, ⟨4, _⟩ => ⟨S1x1x32x128x512, .bf16⟩
  | .local _ .vmem, ⟨5, _⟩ => ⟨S1x1x32x128x512, .bf16⟩
  | .local _ .vmem, ⟨6, _⟩ => ⟨S1x4096x128, .bf16⟩
  | .local _ .vmem, ⟨7, _⟩ => ⟨S1x4096x128, .bf16⟩
  | .local _ .vmem, ⟨8, _⟩ => ⟨S4x512x512, .f32⟩
  | .local _ .vmem, ⟨9, _⟩ => ⟨S1x512, .f32⟩
  | .local _ .vmem, ⟨10, _⟩ => ⟨S4x512x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S128x512, .f32⟩
  | _, _ => ⟨S2x16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

@[reducible] def k0_t1_loop : Scf.Loop 32 :=
  let c2_i32 : BitVec 32 := 2#32
  let c62_i32 : BitVec 32 := 62#32
  let v152 : BitVec 32 := Scalar.addi c2_i32 c62_i32
  let c1_i32 : BitVec 32 := 1#32
  ⟨c2_i32, v152, c1_i32⟩
def k0_off1 (k0_t1 : Fin k0_t1_loop.trips) : Fin 5 → Nat :=
  let c0_253 : Index := 0#32
  let c0_254 : Index := 0#32
  let c2_i32 : BitVec 32 := 2#32
  let c1_i32 : BitVec 32 := 1#32
  let arg14 : BitVec 32 := Scf.iv c2_i32 c1_i32 k0_t1
  let c2_i32_252 : BitVec 32 := 2#32
  let v303 : BitVec 32 := Scalar.subi arg14 c2_i32_252
  let c7_i32 : BitVec 32 := 7#32
  let v305 : BitVec 32 := Scalar.andi v303 c7_i32
  let c4_i32 : BitVec 32 := 4#32
  let v306 : BitVec 32 := Scalar.muli v305 c4_i32
  let v307 : Index := Scalar.indexCast v306
  let c0_255 : Index := 0#32
  let c0_256 : Index := 0#32
  ![0, 0, v307.toNat, 0, 0]
def k0_off2 (k0_t1 : Fin k0_t1_loop.trips) (c1_i32_262 : BitVec 32) : Fin 5 → Nat :=
  let c0_263 : Index := 0#32
  let c0_264 : Index := 0#32
  let c2_i32 : BitVec 32 := 2#32
  let c1_i32 : BitVec 32 := 1#32
  let arg14 : BitVec 32 := Scf.iv c2_i32 c1_i32 k0_t1
  let c2_i32_252 : BitVec 32 := 2#32
  let v303 : BitVec 32 := Scalar.subi arg14 c2_i32_252
  let c7_i32 : BitVec 32 := 7#32
  let v305 : BitVec 32 := Scalar.andi v303 c7_i32
  let c4_i32_261 : BitVec 32 := 4#32
  let v313 : BitVec 32 := Scalar.muli v305 c4_i32_261
  let v314 : BitVec 32 := Scalar.addi v313 c1_i32_262
  let v315 : Index := Scalar.indexCast v314
  let c0_265 : Index := 0#32
  let c0_266 : Index := 0#32
  ![0, 0, v315.toNat, 0, 0]
def k0_mult1 (k0_t1 : Fin k0_t1_loop.trips) : BitVec 32 :=
  let c2_i32 : BitVec 32 := 2#32
  let c1_i32 : BitVec 32 := 1#32
  let arg14 : BitVec 32 := Scf.iv c2_i32 c1_i32 k0_t1
  let c2_i32_252 : BitVec 32 := 2#32
  let v303 : BitVec 32 := Scalar.subi arg14 c2_i32_252
  let c3_i32 : BitVec 32 := 3#32
  let v304 : BitVec 32 := Scalar.shrui v303 c3_i32
  let c512_i32 : BitVec 32 := 512#32
  let v348 : BitVec 32 := Scalar.muli v304 c512_i32
  v348
def k0_off3 (k0_t1 : Fin k0_t1_loop.trips) : Fin 3 → Nat :=
  let c0_300 : Index := 0#32
  let c2_i32 : BitVec 32 := 2#32
  let c1_i32 : BitVec 32 := 1#32
  let arg14 : BitVec 32 := Scf.iv c2_i32 c1_i32 k0_t1
  let c2_i32_252 : BitVec 32 := 2#32
  let v303 : BitVec 32 := Scalar.subi arg14 c2_i32_252
  let c3_i32 : BitVec 32 := 3#32
  let v304 : BitVec 32 := Scalar.shrui v303 c3_i32
  let c512_i32 : BitVec 32 := 512#32
  let v348 : BitVec 32 := Scalar.muli v304 c512_i32
  let v349 : BitVec 32 := v348
  let v357 : Index := Scalar.indexCast v349
  let c0_301 : Index := 0#32
  ![0, v357.toNat, 0]
def k0_off4 (k0_t1 : Fin k0_t1_loop.trips) : Fin 5 → Nat :=
  let c0_348 : Index := 0#32
  let c0_349 : Index := 0#32
  let c2_i32 : BitVec 32 := 2#32
  let c1_i32 : BitVec 32 := 1#32
  let arg14 : BitVec 32 := Scf.iv c2_i32 c1_i32 k0_t1
  let c3_i32_346 : BitVec 32 := 3#32
  let v432 : BitVec 32 := Scalar.shrui arg14 c3_i32_346
  let v434 : Index := Scalar.indexCast v432
  let c0_350 : Index := 0#32
  let c0_351 : Index := 0#32
  ![0, 0, v434.toNat, 0, 0]
def k0_mult2 (k0_t1 : Fin k0_t1_loop.trips) : BitVec 32 :=
  let c2_i32 : BitVec 32 := 2#32
  let c1_i32 : BitVec 32 := 1#32
  let arg14 : BitVec 32 := Scf.iv c2_i32 c1_i32 k0_t1
  let c7_i32_347 : BitVec 32 := 7#32
  let v433 : BitVec 32 := Scalar.andi arg14 c7_i32_347
  let c4_i32_352 : BitVec 32 := 4#32
  let v437 : BitVec 32 := Scalar.muli v433 c4_i32_352
  let c0_i32_353 : BitVec 32 := 0#32
  let v438 : BitVec 32 := Scalar.addi v437 c0_i32_353
  let c512_i32_354 : BitVec 32 := 512#32
  let v439 : BitVec 32 := Scalar.muli v438 c512_i32_354
  v439
def k0_off5 (k0_t1 : Fin k0_t1_loop.trips) (c0_i32_353 : BitVec 32) : Fin 4 → Nat :=
  let c0_355 : Index := 0#32
  let c0_356 : Index := 0#32
  let c2_i32 : BitVec 32 := 2#32
  let c1_i32 : BitVec 32 := 1#32
  let arg14 : BitVec 32 := Scf.iv c2_i32 c1_i32 k0_t1
  let c7_i32_347 : BitVec 32 := 7#32
  let v433 : BitVec 32 := Scalar.andi arg14 c7_i32_347
  let c4_i32_352 : BitVec 32 := 4#32
  let v437 : BitVec 32 := Scalar.muli v433 c4_i32_352
  let v438 : BitVec 32 := Scalar.addi v437 c0_i32_353
  let c512_i32_354 : BitVec 32 := 512#32
  let v439 : BitVec 32 := Scalar.muli v438 c512_i32_354
  let v440 : BitVec 32 := v439
  let v441 : Index := Scalar.indexCast v440
  let c0_357 : Index := 0#32
  ![0, 0, v441.toNat, 0]
def k0_mult3 (k0_t1 : Fin k0_t1_loop.trips) : BitVec 32 :=
  let c2_i32 : BitVec 32 := 2#32
  let c1_i32 : BitVec 32 := 1#32
  let arg14 : BitVec 32 := Scf.iv c2_i32 c1_i32 k0_t1
  let c7_i32_347 : BitVec 32 := 7#32
  let v433 : BitVec 32 := Scalar.andi arg14 c7_i32_347
  let c4_i32_363 : BitVec 32 := 4#32
  let v450 : BitVec 32 := Scalar.muli v433 c4_i32_363
  let c1_i32_364 : BitVec 32 := 1#32
  let v451 : BitVec 32 := Scalar.addi v450 c1_i32_364
  let c512_i32_365 : BitVec 32 := 512#32
  let v452 : BitVec 32 := Scalar.muli v451 c512_i32_365
  v452
def k0_mult4 (k0_t1 : Fin k0_t1_loop.trips) : BitVec 32 :=
  let c2_i32 : BitVec 32 := 2#32
  let c1_i32 : BitVec 32 := 1#32
  let arg14 : BitVec 32 := Scf.iv c2_i32 c1_i32 k0_t1
  let c7_i32_347 : BitVec 32 := 7#32
  let v433 : BitVec 32 := Scalar.andi arg14 c7_i32_347
  let c4_i32_374 : BitVec 32 := 4#32
  let v464 : BitVec 32 := Scalar.muli v433 c4_i32_374
  let c2_i32_375 : BitVec 32 := 2#32
  let v465 : BitVec 32 := Scalar.addi v464 c2_i32_375
  let c512_i32_376 : BitVec 32 := 512#32
  let v466 : BitVec 32 := Scalar.muli v465 c512_i32_376
  v466
def k0_mult5 (k0_t1 : Fin k0_t1_loop.trips) : BitVec 32 :=
  let c2_i32 : BitVec 32 := 2#32
  let c1_i32 : BitVec 32 := 1#32
  let arg14 : BitVec 32 := Scf.iv c2_i32 c1_i32 k0_t1
  let c7_i32_347 : BitVec 32 := 7#32
  let v433 : BitVec 32 := Scalar.andi arg14 c7_i32_347
  let c4_i32_385 : BitVec 32 := 4#32
  let v478 : BitVec 32 := Scalar.muli v433 c4_i32_385
  let c3_i32_386 : BitVec 32 := 3#32
  let v479 : BitVec 32 := Scalar.addi v478 c3_i32_386
  let c512_i32_387 : BitVec 32 := 512#32
  let v480 : BitVec 32 := Scalar.muli v479 c512_i32_387
  v480
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x8x192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x192 : Shape := ⟨4, ![2, 16384, 8, 192]⟩
abbrev S2x16384x8x128 : Shape := ⟨4, ![2, 16384, 8, 128]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩
abbrev S2x16384x1024 : Shape := ⟨3, ![2, 16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x8x192, .f32⟩
  | .hbm, ⟨1, _⟩ => ⟨S2x16384x8x192, .f32⟩
  | .hbm, ⟨2, _⟩ => ⟨S2x16384x8x128, .f32⟩
  | .hbm, ⟨3, _⟩ => ⟨S2x8x16384x16384, .f32⟩
  | .hbm, ⟨4, _⟩ => ⟨S_, .f32⟩
  | .hbm, ⟨5, _⟩ => ⟨S2x8x16384x16384, .f32⟩
  | .hbm, ⟨6, _⟩ => ⟨S2x8x16384x16384, .f32⟩
  | .hbm, ⟨7, _⟩ => ⟨S_, .f32⟩
  | .hbm, ⟨8, _⟩ => ⟨S2x8x16384, .f32⟩
  | .hbm, ⟨9, _⟩ => ⟨S_, .f32⟩
  | .hbm, ⟨10, _⟩ => ⟨S2x8x16384, .f32⟩
  | .hbm, ⟨11, _⟩ => ⟨S2x8x16384, .f32⟩
  | .hbm, ⟨12, _⟩ => ⟨S2x8x16384x1, .f32⟩
  | .hbm, ⟨13, _⟩ => ⟨S2x8x16384x16384, .f32⟩
  | .hbm, ⟨14, _⟩ => ⟨S2x8x16384x16384, .f32⟩
  | .hbm, ⟨15, _⟩ => ⟨S2x8x16384x16384, .f32⟩
  | .hbm, ⟨16, _⟩ => ⟨S_, .f32⟩
  | .hbm, ⟨17, _⟩ => ⟨S2x8x16384, .f32⟩
  | .hbm, ⟨18, _⟩ => ⟨S2x8x16384x1, .f32⟩
  | .hbm, ⟨19, _⟩ => ⟨S2x8x16384x16384, .f32⟩
  | .hbm, ⟨20, _⟩ => ⟨S2x8x16384x16384, .f32⟩
  | .hbm, ⟨21, _⟩ => ⟨S2x8x128x16384, .f32⟩
  | .hbm, ⟨22, _⟩ => ⟨S2x16384x8x128, .f32⟩
  | .hbm, ⟨23, _⟩ => ⟨S2x16384x1024, .f32⟩
  | .hbm, ⟨24, _⟩ => ⟨S2x16384x1024, .bf16⟩
  | _, _ => ⟨S2x16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048x8192 : Shape := ⟨2, ![2048, 8192]⟩
abbrev S32768x2048 : Shape := ⟨2, ![32768, 2048]⟩
abbrev S32768x8192 : Shape := ⟨2, ![32768, 8192]⟩
abbrev S1024x2048 : Shape := ⟨2, ![1024, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x8192, .f32⟩
  | .hbm, ⟨2, _⟩ => ⟨S32768x2048, .f32⟩
  | .hbm, ⟨3, _⟩ => ⟨S32768x2048, .bf16⟩
  | .hbm, ⟨4, _⟩ => ⟨S2048x8192, .bf16⟩
  | .hbm, ⟨5, _⟩ => ⟨S32768x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x16384x2048 : Shape := ⟨3, ![2, 16384, 2048]⟩
abbrev S2048x8192 : Shape := ⟨2, ![2048, 8192]⟩
abbrev S2x16384x8192 : Shape := ⟨3, ![2, 16384, 8192]⟩
abbrev S_ : Shape := ⟨0, ![]⟩
abbrev S32768x8192 : Shape := ⟨2, ![32768, 8192]⟩

abbrev nBuf : Space → Nat
  | .hbm => 9
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x8192, .f32⟩
  | .hbm, ⟨2, _⟩ => ⟨S2x16384x8192, .f32⟩
  | .hbm, ⟨3, _⟩ => ⟨S_, .f32⟩
  | .hbm, ⟨4, _⟩ => ⟨S2x16384x8192, .f32⟩
  | .hbm, ⟨5, _⟩ => ⟨S2x16384x8192, .f32⟩
  | .hbm, ⟨6, _⟩ => ⟨S2x16384x8192, .f32⟩
  | .hbm, ⟨7, _⟩ => ⟨S32768x8192, .f32⟩
  | .hbm, ⟨8, _⟩ => ⟨S32768x8192, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S2x16384x8192 : Shape := ⟨3, ![2, 16384, 8192]⟩
abbrev S2x16384x2048 : Shape := ⟨3, ![2, 16384, 2048]⟩
abbrev S8192x2048 : Shape := ⟨2, ![8192, 2048]⟩
abbrev S32768x8192 : Shape := ⟨2, ![32768, 8192]⟩
abbrev S32768x2048 : Shape := ⟨2, ![32768, 2048]⟩
abbrev S512x2048 : Shape := ⟨2, ![512, 2048]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x16384x8192, .f32⟩
  | .hbm, ⟨1, _⟩ => ⟨S2x16384x2048, .f32⟩
  | .hbm, ⟨2, _⟩ => ⟨S8192x2048, .f32⟩
  | .hbm, ⟨3, _⟩ => ⟨S32768x8192, .f32⟩
  | .hbm, ⟨4, _⟩ => ⟨S32768x8192, .bf16⟩
  | .hbm, ⟨5, _⟩ => ⟨S8192x2048, .bf16⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S2x16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S2x16384x8192 : Shape := ⟨3, ![2, 16384, 8192]⟩
abbrev S2x16384x2048 : Shape := ⟨3, ![2, 16384, 2048]⟩
abbrev S8192x2048 : Shape := ⟨2, ![8192, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x8192, .f32⟩
  | .hbm, ⟨1, _⟩ => ⟨S2x16384x2048, .f32⟩
  | .hbm, ⟨2, _⟩ => ⟨S8192x2048, .f32⟩
  | .hbm, ⟨3, _⟩ => ⟨S2x16384x2048, .f32⟩
  | .hbm, ⟨4, _⟩ => ⟨S2x16384x2048, .f32⟩
  | .hbm, ⟨5, _⟩ => ⟨S32768x2048, .f32⟩
  | _, _ => ⟨S2x16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel4Ideal.lean ====
abbrev S2x16384x2048 : Shape := ⟨3, ![2, 16384, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x16384x2048 : Shape := ⟨3, ![2, 16384, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x16384x2048, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x2048, .f32⟩
  | .hbm, ⟨14, _⟩ => ⟨S2x16384x2048, .f32⟩
  | .hbm, ⟨15, _⟩ => ⟨S1x1x2048, .f32⟩
  | .hbm, ⟨16, _⟩ => ⟨S2x16384x2048, .f32⟩
  | .hbm, ⟨17, _⟩ => ⟨S2x16384x2048, .f32⟩
  | .hbm, ⟨18, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x4096x2048, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x2048, .f32⟩
  | .hbm, ⟨14, _⟩ => ⟨S2x4096x2048, .f32⟩
  | .hbm, ⟨15, _⟩ => ⟨S1x1x2048, .f32⟩
  | .hbm, ⟨16, _⟩ => ⟨S2x4096x2048, .f32⟩
  | .hbm, ⟨17, _⟩ => ⟨S2x4096x2048, .f32⟩
  | .hbm, ⟨18, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x16384x2048, .f32⟩
  | .hbm, ⟨3, _⟩ => ⟨S2048, .f32⟩
  | .hbm, ⟨4, _⟩ => ⟨S32768x2048, .f32⟩
  | .hbm, ⟨5, _⟩ => ⟨S32768x2048, .bf16⟩
  | .hbm, ⟨6, _⟩ => ⟨S2048x2048, .bf16⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x16384x2048 : Shape := ⟨3, ![2, 16384, 2048]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x16384x2048, .f32⟩
  | .hbm, ⟨3, _⟩ => ⟨S2048, .f32⟩
  | .hbm, ⟨4, _⟩ => ⟨S2x16384x2048, .f32⟩
  | .hbm, ⟨5, _⟩ => ⟨S2x16384x2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S32768x2048, .f32⟩
  | .hbm, ⟨23, _⟩ => ⟨S32768x2048, .f32⟩
  | .hbm, ⟨24, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S2x16384x1024 : Shape := ⟨3, ![2, 16384, 1024]⟩
abbrev S2x16384x8x128 : Shape := ⟨4, ![2, 16384, 8, 128]⟩
abbrev S128 : Shape := ⟨1, ![128]⟩
abbrev S2048x2048 : Shape := ⟨2, ![2048, 2048]⟩
abbrev S2x16384x2048 : Shape := ⟨3, ![2, 16384, 2048]⟩
abbrev S2048 : Shape := ⟨1, ![2048]⟩
abbrev S32768x1024 : Shape := ⟨2, ![32768, 1024]⟩
abbrev S32768x2048 : Shape := ⟨2, ![32768, 2048]⟩
abbrev S1x128 : Shape := ⟨2, ![1, 128]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S256x2048 : Shape := ⟨2, ![256, 2048]⟩

abbrev nBuf : Space → Nat
  | .hbm => 19
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x8x128, .f32⟩
  | .hbm, ⟨2, _⟩ => ⟨S2x16384x8x128, .f32⟩
  | .hbm, ⟨3, _⟩ => ⟨S2x16384x8x128, .f32⟩
  | .hbm, ⟨4, _⟩ => ⟨S128, .f32⟩
  | .hbm, ⟨5, _⟩ => ⟨S2048x2048, .f32⟩
  | .hbm, ⟨6, _⟩ => ⟨S2x16384x2048, .f32⟩
  | .hbm, ⟨7, _⟩ => ⟨S2048, .f32⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S2048x2048, .bf16⟩
  | .hbm, ⟨14, _⟩ => ⟨S32768x2048, .f32⟩
  | .hbm, ⟨15, _⟩ => ⟨S1x128, .f32⟩
  | .hbm, ⟨16, _⟩ => ⟨S1x2048, .f32⟩
  | .hbm, ⟨17, _⟩ => ⟨S32768x2048, .f32⟩
  | .hbm, ⟨18, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S1024x2048, .bf16⟩
  | .local _ .vmem, ⟨10, _⟩ => ⟨S1024x2048, .bf16⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S2x16384x1024 : Shape := ⟨3, ![2, 16384, 1024]⟩
abbrev S2x16384x8x128 : Shape := ⟨4, ![2, 16384, 8, 128]⟩
abbrev S128 : Shape := ⟨1, ![128]⟩
abbrev S2048x2048 : Shape := ⟨2, ![2048, 2048]⟩
abbrev S2x16384x2048 : Shape := ⟨3, ![2, 16384, 2048]⟩
abbrev S2048 : Shape := ⟨1, ![2048]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x8x128, .f32⟩
  | .hbm, ⟨2, _⟩ => ⟨S2x16384x8x128, .f32⟩
  | .hbm, ⟨3, _⟩ => ⟨S2x16384x8x128, .f32⟩
  | .hbm, ⟨4, _⟩ => ⟨S128, .f32⟩
  | .hbm, ⟨5, _⟩ => ⟨S2048x2048, .f32⟩
  | .hbm, ⟨6, _⟩ => ⟨S2x16384x2048, .f32⟩
  | .hbm, ⟨7, _⟩ => ⟨S2048, .f32⟩
  | .hbm, ⟨8, _⟩ => ⟨S2x16384x8x128, .f32⟩
  | .hbm, ⟨9, _⟩ => ⟨S2x16384x8x128, .f32⟩
  | .hbm, ⟨10, _⟩ => ⟨S_, .f32⟩
  | .hbm, ⟨11, _⟩ => ⟨S2x16384x8, .f32⟩
  | .hbm, ⟨12, _⟩ => ⟨S2x16384x8x1, .f32⟩
  | .hbm, ⟨13, _⟩ => ⟨S_, .f32⟩
  | .hbm, ⟨14, _⟩ => ⟨S2x16384x8x1, .f32⟩
  | .hbm, ⟨15, _⟩ => ⟨S2x16384x8x1, .f32⟩
  | .hbm, ⟨16, _⟩ => ⟨S_, .f32⟩
  | .hbm, ⟨17, _⟩ => ⟨S2x16384x8x1, .f32⟩
  | .hbm, ⟨18, _⟩ => ⟨S2x16384x8x1, .f32⟩
  | .hbm, ⟨19, _⟩ => ⟨S2x16384x8x1, .f32⟩
  | .hbm, ⟨20, _⟩ => ⟨S2x16384x8x128, .f32⟩
  | .hbm, ⟨21, _⟩ => ⟨S2x16384x8x128, .f32⟩
  | .hbm, ⟨22, _⟩ => ⟨S1x1x1x128, .f32⟩
  | .hbm, ⟨23, _⟩ => ⟨S2x16384x8x128, .f32⟩
  | .hbm, ⟨24, _⟩ => ⟨S2x16384x8x128, .f32⟩
  | .hbm, ⟨25, _⟩ => ⟨S2x16384x8x128, .f32⟩
  | .hbm, ⟨26, _⟩ => ⟨S2x16384x8x128, .f32⟩
  | .hbm, ⟨27, _⟩ => ⟨S_, .f32⟩
  | .hbm, ⟨28, _⟩ => ⟨S2x16384x8x128, .f32⟩
  | .hbm, ⟨29, _⟩ => ⟨S2x16384x8x128, .f32⟩
  | .hbm, ⟨30, _⟩ => ⟨S_, .f32⟩
  | .hbm, ⟨31, _⟩ => ⟨S2x16384x8x128, .f32⟩
  | .hbm, ⟨32, _⟩ => ⟨S2x16384x8x128, .f32⟩
  | .hbm, ⟨33, _⟩ => ⟨S2x16384x8x128, .f32⟩
  | .hbm, ⟨34, _⟩ => ⟨S2x16384x8x128, .f32⟩
  | .hbm, ⟨35, _⟩ => ⟨S2x16384x1024, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S2x16384x2048, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x2048, .f32⟩
  | .hbm, ⟨51, _⟩ => ⟨S2x16384x2048, .f32⟩
  | .hbm, ⟨52, _⟩ => ⟨S1x1x2048, .f32⟩
  | .hbm, ⟨53, _⟩ => ⟨S2x16384x2048, .f32⟩
  | .hbm, ⟨54, _⟩ => ⟨S2x16384x2048, .f32⟩
  | .hbm, ⟨55, _⟩ => ⟨S32768x2048, .f32⟩
  | .hbm, ⟨56, _⟩ => ⟨S32768x2048, .f32⟩
  | .hbm, ⟨57, _⟩ => ⟨S32768x2048, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Kernel8.lean ====
abbrev S2x16384x2048 : Shape := ⟨3, ![2, 16384, 2048]⟩
abbrev S2048x2048 : Shape := ⟨2, ![2048, 2048]⟩
abbrev S2x256x2048 : Shape := ⟨3, ![2, 256, 2048]⟩
abbrev S2x256x4096 : Shape := ⟨3, ![2, 256, 4096]⟩
abbrev S32768x2048 : Shape := ⟨2, ![32768, 2048]⟩
abbrev S512x2048 : Shape := ⟨2, ![512, 2048]⟩
abbrev S1x256x2048 : Shape := ⟨3, ![1, 256, 2048]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x256x2048, .f32⟩
  | .hbm, ⟨3, _⟩ => ⟨S2x256x2048, .f32⟩
  | .hbm, ⟨4, _⟩ => ⟨S2x256x4096, .f32⟩
  | .hbm, ⟨5, _⟩ => ⟨S2x256x4096, .bf16⟩
  | .hbm, ⟨6, _⟩ => ⟨S32768x2048, .f32⟩
  | .hbm, ⟨7, _⟩ => ⟨S32768x2048, .bf16⟩
  | .hbm, ⟨8, _⟩ => ⟨S2048x2048, .bf16⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S512x2048, .bf16⟩
  | .local _ .vmem, ⟨8, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel8Ideal.lean ====
variable {F : FTy → Type} [FloatOps F] [Named F]
def κ : String → Option EReal := fun
  | "xattn_scale" => some (((11863283 / 268435456) * (Real.log 2)⁻¹ : ℝ) : EReal)
  | _ => none
-- ==== Reference8Ideal.lean ====
abbrev S2x16384x2048 : Shape := ⟨3, ![2, 16384, 2048]⟩
abbrev S2048x2048 : Shape := ⟨2, ![2048, 2048]⟩
abbrev S2x256x2048 : Shape := ⟨3, ![2, 256, 2048]⟩
abbrev S2x16384x4x512 : Shape := ⟨4, ![2, 16384, 4, 512]⟩
abbrev S2x256x4x512 : Shape := ⟨4, ![2, 256, 4, 512]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x512x16384 : Shape := ⟨4, ![2, 4, 512, 16384]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x256x2048, .f32⟩
  | .hbm, ⟨3, _⟩ => ⟨S2x256x2048, .f32⟩
  | .hbm, ⟨4, _⟩ => ⟨S2x16384x2048, .f32⟩
  | .hbm, ⟨5, _⟩ => ⟨S2x16384x4x512, .f32⟩
  | .hbm, ⟨6, _⟩ => ⟨S2x256x4x512, .f32⟩
  | .hbm, ⟨7, _⟩ => ⟨S2x256x4x512, .f32⟩
  | .hbm, ⟨8, _⟩ => ⟨S2x4x16384x256, .f32⟩
  | .hbm, ⟨9, _⟩ => ⟨S_, .f32⟩
  | .hbm, ⟨10, _⟩ => ⟨S2x4x16384x256, .f32⟩
  | .hbm, ⟨11, _⟩ => ⟨S2x4x16384x256, .f32⟩
  | .hbm, ⟨12, _⟩ => ⟨S_, .f32⟩
  | .hbm, ⟨13, _⟩ => ⟨S2x4x16384, .f32⟩
  | .hbm, ⟨14, _⟩ => ⟨S_, .f32⟩
  | .hbm, ⟨15, _⟩ => ⟨S2x4x16384, .f32⟩
  | .hbm, ⟨16, _⟩ => ⟨S2x4x16384, .f32⟩
  | .hbm, ⟨17, _⟩ => ⟨S2x4x16384x1, .f32⟩
  | .hbm, ⟨18, _⟩ => ⟨S2x4x16384x256, .f32⟩
  | .hbm, ⟨19, _⟩ => ⟨S2x4x16384x256, .f32⟩
  | .hbm, ⟨20, _⟩ => ⟨S2x4x16384x256, .f32⟩
  | .hbm, ⟨21, _⟩ => ⟨S_, .f32⟩
  | .hbm, ⟨22, _⟩ => ⟨S2x4x16384, .f32⟩
  | .hbm, ⟨23, _⟩ => ⟨S2x4x16384x1, .f32⟩
  | .hbm, ⟨24, _⟩ => ⟨S2x4x16384x256, .f32⟩
  | .hbm, ⟨25, _⟩ => ⟨S2x4x16384x256, .f32⟩
  | .hbm, ⟨26, _⟩ => ⟨S2x4x512x16384, .f32⟩
  | .hbm, ⟨27, _⟩ => ⟨S2x16384x4x512, .f32⟩
  | .hbm, ⟨28, _⟩ => ⟨S2x16384x2048, .f32⟩
  | .hbm, ⟨29, _⟩ => ⟨S32768x2048, .f32⟩
  | .hbm, ⟨30, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel9.lean ====
abbrev S2x16384x2048 : Shape := ⟨3, ![2, 16384, 2048]⟩
abbrev S2048 : Shape := ⟨1, ![2048]⟩
abbrev S2048x5120 : Shape := ⟨2, ![2048, 5120]⟩
abbrev S2x1024 : Shape := ⟨2, ![2, 1024]⟩
abbrev S_ : Shape := ⟨0, ![]⟩
abbrev S2x1x1024 : Shape := ⟨3, ![2, 1, 1024]⟩
abbrev S2x3x1024 : Shape := ⟨3, ![2, 3, 1024]⟩
abbrev S32768x2048 : Shape := ⟨2, ![32768, 2048]⟩
abbrev S1x2048 : Shape := ⟨2, ![1, 2048]⟩
abbrev S32768x1024 : Shape := ⟨2, ![32768, 1024]⟩
abbrev S1024x2048 : Shape := ⟨2, ![1024, 2048]⟩
abbrev S2048x512 : Shape := ⟨2, ![2048, 512]⟩
abbrev S1x3x512 : Shape := ⟨3, ![1, 3, 512]⟩
abbrev S1024x512 : Shape := ⟨2, ![1024, 512]⟩
abbrev S1024 : Shape := ⟨1, ![1024]⟩
abbrev S1024x1 : Shape := ⟨2, ![1024, 1]⟩
abbrev S1x1x512 : Shape := ⟨3, ![1, 1, 512]⟩
abbrev S1x512 : Shape := ⟨2, ![1, 512]⟩

abbrev nBuf : Space → Nat
  | .hbm => 24
  | .vmem => 23
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5120, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x3x1024, .f32⟩
  | .hbm, ⟨14, _⟩ => ⟨S32768x2048, .f32⟩
  | .hbm, ⟨15, _⟩ => ⟨S2048x5120, .bf16⟩
  | .hbm, ⟨16, _⟩ => ⟨S1x2048, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .bf16⟩
  | .hbm, ⟨23, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x3x512, .f32⟩
  | .local _ .vmem, ⟨6, _⟩ => ⟨S1x3x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x2048, .bf16⟩
  | .local _ .vmem, ⟨22, _⟩ => ⟨S1024x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c1_i32 : BitVec 32 := 1#32
  let v0 : BitVec 32 := Scalar.subi arg1 c1_i32
  let c0_i32_1 : BitVec 32 := 0#32
  let v4 : BitVec 1 := Scalar.cmpi .sge v0 c0_i32_1
  let c2_i32 : BitVec 32 := 2#32
  let v5 : BitVec 1 := Scalar.cmpi .slt v0 c2_i32
  let v6 : BitVec 1 := Scalar.andi v4 v5
  let v7 : BitVec 32 := Scalar.extui v6
  let c0_i32_2 : BitVec 32 := 0#32
  let v8 : BitVec 1 := Scalar.cmpi .ne v7 c0_i32_2
  v8

def k0_cond3 (i : grid0.Coords) : BitVec 1 :=
  let arg1 : BitVec 32 := BitVec.ofNat 32 (i 1).val
  let c1_i32 : BitVec 32 := 1#32
  let v0 : BitVec 32 := Scalar.subi arg1 c1_i32
  let c2_i32_3 : BitVec 32 := 2#32
  let v9 : BitVec 1 := Scalar.cmpi .sge v0 c2_i32_3
  let c4_i32 : BitVec 32 := 4#32
  let v10 : BitVec 1 := Scalar.cmpi .slt v0 c4_i32
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg1 : BitVec 32 := BitVec.ofNat 32 (i 1).val
  let c1_i32 : BitVec 32 := 1#32
  let v0 : BitVec 32 := Scalar.subi arg1 c1_i32
  let c4_i32_5 : BitVec 32 := 4#32
  let v14 : BitVec 1 := Scalar.cmpi .sge v0 c4_i32_5
  let c6_i32 : BitVec 32 := 6#32
  let v15 : BitVec 1 := Scalar.cmpi .slt v0 c6_i32
  let v16 : BitVec 1 := Scalar.andi v14 v15
  let v17 : BitVec 32 := Scalar.extui v16
  let c0_i32_6 : BitVec 32 := 0#32
  let v18 : BitVec 1 := Scalar.cmpi .ne v17 c0_i32_6
  v18

def k0_cond5 (i : grid0.Coords) : BitVec 1 :=
  let arg1 : BitVec 32 := BitVec.ofNat 32 (i 1).val
  let c1_i32 : BitVec 32 := 1#32
  let v0 : BitVec 32 := Scalar.subi arg1 c1_i32
  let c6_i32_7 : BitVec 32 := 6#32
  let v19 : BitVec 1 := Scalar.cmpi .sge v0 c6_i32_7
  let c8_i32 : BitVec 32 := 8#32
  let v20 : BitVec 1 := Scalar.cmpi .slt v0 c8_i32
  let v21 : BitVec 1 := Scalar.andi v19 v20
  let v22 : BitVec 32 := Scalar.extui v21
  let c0_i32_8 : BitVec 32 := 0#32
  let v23 : BitVec 1 := Scalar.cmpi .ne v22 c0_i32_8
  v23

def k0_cond6 (i : grid0.Coords) : BitVec 1 :=
  let arg1 : BitVec 32 := BitVec.ofNat 32 (i 1).val
  let c1_i32 : BitVec 32 := 1#32
  let v0 : BitVec 32 := Scalar.subi arg1 c1_i32
  let c8_i32_9 : BitVec 32 := 8#32
  let v24 : BitVec 1 := Scalar.cmpi .sge v0 c8_i32_9
  let c9_i32 : BitVec 32 := 9#32
  let v25 : BitVec 1 := Scalar.cmpi .slt v0 c9_i32
  let v26 : BitVec 1 := Scalar.andi v24 v25
  let v27 : BitVec 32 := Scalar.extui v26
  let c0_i32_10 : BitVec 32 := 0#32
  let v28 : BitVec 1 := Scalar.cmpi .ne v27 c0_i32_10
  v28

def k0_cond7 (i : grid0.Coords) : BitVec 1 :=
  let arg1 : BitVec 32 := BitVec.ofNat 32 (i 1).val
  let c1_i32 : BitVec 32 := 1#32
  let v0 : BitVec 32 := Scalar.subi arg1 c1_i32
  let c9_i32_11 : BitVec 32 := 9#32
  let v29 : BitVec 1 := Scalar.cmpi .eq v0 c9_i32_11
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi v18 c1_i32_6
  let c0_i32_7 : BitVec 32 := 0#32
  let c1_i32_8 : BitVec 32 := 1#32
  let v20 : BitVec 32 := Scalar.maxsi c0_i32_7 v19
  let v21 : BitVec 32 := Scalar.minsi c1_i32_8 v20
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v1 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let c0_i32_15 : BitVec 32 := 0#32
  let c0_i32_16 : BitVec 32 := 0#32
  ![v21.toNat, c0_i32_15.toNat, v31.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sgt arg1 c2_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c0_i32 : BitVec 32 := 0#32
  let v4 : BitVec 32 := Scalar.subi v3 c0_i32
  let c0_i32_0 : BitVec 32 := 0#32
  let c1_i32_1 : BitVec 32 := 1#32
  let v5 : BitVec 32 := Scalar.maxsi c0_i32_0 v4
  let v6 : BitVec 32 := Scalar.minsi c1_i32_1 v5
  let c1_i32_2 : BitVec 32 := 1#32
  let v7 : BitVec 32 := Scalar.addi arg0 c1_i32_2
  let v8 : BitVec 32 := Scalar.select v2 v7 arg0
  let c0_i32_3 : BitVec 32 := 0#32
  let v9 : BitVec 32 := Scalar.select v2 c0_i32_3 v6
  let c0_i32_4 : BitVec 32 := 0#32
  ![v8.toNat, v9.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sgt arg1 c4_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c2_i32 : BitVec 32 := 2#32
  let v4 : BitVec 32 := Scalar.subi v3 c2_i32
  let c0_i32 : BitVec 32 := 0#32
  let c1_i32_0 : BitVec 32 := 1#32
  let v5 : BitVec 32 := Scalar.maxsi c0_i32 v4
  let v6 : BitVec 32 := Scalar.minsi c1_i32_0 v5
  let c1_i32_1 : BitVec 32 := 1#32
  let v7 : BitVec 32 := Scalar.addi arg0 c1_i32_1
  let v8 : BitVec 32 := Scalar.select v2 v7 arg0
  let c0_i32_2 : BitVec 32 := 0#32
  let v9 : BitVec 32 := Scalar.select v2 c0_i32_2 v6
  let c0_i32_3 : BitVec 32 := 0#32
  ![v8.toNat, v9.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sgt arg1 c4_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c2_i32 : BitVec 32 := 2#32
  let v4 : BitVec 32 := Scalar.subi v3 c2_i32
  let c0_i32 : BitVec 32 := 0#32
  let c1_i32_0 : BitVec 32 := 1#32
  let v5 : BitVec 32 := Scalar.maxsi c0_i32 v4
  let v6 : BitVec 32 := Scalar.minsi c1_i32_0 v5
  let c1_i32_1 : BitVec 32 := 1#32
  let v7 : BitVec 32 := Scalar.addi arg0 c1_i32_1
  let v8 : BitVec 32 := Scalar.select v2 v7 arg0
  let c0_i32_2 : BitVec 32 := 0#32
  let v9 : BitVec 32 := Scalar.select v2 c0_i32_2 v6
  let c0_i32_3 : BitVec 32 := 0#32
  ![v8.toNat, v9.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sgt arg1 c6_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c4_i32 : BitVec 32 := 4#32
  let v4 : BitVec 32 := Scalar.subi v3 c4_i32
  let c0_i32 : BitVec 32 := 0#32
  let c1_i32_0 : BitVec 32 := 1#32
  let v5 : BitVec 32 := Scalar.maxsi c0_i32 v4
  let v6 : BitVec 32 := Scalar.minsi c1_i32_0 v5
  let c1_i32_1 : BitVec 32 := 1#32
  let v7 : BitVec 32 := Scalar.addi arg0 c1_i32_1
  let v8 : BitVec 32 := Scalar.select v2 v7 arg0
  let c0_i32_2 : BitVec 32 := 0#32
  let v9 : BitVec 32 := Scalar.select v2 c0_i32_2 v6
  let c0_i32_3 : BitVec 32 := 0#32
  ![v8.toNat, v9.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sgt arg1 c6_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c4_i32 : BitVec 32 := 4#32
  let v4 : BitVec 32 := Scalar.subi v3 c4_i32
  let c0_i32 : BitVec 32 := 0#32
  let c1_i32_0 : BitVec 32 := 1#32
  let v5 : BitVec 32 := Scalar.maxsi c0_i32 v4
  let v6 : BitVec 32 := Scalar.minsi c1_i32_0 v5
  let c1_i32_1 : BitVec 32 := 1#32
  let v7 : BitVec 32 := Scalar.addi arg0 c1_i32_1
  let v8 : BitVec 32 := Scalar.select v2 v7 arg0
  let c0_i32_2 : BitVec 32 := 0#32
  let v9 : BitVec 32 := Scalar.select v2 c0_i32_2 v6
  let c0_i32_3 : BitVec 32 := 0#32
  ![v8.toNat, v9.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sgt arg1 c8_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c6_i32 : BitVec 32 := 6#32
  let v4 : BitVec 32 := Scalar.subi v3 c6_i32
  let c0_i32 : BitVec 32 := 0#32
  let c1_i32_0 : BitVec 32 := 1#32
  let v5 : BitVec 32 := Scalar.maxsi c0_i32 v4
  let v6 : BitVec 32 := Scalar.minsi c1_i32_0 v5
  let c1_i32_1 : BitVec 32 := 1#32
  let v7 : BitVec 32 := Scalar.addi arg0 c1_i32_1
  let v8 : BitVec 32 := Scalar.select v2 v7 arg0
  let c0_i32_2 : BitVec 32 := 0#32
  let v9 : BitVec 32 := Scalar.select v2 c0_i32_2 v6
  let c0_i32_3 : BitVec 32 := 0#32
  ![v8.toNat, v9.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sgt arg1 c10_i32
  let c31_i32 : BitVec 32 := 31#32
  let v1 : BitVec 1 := Scalar.cmpi .slt arg0 c31_i32
  let v2 : BitVec 1 := Scalar.andi v0 v1
  let c1_i32 : BitVec 32 := 1#32
  let v3 : BitVec 32 := Scalar.subi arg1 c1_i32
  let c8_i32 : BitVec 32 := 8#32
  let v4 : BitVec 32 := Scalar.subi v3 c8_i32
  let c0_i32 : BitVec 32 := 0#32
  let c1_i32_0 : BitVec 32 := 1#32
  let v5 : BitVec 32 := Scalar.maxsi c0_i32 v4
  let v6 : BitVec 32 := Scalar.minsi c1_i32_0 v5
  let c1_i32_1 : BitVec 32 := 1#32
  let v7 : BitVec 32 := Scalar.addi arg0 c1_i32_1
  let v8 : BitVec 32 := Scalar.select v2 v7 arg0
  let c0_i32_2 : BitVec 32 := 0#32
  let v9 : BitVec 32 := Scalar.select v2 c0_i32_2 v6
  let c0_i32_3 : BitVec 32 := 0#32
  ![v8.toNat, v9.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel9Ideal.lean ====
variable {F : FTy → Type} [FloatOps F] [Named F]
def κ : String → Option EReal := fun
  | "log2_e" => some (((Real.log 2)⁻¹ : ℝ) : EReal)
  | _ => none
-- ==== Reference9Ideal.lean ====
abbrev S2x16384x2048 : Shape := ⟨3, ![2, 16384, 2048]⟩
abbrev S2048 : Shape := ⟨1, ![2048]⟩
abbrev S2048x5120 : Shape := ⟨2, ![2048, 5120]⟩
abbrev S2x1024 : Shape := ⟨2, ![2, 1024]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5120 : Shape := ⟨3, ![2, 16384, 5120]⟩
abbrev S2x16384x1024 : Shape := ⟨3, ![2, 16384, 1024]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩

abbrev nBuf : Space → Nat
  | .hbm => 158
  | .vmem => 0
  | .smem => 0
  | _ => 0

abbrev hbmTy0_0 (i : Nat) : BufTy := match i % 128 with
  | 0 => ⟨S2x16384x2048, .f32⟩
  | 1 => ⟨S2048, .f32⟩
  | 2 => ⟨S2048x5120, .f32⟩
  | 3 => ⟨S2x1024, .f32⟩
  | 4 => ⟨S2x16384x2048, .f32⟩
  | 5 => ⟨S_, .f32⟩
  | 6 => ⟨S2x16384, .f32⟩
  | 7 => ⟨S2x16384x1, .f32⟩
  | 8 => ⟨S_, .f32⟩
  | 9 => ⟨S2x16384x1, .f32⟩
  | 10 => ⟨S2x16384x1, .f32⟩
  | 11 => ⟨S_, .f32⟩
  | 12 => ⟨S2x16384x1, .f32⟩
  | 13 => ⟨S2x16384x1, .f32⟩
  | 14 => ⟨S2x16384x1, .f32⟩
  | 15 => ⟨S2x16384x2048, .f32⟩
  | 16 => ⟨S2x16384x2048, .f32⟩
  | 17 => ⟨S1x1x2048, .f32⟩
  | 18 => ⟨S2x16384x2048, .f32⟩
  | 19 => ⟨S2x16384x2048, .f32⟩
  | 20 => ⟨S2x16384x5120, .f32⟩
  | 21 => ⟨S2x16384x1024, .f32⟩
  | 22 => ⟨S2x16384x1024, .f32⟩
  | 23 => ⟨S2x16384x1024, .f32⟩
  | 24 => ⟨S2x16384x1024, .f32⟩
  | 25 => ⟨S2x16384x1024, .f32⟩
  | 26 => ⟨S2x16384x1024, .f32⟩
  | 27 => ⟨S2x16384x1024, .f32⟩
  | 28 => ⟨S_, .f32⟩
  | 29 => ⟨S2x16384x1024, .f32⟩
  | 30 => ⟨S2x16384x1024, .f32⟩
  | 31 => ⟨S_, .f32⟩
  | 32 => ⟨S2x16384x1024, .f32⟩
  | 33 => ⟨S2x16384x1024, .f32⟩
  | 34 => ⟨S2x16384x1024, .f32⟩
  | 35 => ⟨S_, .f32⟩
  | 36 => ⟨S2x16384x1024, .f32⟩
  | 37 => ⟨S2x16384x1024, .f32⟩
  | 38 => ⟨S1x1024, .f32⟩
  | 39 => ⟨S1024, .f32⟩
  | 40 => ⟨S1024, .f32⟩
  | 41 => ⟨S1024, .f32⟩
  | 42 => ⟨S1024, .f32⟩
  | 43 => ⟨S2x16384x1024, .f32⟩
  | 44 => ⟨S_, .f32⟩
  | 45 => ⟨S2x16384x1024, .f32⟩
  | 46 => ⟨S2x16384x1024, .f32⟩
  | 47 => ⟨S2x16384x1024, .f32⟩
  | 48 => ⟨S2x16384x1024, .f32⟩
  | 49 => ⟨S2x16384x1024, .i1⟩
  | 50 => ⟨S2x16384x1024, .f32⟩
  | 51 => ⟨S2x16384x1024, .f32⟩
  | 52 => ⟨S2x16384x1024, .f32⟩
  | 53 => ⟨S2x16384x1024, .f32⟩
  | 54 => ⟨S2x16384x1024, .f32⟩
  | 55 => ⟨S2x16384x1024, .f32⟩
  | 56 => ⟨S2x16384x1024, .f32⟩
  | 57 => ⟨S2x16384x1024, .f32⟩
  | 58 => ⟨S2x16384x1024, .f32⟩
  | 59 => ⟨S1x1x1024, .f32⟩
  | 60 => ⟨S2x16384x1024, .f32⟩
  | 61 => ⟨S2x16384x1024, .f32⟩
  | 62 => ⟨S1x1x1024, .f32⟩
  | 63 => ⟨S2x16384x1024, .f32⟩
  | 64 => ⟨S2x16384x1024, .f32⟩
  | 65 => ⟨S2x16384x1024, .f32⟩
  | 66 => ⟨S2x16384x1024, .f32⟩
  | 67 => ⟨S2x16384x1024, .i1⟩
  | 68 => ⟨S2x16384x1024, .f32⟩
  | 69 => ⟨S2x16384x1024, .f32⟩
  | 70 => ⟨S2x16384x1024, .f32⟩
  | 71 => ⟨S2x16384x1024, .f32⟩
  | 72 => ⟨S2x16384x1024, .f32⟩
  | 73 => ⟨S2x16384x1024, .f32⟩
  | 74 => ⟨S2x16384x1024, .f32⟩
  | 75 => ⟨S2x16384x1024, .f32⟩
  | 76 => ⟨S_, .f32⟩
  | 77 => ⟨S1024, .f32⟩
  | 78 => ⟨S1024, .f32⟩
  | 79 => ⟨S2x16384x1024, .f32⟩
  | 80 => ⟨S2x16384x1024, .f32⟩
  | 81 => ⟨S2x16384x1024, .f32⟩
  | 82 => ⟨S_, .f32⟩
  | 83 => ⟨S2x16384x1024, .f32⟩
  | 84 => ⟨S2x16384x1024, .f32⟩
  | 85 => ⟨S_, .f32⟩
  | 86 => ⟨S2x16384x1024, .f32⟩
  | 87 => ⟨S2x16384x1024, .f32⟩
  | 88 => ⟨S1x1x1024, .f32⟩
  | 89 => ⟨S2x16384x1024, .f32⟩
  | 90 => ⟨S2x16384x1024, .f32⟩
  | 91 => ⟨S1x1024, .f32⟩
  | 92 => ⟨S1024, .f32⟩
  | 93 => ⟨S1024, .f32⟩
  | 94 => ⟨S1024, .f32⟩
  | 95 => ⟨S1024, .f32⟩
  | 96 => ⟨S2x16384x1024, .f32⟩
  | 97 => ⟨S_, .f32⟩
  | 98 => ⟨S2x16384x1024, .f32⟩
  | 99 => ⟨S2x16384x1024, .f32⟩
  | 100 => ⟨S2x16384x1024, .f32⟩
  | 101 => ⟨S2x16384x1024, .f32⟩
  | 102 => ⟨S2x16384x1024, .i1⟩
  | 103 => ⟨S2x16384x1024, .f32⟩
  | 104 => ⟨S2x16384x1024, .f32⟩
  | 105 => ⟨S2x16384x1024, .f32⟩
  | 106 => ⟨S2x16384x1024, .f32⟩
  | 107 => ⟨S2x16384x1024, .f32⟩
  | 108 => ⟨S2x16384x1024, .f32⟩
  | 109 => ⟨S2x16384x1024, .f32⟩
  | 110 => ⟨S2x16384x1024, .f32⟩
  | 111 => ⟨S2x16384x1024, .f32⟩
  | 112 => ⟨S1x1x1024, .f32⟩
  | 113 => ⟨S2x16384x1024, .f32⟩
  | 114 => ⟨S2x16384x1024, .f32⟩
  | 115 => ⟨S1x1x1024, .f32⟩
  | 116 => ⟨S2x16384x1024, .f32⟩
  | 117 => ⟨S2x16384x1024, .f32⟩
  | 118 => ⟨S2x16384x1024, .f32⟩
  | 119 => ⟨S2x16384x1024, .f32⟩
  | 120 => ⟨S2x16384x1024, .i1⟩
  | 121 => ⟨S2x16384x1024, .f32⟩
  | 122 => ⟨S2x16384x1024, .f32⟩
  | 123 => ⟨S2x16384x1024, .f32⟩
  | 124 => ⟨S2x16384x1024, .f32⟩
  | 125 => ⟨S2x16384x1024, .f32⟩
  | 126 => ⟨S2x16384x1024, .f32⟩
  | 127 => ⟨S2x16384x1024, .f32⟩
  | _ => ⟨S2x16384x2048, .f32⟩

abbrev hbmTy0_1 (i : Nat) : BufTy := match i % 128 with
  | 0 => ⟨S2x16384x1024, .f32⟩
  | 1 => ⟨S_, .f32⟩
  | 2 => ⟨S1024, .f32⟩
  | 3 => ⟨S1024, .f32⟩
  | 4 => ⟨S2x16384x1024, .f32⟩
  | 5 => ⟨S2x16384x1024, .f32⟩
  | 6 => ⟨S2x16384x1024, .f32⟩
  | 7 => ⟨S_, .f32⟩
  | 8 => ⟨S2x16384x1024, .f32⟩
  | 9 => ⟨S2x16384x1024, .f32⟩
  | 10 => ⟨S_, .f32⟩
  | 11 => ⟨S2x16384x1024, .f32⟩
  | 12 => ⟨S2x16384x1024, .f32⟩
  | 13 => ⟨S1x1x1024, .f32⟩
  | 14 => ⟨S2x16384x1024, .f32⟩
  | 15 => ⟨S2x16384x1024, .f32⟩
  | 16 => ⟨S_, .f32⟩
  | 17 => ⟨S_, .f32⟩
  | 18 => ⟨S32768x1024, .f32⟩
  | 19 => ⟨S2x16384x1024, .f32⟩
  | 20 => ⟨S2x16384x1024, .f32⟩
  | 21 => ⟨S32768x1024, .f32⟩
  | 22 => ⟨S32768x1024, .f32⟩
  | 23 => ⟨S2x16384x1024, .f32⟩
  | 24 => ⟨S2x16384x1024, .f32⟩
  | 25 => ⟨S32768x1024, .f32⟩
  | 26 => ⟨S32768x1024, .f32⟩
  | 27 => ⟨S32768x1024, .f32⟩
  | 28 => ⟨S32768x1024, .bf16⟩
  | 29 => ⟨S32768x1024, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_3 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_cst_5 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_v0 : Ref sig .tc := ⟨.hbm, 96, rfl⟩
abbrev main_call2_call0_cst : Ref sig .tc := ⟨.hbm, 97, rfl⟩
abbrev main_call2_call0_v0 : Ref sig .tc := ⟨.hbm, 98, rfl⟩
abbrev main_call2_call0_v1 : Ref sig .tc := ⟨.hbm, 99, rfl⟩
abbrev main_call2_call0_v2 : Ref sig .tc := ⟨.hbm, 100, rfl⟩
abbrev main_call2_call0_v3 : Ref sig .tc := ⟨.hbm, 101, rfl⟩
abbrev main_call2_call0_v4 : Ref sig .tc := ⟨.hbm, 102, rfl⟩
abbrev main_call2_call0_v5 : Ref sig .tc := ⟨.hbm, 103, rfl⟩
abbrev main_call2_call0_v6 : Ref sig .tc := ⟨.hbm, 104, rfl⟩
abbrev main_call2_call0_v7 : Ref sig .tc := ⟨.hbm, 105, rfl⟩
abbrev main_call2_call0_v8 : Ref sig .tc := ⟨.hbm, 106, rfl⟩
abbrev main_call2_call0_v9 : Ref sig .tc := ⟨.hbm, 107, rfl⟩
abbrev main_call2_call0_v10 : Ref sig .tc := ⟨.hbm, 108, rfl⟩
abbrev main_call2_call0_v11 : Ref sig .tc := ⟨.hbm, 109, rfl⟩
abbrev main_call2_v1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_6 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_7 : Ref sig .tc := ⟨.hbm, 135, rfl⟩
abbrev main_v85 : Ref sig .tc := ⟨.hbm, 136, rfl⟩
abbrev main_v86 : Ref sig .tc := ⟨.hbm, 137, rfl⟩
abbrev main_cst_8 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_9 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩

abbrev nD : Nat := 1
abbrev τ : Topo := Topo.v7x

variable {F : FTy → Type} [FloatOps F]
-- ==== Proof.AttStage.lean ====
module

public import proofs.«01_k».proof.Proof.Gen.KernelIdeal.Skeleton
public import proofs.«01_k».proof.Proof.Gen.KernelIdeal.Loops
public import Idealize.ShloMosaic.Lib.VecWindow
public import Idealize.ShloMosaic.Lib.Pointwise

@[expose] public section
set_option maxRecDepth 16384
noncomputable section

/-! The stages of one grid point of the attention kernel, as functions of the point's blocks: the queries `Q`, the keys
`K` and the values `V`. A step `t` (0 ≤ t < 64) is query tile `t / 8` against the keys of group `t % 8`. -/

namespace Cert.Proof.Att
open Cert.KernelIdeal Cert.KernelIdeal.Gen
open Idealize.ShloMosaic

variable {F : FTy → Type} [FloatOps F]

/-- Query tile `n` of the block of queries. -/
def qrow (Q : Vec F S1x1x8x192x512 .bf16) (n : ℕ) : Vec F S1x1x1x192x512 .bf16 :=
  VecWindow.window (s := S1x1x8x192x512) Q ![0, 0, n % 8, 0, 0] S1x1x1x192x512.size (by
    have := Nat.mod_lt n (show 0 < 8 by omega)
    intro a; fin_cases a <;> simp [S1x1x8x192x512, S1x1x1x192x512] <;> omega)

/-- The 512 keys from row `512 * n` on. -/
def krow (K : Vec F S1x1x16384x192 .bf16) (n : ℕ) : Vec F S1x1x512x192 .bf16 :=
  VecWindow.window (s := S1x1x16384x192) K ![0, 0, n % 32 * 512, 0] S1x1x512x192.size (by
    have := Nat.mod_lt n (show 0 < 32 by omega)
    intro a; fin_cases a <;> simp [S1x1x16384x192, S1x1x512x192] <;> omega)

/-- Chunk `n` of the values, transposed as the kernel is given them. -/
def vchk (V : Vec F S1x1x32x128x512 .bf16) (n : ℕ) : Vec F S1x1x1x128x512 .bf16 :=
  VecWindow.window (s := S1x1x32x128x512) V ![0, 0, n % 32, 0, 0] S1x1x1x128x512.size (by
    have := Nat.mod_lt n (show 0 < 32 by omega)
    intro a; fin_cases a <;> simp [S1x1x32x128x512, S1x1x1x128x512] <;> omega)

/-- Slab `g` of a stack of four. -/
def slab {e : EltTy} (X : Vec F S4x512x512 e) (g : Fin 4) : Vec F S1x512x512 e := fun j => X (ix3 g (j 1) (j 2))

/-- Four slabs stacked. -/
def stack4 {e : EltTy} (x0 x1 x2 x3 : Vec F S1x512x512 e) : Vec F S4x512x512 e := fun j =>
  (![x0, x1, x2, x3] : Fin 4 → Vec F S1x512x512 e) (j 0) (ix3 (0 : Fin 1) (j 1) (j 2))

/-- A slab of a stack is the slab stacked there. -/
theorem slab_stack4 {e : EltTy} (x0 x1 x2 x3 : Vec F S1x512x512 e) (g : Fin 4) :
    slab (stack4 x0 x1 x2 x3) g = (![x0, x1, x2, x3] : Fin 4 → Vec F S1x512x512 e) g := by
  funext j
  refine congrArg ((![x0, x1, x2, x3] : Fin 4 → Vec F S1x512x512 e) g) (funext fun a => ?_)
  match a with
  | 0 => exact Subsingleton.elim (α := Fin 1) _ _
  | 1 => rfl
  | 2 => rfl

/-- The scores of step `t`, chunk `g` of its group. -/
def sc (Q : Vec F S1x1x8x192x512 .bf16) (K : Vec F S1x1x16384x192 .bf16) (t g : ℕ) : Vec F S1x512x512 .f32 :=
  k0_pay25 (qrow Q (t / 8)) (krow K (t % 8 * 4 + g))

/-- The largest score of step `t` in each column. -/
def mxs (Q : Vec F S1x1x8x192x512 .bf16) (K : Vec F S1x1x16384x192 .bf16) (t : ℕ) : Vec F S1x512 .f32 :=
  k0_pay73 (k0_pay33 (k0_pay23 (qrow Q (t / 8))) (k0_pay28 (qrow Q (t / 8)) (krow K (t % 8 * 4)) (krow K (t % 8 * 4 + 1)))
    (krow K (t % 8 * 4 + 2)) (krow K (t % 8 * 4 + 3)))

/-- A step's place in its query tile, as the kernel's word. -/
def zw (t : ℕ) : BitVec 32 := BitVec.ofNat 32 (t % 8)

/-- The running maximum and the running sum after `t` steps. -/
def ML (Q : Vec F S1x1x8x192x512 .bf16) (K : Vec F S1x1x16384x192 .bf16) : ℕ → Vec F S1x512 .f32 × Vec F S1x512 .f32
  | 0 => (broadcast S1x512 (Scalar.ofBits .f32 0x00000000#32), broadcast S1x512 (Scalar.ofBits .f32 0x00000000#32))
  | t + 1 =>
    (k0_pay22 (k0_pay9 (zw t) 0#32 (ML Q K t).1 (mxs Q K t)),
     k0_pay20 (k0_pay7 (zw t) 0#32 (ML Q K t).1) (k0_pay8 (zw t) 0#32 (ML Q K t).2) (k0_pay9 (zw t) 0#32 (ML Q K t).1 (mxs Q K t))
      (k0_pay13 (zw t) 0#32 (ML Q K t).1 (mxs Q K t) (sc Q K t 0) (sc Q K t 1)) (sc Q K t 2) (sc Q K t 3))

/-- The weights of step `t`, chunk `g` of its group. -/
def pw (Q : Vec F S1x1x8x192x512 .bf16) (K : Vec F S1x1x16384x192 .bf16) (t g : ℕ) : Vec F S1x512x512 .bf16 :=
  k0_pay11 (zw t) 0#32 (ML Q K t).1 (mxs Q K t) (sc Q K t g)

/-- What step `t` scales the earlier sums by. -/
def al (Q : Vec F S1x1x8x192x512 .bf16) (K : Vec F S1x1x16384x192 .bf16) (t : ℕ) : Vec F S1x512 .f32 :=
  k0_pay21 (k0_pay7 (zw t) 0#32 (ML Q K t).1) (k0_pay9 (zw t) 0#32 (ML Q K t).1 (mxs Q K t))

/-- The accumulator after `t` steps. -/
def acc (Q : Vec F S1x1x8x192x512 .bf16) (K : Vec F S1x1x16384x192 .bf16) (V : Vec F S1x1x32x128x512 .bf16) : ℕ → Vec F S128x512 .f32
  | 0 => k0_pay34
  | t + 1 => k0_pay5 (k0_pay2 (vchk V (t % 8 * 4)) (pw Q K t 0) (vchk V (t % 8 * 4 + 1)) (pw Q K t 1)) (k0_pay3 (vchk V (t % 8 * 4 + 2)) (pw Q K t 2))
      (vchk V (t % 8 * 4 + 3)) (pw Q K t 3) (al Q K t) (acc Q K V t)

/-- The rows step `t` writes. -/
def orow (Q : Vec F S1x1x8x192x512 .bf16) (K : Vec F S1x1x16384x192 .bf16) (V : Vec F S1x1x32x128x512 .bf16) (t : ℕ) : Vec F S1x512x128 .bf16 :=
  k0_pay6 (k0_pay2 (vchk V (t % 8 * 4)) (pw Q K t 0) (vchk V (t % 8 * 4 + 1)) (pw Q K t 1)) (k0_pay3 (vchk V (t % 8 * 4 + 2)) (pw Q K t 2))
      (vchk V (t % 8 * 4 + 3)) (pw Q K t 3) (al Q K t) (acc Q K V t) (ML Q K (t + 1)).2

/-- The block of results after `t` steps, from `o` at the start. -/
def outs (Q : Vec F S1x1x8x192x512 .bf16) (K : Vec F S1x1x16384x192 .bf16) (V : Vec F S1x1x32x128x512 .bf16) (o : Vec F S1x4096x128 .bf16) :
    ℕ → Vec F S1x4096x128 .bf16
  | 0 => o
  | t + 1 => VecWindow.put (s := S1x4096x128) (outs Q K V o t) ![0, t / 8 * 512, 0] S1x512x128.size (orow Q K V t)

/-- The whole block of results: tile `n` holds what the last step of tile `n` wrote. -/
def outF (Q : Vec F S1x1x8x192x512 .bf16) (K : Vec F S1x1x16384x192 .bf16) (V : Vec F S1x1x32x128x512 .bf16) : Vec F S1x4096x128 .bf16 := fun j =>
  orow Q K V ((j 1).val / 512 * 8 + 7) (ix3 (0 : Fin 1) (⟨(j 1).val % 512, Nat.mod_lt _ (by omega)⟩ : Fin 512) (j 2))

/-- After `t` steps the tiles begun hold their newest step's rows, the others what they held. -/
theorem outs_apply (Q : Vec F S1x1x8x192x512 .bf16) (K : Vec F S1x1x16384x192 .bf16) (V : Vec F S1x1x32x128x512 .bf16) (o : Vec F S1x4096x128 .bf16)
    (t : ℕ) (j : S1x4096x128.Idx) : outs Q K V o t j =
      if (j 1).val / 512 * 8 < t then
        orow Q K V (min (t - 1) ((j 1).val / 512 * 8 + 7)) (ix3 (0 : Fin 1) (⟨(j 1).val % 512, Nat.mod_lt _ (by omega)⟩ : Fin 512) (j 2))
      else o j := by
  induction t with
  | zero => simp [outs]
  | succ t ih =>
    have hj0 : (j 0).val = 0 := by have := (j 0).isLt; have e : S1x4096x128.size 0 = 1 := rfl; omega
    have hj2 : (j 2).val < 128 := (j 2).isLt
    show VecWindow.put (s := S1x4096x128) (outs Q K V o t) ![0, t / 8 * 512, 0] S1x512x128.size (orow Q K V t) j = _
    unfold VecWindow.put
    by_cases h : (j 1).val / 512 = t / 8
    · have hm : ∀ a : Fin 3, (![0, t / 8 * 512, 0] : Fin 3 → ℕ) a ≤ (j a).val ∧ (j a).val < (![0, t / 8 * 512, 0] : Fin 3 → ℕ) a + S1x512x128.size a := by
        intro a
        match a with
        | 0 => exact ⟨Nat.zero_le _, by show (j 0).val < 0 + 1; omega⟩
        | 1 => exact ⟨by show t / 8 * 512 ≤ (j 1).val; omega, by show (j 1).val < t / 8 * 512 + 512; omega⟩
        | 2 => exact ⟨Nat.zero_le _, by show (j 2).val < 0 + 128; omega⟩
      rw [dif_pos hm, if_pos (by omega), show min (t + 1 - 1) ((j 1).val / 512 * 8 + 7) = t by omega]
      refine congrArg (orow Q K V t) (funext fun a => Fin.ext ?_)
      match a with
      | 0 => show (j 0).val - 0 = 0; omega
      | 1 => show (j 1).val - t / 8 * 512 = (j 1).val % 512; omega
      | 2 => show (j 2).val - 0 = (j 2).val; omega
    · rw [dif_neg (fun hm => by
        have := hm 1
        have h1 : t / 8 * 512 ≤ (j 1).val := this.1
        have h2 : (j 1).val < t / 8 * 512 + 512 := this.2
        omega), ih]
      by_cases h' : (j 1).val / 512 * 8 < t
      · rw [if_pos h', if_pos (by omega), show min (t - 1) ((j 1).val / 512 * 8 + 7) = min (t + 1 - 1) ((j 1).val / 512 * 8 + 7) by omega]
      · rw [if_neg h', if_neg (by omega)]

/-- After all 64 steps every row is written, whatever the block held. -/
theorem outs_all (Q : Vec F S1x1x8x192x512 .bf16) (K : Vec F S1x1x16384x192 .bf16) (V : Vec F S1x1x32x128x512 .bf16) (o : Vec F S1x4096x128 .bf16) :
    outs Q K V o 64 = outF Q K V := by
  funext j
  have hj : (j 1).val < 4096 := (j 1).isLt
  rw [outs_apply, if_pos (by omega), show min (64 - 1) ((j 1).val / 512 * 8 + 7) = (j 1).val / 512 * 8 + 7 by omega]
  rfl

end Cert.Proof.Att
-- ==== Proof.AttTrip.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.AttStage

@[expose] public section
set_option maxRecDepth 16384
noncomputable section

/-! One trip of the attention kernel's loop takes the stages' state before step `k` to the state before step `k + 1`. -/

namespace Cert.Proof.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

theorem trips_eq : k0_t1_loop.trips = 62 := by decide +kernel
theorem off1_eq : ∀ k : Fin k0_t1_loop.trips, k0_off1 k = ![0, 0, (k.val % 8 * 4) % 32, 0, 0] := by decide +kernel
theorem off2_eq1 : ∀ k : Fin k0_t1_loop.trips, k0_off2 k 1#32 = ![0, 0, (k.val % 8 * 4 + 1) % 32, 0, 0] := by decide +kernel
theorem off2_eq2 : ∀ k : Fin k0_t1_loop.trips, k0_off2 k 2#32 = ![0, 0, (k.val % 8 * 4 + 2) % 32, 0, 0] := by decide +kernel
theorem off2_eq3 : ∀ k : Fin k0_t1_loop.trips, k0_off2 k 3#32 = ![0, 0, (k.val % 8 * 4 + 3) % 32, 0, 0] := by decide +kernel
theorem off3_eq : ∀ k : Fin k0_t1_loop.trips, k0_off3 k = ![0, k.val / 8 * 512, 0] := by decide +kernel
theorem off4_eq : ∀ k : Fin k0_t1_loop.trips, k0_off4 k = ![0, 0, (k.val + 1 + 1) / 8 % 8, 0, 0] := by decide +kernel
theorem off5_eq0 : ∀ k : Fin k0_t1_loop.trips, k0_off5 k 0#32 = ![0, 0, ((k.val + 1 + 1) % 8 * 4) % 32 * 512, 0] := by decide +kernel
theorem off5_eq1 : ∀ k : Fin k0_t1_loop.trips, k0_off5 k 1#32 = ![0, 0, ((k.val + 1 + 1) % 8 * 4 + 1) % 32 * 512, 0] := by decide +kernel
theorem off5_eq2 : ∀ k : Fin k0_t1_loop.trips, k0_off5 k 2#32 = ![0, 0, ((k.val + 1 + 1) % 8 * 4 + 2) % 32 * 512, 0] := by decide +kernel
theorem off5_eq3 : ∀ k : Fin k0_t1_loop.trips, k0_off5 k 3#32 = ![0, 0, ((k.val + 1 + 1) % 8 * 4 + 3) % 32 * 512, 0] := by decide +kernel
instance (k : Fin k0_t1_loop.trips) : ClosedOff (k0_off3 k) := ⟨_, off3_eq k⟩

/-- A load of slab `g`. -/
theorem rd_slab {sg : RefSig} {κ : Kind} {sp : Space} {e : EltTy} (v : View sg κ sp S4x512x512 e) (f : v.ty.Contents (Elt F)) (g : Fin 4)
    (inb : ∀ a, (![g.val, 0, 0] : Fin 3 → ℕ) a + S1x512x512.size a ≤ S4x512x512.size a) :
    v.readAt (Elt F) (Rect.unit (s := S4x512x512) ![g.val, 0, 0] S1x512x512.size inb).toLoadRect f = slab (v.read (Elt F) f) g := by
  funext j
  refine congrArg (v.read (Elt F) f) (funext fun a => Fin.ext ?_)
  match a with
  | 0 => show g.val + 1 * (j 0).val = g.val; have : (j 0).val < 1 := (j 0).isLt; omega
  | 1 => show 0 + 1 * (j 1).val = (j 1).val; omega
  | 2 => show 0 + 1 * (j 2).val = (j 2).val; omega

/-- Four stores, one per slab, leave the four payloads stacked. -/
theorem rd_stack {sg : RefSig} {κ : Kind} {sp : Space} {e : EltTy} (v : View sg κ sp S4x512x512 e) (f : v.ty.Contents (Elt F))
    (x0 x1 x2 x3 : Vec F S1x512x512 e)
    (i0 : ∀ a, (![0, 0, 0] : Fin 3 → ℕ) a + S1x512x512.size a ≤ S4x512x512.size a) (i1 : ∀ a, (![1, 0, 0] : Fin 3 → ℕ) a + S1x512x512.size a ≤ S4x512x512.size a)
    (i2 : ∀ a, (![2, 0, 0] : Fin 3 → ℕ) a + S1x512x512.size a ≤ S4x512x512.size a) (i3 : ∀ a, (![3, 0, 0] : Fin 3 → ℕ) a + S1x512x512.size a ≤ S4x512x512.size a) (L : _) :
    v.read (Elt F) (v.writes (Elt F) f (⟨Rect.unit (s := S4x512x512) ![3, 0, 0] S1x512x512.size i3, x3⟩ :: ⟨Rect.unit (s := S4x512x512) ![2, 0, 0] S1x512x512.size i2, x2⟩ ::
      ⟨Rect.unit (s := S4x512x512) ![1, 0, 0] S1x512x512.size i1, x1⟩ :: ⟨Rect.unit (s := S4x512x512) ![0, 0, 0] S1x512x512.size i0, x0⟩ :: L)) = stack4 x0 x1 x2 x3 := by
  funext j
  have hj : (j 0).val < 4 := (j 0).isLt
  have key : ∀ (g : Fin 4), (j 0).val = g.val → ∀ a : Fin 3, (j a).val = (![g.val, 0, 0] : Fin 3 → ℕ) a + ((ix3 (0 : Fin 1) (j 1) (j 2) : S1x512x512.Idx) a).val := by
    intro g hg a
    match a with
    | 0 => show (j 0).val = g.val + 0; omega
    | 1 => show (j 1).val = 0 + (j 1).val; omega
    | 2 => show (j 2).val = 0 + (j 2).val; omega
  have st : ∀ g : Fin 4, (j 0).val = g.val → stack4 x0 x1 x2 x3 j = (![x0, x1, x2, x3] : Fin 4 → Vec F S1x512x512 e) g (ix3 (0 : Fin 1) (j 1) (j 2)) := by
    intro g hg
    have : j 0 = g := Fin.ext hg
    unfold stack4; rw [this]
  obtain h | h | h | h : (j 0).val = 3 ∨ (j 0).val = 2 ∨ (j 0).val = 1 ∨ (j 0).val = 0 := by omega
  · rw [st 3 h]; exact View.read_writes_cons_unit_of_mem v f i3 x3 _ j (ix3 (0 : Fin 1) (j 1) (j 2)) rfl (key 3 h)
  · rw [st 2 h, View.read_writes_cons_unit_of_not_mem v f i3 x3 _ j rfl 0 (Or.inl (by show (j 0).val < 3; omega))]
    exact View.read_writes_cons_unit_of_mem v f i2 x2 _ j (ix3 (0 : Fin 1) (j 1) (j 2)) rfl (key 2 h)
  · rw [st 1 h, View.read_writes_cons_unit_of_not_mem v f i3 x3 _ j rfl 0 (Or.inl (by show (j 0).val < 3; omega)),
      View.read_writes_cons_unit_of_not_mem v f i2 x2 _ j rfl 0 (Or.inl (by show (j 0).val < 2; omega))]
    exact View.read_writes_cons_unit_of_mem v f i1 x1 _ j (ix3 (0 : Fin 1) (j 1) (j 2)) rfl (key 1 h)
  · rw [st 0 h, View.read_writes_cons_unit_of_not_mem v f i3 x3 _ j rfl 0 (Or.inl (by show (j 0).val < 3; omega)),
      View.read_writes_cons_unit_of_not_mem v f i2 x2 _ j rfl 0 (Or.inl (by show (j 0).val < 2; omega)),
      View.read_writes_cons_unit_of_not_mem v f i1 x1 _ j rfl 0 (Or.inl (by show (j 0).val < 1; omega))]
    exact View.read_writes_cons_unit_of_mem v f i0 x0 _ j (ix3 (0 : Fin 1) (j 1) (j 2)) rfl (key 0 h)

/-- The kernel's word for a step's place in its query tile. -/
theorem zw_eq : ∀ k : Fin k0_t1_loop.trips, Scalar.andi (Scalar.subi (Scf.iv k0_t1_loop.lb k0_t1_loop.st k) 1#32) 7#32 = zw (k.val + 1) := by decide +kernel

theorem rd_q {sg : RefSig} {κ : Kind} {sp : Space} (v : View sg κ sp S1x1x8x192x512 .bf16) (f : v.ty.Contents (Elt F)) (k : Fin k0_t1_loop.trips) :
    v.readAt (Elt F) (Rect.unit (s := S1x1x8x192x512) (k0_off4 k) S1x1x1x192x512.size (k0_off4_inb k)).toLoadRect f = qrow (v.read (Elt F) f) ((k.val + 1 + 1) / 8) := by
  exact (View.readAt_unit v f (k0_off4_inb k) (off4_eq k) (off4_eq k ▸ k0_off4_inb k)).trans rfl

theorem rd_k0 {sg : RefSig} {κ : Kind} {sp : Space} (v : View sg κ sp S1x1x16384x192 .bf16) (f : v.ty.Contents (Elt F)) (k : Fin k0_t1_loop.trips) :
    v.readAt (Elt F) (Rect.unit (s := S1x1x16384x192) (k0_off5 k 0#32) S1x1x512x192.size (k0_off5_inb k 0)).toLoadRect f = krow (v.read (Elt F) f) ((k.val + 1 + 1) % 8 * 4) := by
  exact (View.readAt_unit v f (k0_off5_inb k 0) (off5_eq0 k) (off5_eq0 k ▸ k0_off5_inb k 0)).trans rfl

theorem rd_k1 {sg : RefSig} {κ : Kind} {sp : Space} (v : View sg κ sp S1x1x16384x192 .bf16) (f : v.ty.Contents (Elt F)) (k : Fin k0_t1_loop.trips) :
    v.readAt (Elt F) (Rect.unit (s := S1x1x16384x192) (k0_off5 k 1#32) S1x1x512x192.size (k0_off5_inb k 1)).toLoadRect f = krow (v.read (Elt F) f) ((k.val + 1 + 1) % 8 * 4 + 1) := by
  exact (View.readAt_unit v f (k0_off5_inb k 1) (off5_eq1 k) (off5_eq1 k ▸ k0_off5_inb k 1)).trans rfl

theorem rd_k2 {sg : RefSig} {κ : Kind} {sp : Space} (v : View sg κ sp S1x1x16384x192 .bf16) (f : v.ty.Contents (Elt F)) (k : Fin k0_t1_loop.trips) :
    v.readAt (Elt F) (Rect.unit (s := S1x1x16384x192) (k0_off5 k 2#32) S1x1x512x192.size (k0_off5_inb k 2)).toLoadRect f = krow (v.read (Elt F) f) ((k.val + 1 + 1) % 8 * 4 + 2) := by
  exact (View.readAt_unit v f (k0_off5_inb k 2) (off5_eq2 k) (off5_eq2 k ▸ k0_off5_inb k 2)).trans rfl

theorem rd_k3 {sg : RefSig} {κ : Kind} {sp : Space} (v : View sg κ sp S1x1x16384x192 .bf16) (f : v.ty.Contents (Elt F)) (k : Fin k0_t1_loop.trips) :
    v.readAt (Elt F) (Rect.unit (s := S1x1x16384x192) (k0_off5 k 3#32) S1x1x512x192.size (k0_off5_inb k 3)).toLoadRect f = krow (v.read (Elt F) f) ((k.val + 1 + 1) % 8 * 4 + 3) := by
  exact (View.readAt_unit v f (k0_off5_inb k 3) (off5_eq3 k) (off5_eq3 k ▸ k0_off5_inb k 3)).trans rfl

theorem rd_v0 {sg : RefSig} {κ : Kind} {sp : Space} (v : View sg κ sp S1x1x32x128x512 .bf16) (f : v.ty.Contents (Elt F)) (k : Fin k0_t1_loop.trips) :
    v.readAt (Elt F) (Rect.unit (s := S1x1x32x128x512) (k0_off1 k) S1x1x1x128x512.size (k0_off1_inb k)).toLoadRect f = vchk (v.read (Elt F) f) (k.val % 8 * 4) := by
  exact (View.readAt_unit v f (k0_off1_inb k) (off1_eq k) (off1_eq k ▸ k0_off1_inb k)).trans rfl

theorem rd_v1 {sg : RefSig} {κ : Kind} {sp : Space} (v : View sg κ sp S1x1x32x128x512 .bf16) (f : v.ty.Contents (Elt F)) (k : Fin k0_t1_loop.trips) :
    v.readAt (Elt F) (Rect.unit (s := S1x1x32x128x512) (k0_off2 k 1#32) S1x1x1x128x512.size (k0_off2_inb k 0)).toLoadRect f = vchk (v.read (Elt F) f) (k.val % 8 * 4 + 1) := by
  exact (View.readAt_unit v f (k0_off2_inb k 0) (off2_eq1 k) (off2_eq1 k ▸ k0_off2_inb k 0)).trans rfl

theorem rd_v2 {sg : RefSig} {κ : Kind} {sp : Space} (v : View sg κ sp S1x1x32x128x512 .bf16) (f : v.ty.Contents (Elt F)) (k : Fin k0_t1_loop.trips) :
    v.readAt (Elt F) (Rect.unit (s := S1x1x32x128x512) (k0_off2 k 2#32) S1x1x1x128x512.size (k0_off2_inb k 1)).toLoadRect f = vchk (v.read (Elt F) f) (k.val % 8 * 4 + 2) := by
  exact (View.readAt_unit v f (k0_off2_inb k 1) (off2_eq2 k) (off2_eq2 k ▸ k0_off2_inb k 1)).trans rfl

theorem rd_v3 {sg : RefSig} {κ : Kind} {sp : Space} (v : View sg κ sp S1x1x32x128x512 .bf16) (f : v.ty.Contents (Elt F)) (k : Fin k0_t1_loop.trips) :
    v.readAt (Elt F) (Rect.unit (s := S1x1x32x128x512) (k0_off2 k 3#32) S1x1x1x128x512.size (k0_off2_inb k 2)).toLoadRect f = vchk (v.read (Elt F) f) (k.val % 8 * 4 + 3) := by
  exact (View.readAt_unit v f (k0_off2_inb k 2) (off2_eq3 k) (off2_eq3 k ▸ k0_off2_inb k 2)).trans rfl

/-- The kernel's buffers before step `k`'s last stage: the scores of step `k + 1`, the weights of step `k`, the sums of
the steps before. -/
def held (c : Dev nD) (arg3 : Memref sig .tc .vmem S1x1x8x192x512 .bf16) (arg4 : Memref sig .tc .vmem S1x1x16384x192 .bf16) (arg5 : Memref sig .tc .vmem S1x1x32x128x512 .bf16) (arg6 : Memref sig .tc .vmem S1x4096x128 .bf16) (arg7 : Memref sig .tc .vmem S4x512x512 .f32) (arg8 : Memref sig .tc .vmem S1x512 .f32) (arg9 : Memref sig .tc .vmem S4x512x512 .bf16) (arg10 : Memref sig .tc .vmem S1x512 .f32) (arg11 : Memref sig .tc .vmem S1x512 .f32) (arg12 : Memref sig .tc .vmem S1x512 .f32) (arg13 : Memref sig .tc .vmem S128x512 .f32) (Q : Vec F S1x1x8x192x512 .bf16) (K : Vec F S1x1x16384x192 .bf16)
    (V : Vec F S1x1x32x128x512 .bf16) (o : Vec F S1x4096x128 .bf16) (k : ℕ) : sProp 𝕄 :=
  iprop(owns (c : Thread nD τ) arg3 fullShare Q ∗ owns (c : Thread nD τ) arg4 fullShare K ∗ owns (c : Thread nD τ) arg5 fullShare V
    ∗ owns (c : Thread nD τ) arg6 fullShare (outs Q K V o k)
    ∗ owns (c : Thread nD τ) arg7 fullShare (stack4 (sc Q K (k + 1) 0) (sc Q K (k + 1) 1) (sc Q K (k + 1) 2) (sc Q K (k + 1) 3))
    ∗ owns (c : Thread nD τ) arg8 fullShare (mxs Q K (k + 1))
    ∗ owns (c : Thread nD τ) arg9 fullShare (stack4 (pw Q K k 0) (pw Q K k 1) (pw Q K k 2) (pw Q K k 3))
    ∗ owns (c : Thread nD τ) arg10 fullShare (al Q K k)
    ∗ owns (c : Thread nD τ) arg11 fullShare (ML Q K (k + 1)).1
    ∗ owns (c : Thread nD τ) arg12 fullShare (ML Q K (k + 1)).2
    ∗ owns (c : Thread nD τ) arg13 fullShare (acc Q K V k))

set_option maxHeartbeats 2000000 in
/-- One trip. -/
theorem trip (c : Dev nD) (i : grid0.Coords) (arg3 : Memref sig .tc .vmem S1x1x8x192x512 .bf16) (harg3 : arg3.IsWhole) (arg4 : Memref sig .tc .vmem S1x1x16384x192 .bf16) (harg4 : arg4.IsWhole) (arg5 : Memref sig .tc .vmem S1x1x32x128x512 .bf16) (harg5 : arg5.IsWhole) (arg6 : Memref sig .tc .vmem S1x4096x128 .bf16) (harg6 : arg6.IsWhole) (arg7 : Memref sig .tc .vmem S4x512x512 .f32) (harg7 : arg7.IsWhole) (arg8 : Memref sig .tc .vmem S1x512 .f32) (harg8 : arg8.IsWhole) (arg9 : Memref sig .tc .vmem S4x512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (v148 : FVec F S1x512 .f32)
    (k : Fin k0_t1_loop.trips) (Q : Vec F S1x1x8x192x512 .bf16) (K : Vec F S1x1x16384x192 .bf16) (V : Vec F S1x1x32x128x512 .bf16) (o : Vec F S1x4096x128 .bf16) :
    (held c arg3 arg4 arg5 arg6 arg7 arg8 arg9 arg10 arg11 arg12 arg13 Q K V o k : sProp 𝕄) ⊢
      wp frame (wpE defs₀ Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 v148 k ())
        (fun _ => held c arg3 arg4 arg5 arg6 arg7 arg8 arg9 arg10 arg11 arg12 arg13 Q K V o (k.val + 1)) := by
  unfold held owns k0_t1_body
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  sl_exec
  sl_step
  have eq := rd_q arg3.view f3 k; rw [h3] at eq
  have ek0 := rd_k0 arg4.view f4 k; rw [h4] at ek0
  have ek1 := rd_k1 arg4.view f4 k; rw [h4] at ek1
  have ek2 := rd_k2 arg4.view f4 k; rw [h4] at ek2
  have ek3 := rd_k3 arg4.view f4 k; rw [h4] at ek3
  have ev0 := rd_v0 arg5.view f5 k; rw [h5] at ev0
  have ev1 := rd_v1 arg5.view f5 k; rw [h5] at ev1
  have ev2 := rd_v2 arg5.view f5 k; rw [h5] at ev2
  have ev3 := rd_v3 arg5.view f5 k; rw [h5] at ev3
  have es0 : View.readAt (Elt F) arg7.view (Rect.unit (s := S4x512x512) ![0, 0, 0] S1x512x512.size inb_S4x512x512_S1x512x512_0_0_0).toLoadRect f7 = sc Q K (k.val + 1) 0 :=
    (rd_slab arg7.view f7 0 _).trans (by rw [h7, slab_stack4]; rfl)
  have es1 : View.readAt (Elt F) arg7.view (Rect.unit (s := S4x512x512) ![1, 0, 0] S1x512x512.size inb_S4x512x512_S1x512x512_1_0_0).toLoadRect f7 = sc Q K (k.val + 1) 1 :=
    (rd_slab arg7.view f7 1 _).trans (by rw [h7, slab_stack4]; rfl)
  have es2 : View.readAt (Elt F) arg7.view (Rect.unit (s := S4x512x512) ![2, 0, 0] S1x512x512.size inb_S4x512x512_S1x512x512_2_0_0).toLoadRect f7 = sc Q K (k.val + 1) 2 :=
    (rd_slab arg7.view f7 2 _).trans (by rw [h7, slab_stack4]; rfl)
  have es3 : View.readAt (Elt F) arg7.view (Rect.unit (s := S4x512x512) ![3, 0, 0] S1x512x512.size inb_S4x512x512_S1x512x512_3_0_0).toLoadRect f7 = sc Q K (k.val + 1) 3 :=
    (rd_slab arg7.view f7 3 _).trans (by rw [h7, slab_stack4]; rfl)
  have ep0 : View.readAt (Elt F) arg9.view (Rect.unit (s := S4x512x512) ![0, 0, 0] S1x512x512.size inb_S4x512x512_S1x512x512_0_0_0).toLoadRect f9 = pw Q K k.val 0 :=
    (rd_slab arg9.view f9 0 _).trans (by rw [h9, slab_stack4]; rfl)
  have ep1 : View.readAt (Elt F) arg9.view (Rect.unit (s := S4x512x512) ![1, 0, 0] S1x512x512.size inb_S4x512x512_S1x512x512_1_0_0).toLoadRect f9 = pw Q K k.val 1 :=
    (rd_slab arg9.view f9 1 _).trans (by rw [h9, slab_stack4]; rfl)
  have ep2 : View.readAt (Elt F) arg9.view (Rect.unit (s := S4x512x512) ![2, 0, 0] S1x512x512.size inb_S4x512x512_S1x512x512_2_0_0).toLoadRect f9 = pw Q K k.val 2 :=
    (rd_slab arg9.view f9 2 _).trans (by rw [h9, slab_stack4]; rfl)
  have ep3 : View.readAt (Elt F) arg9.view (Rect.unit (s := S4x512x512) ![3, 0, 0] S1x512x512.size inb_S4x512x512_S1x512x512_3_0_0).toLoadRect f9 = pw Q K k.val 3 :=
    (rd_slab arg9.view f9 3 _).trans (by rw [h9, slab_stack4]; rfl)
  have emx : View.readAt (Elt F) arg8.view (Rect.unit (s := S1x512) ![0, 0] S1x512.size inb_S1x512_S1x512_0_0).toLoadRect f8 = mxs Q K (k.val + 1) :=
    (View.readAt_full arg8.view f8 _).trans h8
  have eal : View.readAt (Elt F) arg10.view (Rect.unit (s := S1x512) ![0, 0] S1x512.size inb_S1x512_S1x512_0_0).toLoadRect f10 = al Q K k.val :=
    (View.readAt_full arg10.view f10 _).trans h10
  have em : View.readAt (Elt F) arg11.view (Rect.unit (s := S1x512) ![0, 0] S1x512.size inb_S1x512_S1x512_0_0).toLoadRect f11 = (ML Q K (k.val + 1)).1 :=
    (View.readAt_full arg11.view f11 _).trans h11
  have el : View.readAt (Elt F) arg12.view (Rect.unit (s := S1x512) ![0, 0] S1x512.size inb_S1x512_S1x512_0_0).toLoadRect f12 = (ML Q K (k.val + 1)).2 :=
    (View.readAt_full arg12.view f12 _).trans h12
  have eac : View.readAt (Elt F) arg13.view (Rect.unit (s := S128x512) ![0, 0] S128x512.size inb_S128x512_S128x512_0_0).toLoadRect f13 = acc Q K V k.val :=
    (View.readAt_full arg13.view f13 _).trans h13
  have ez : trip.sl.v362 k = zw (k.val + 1) := zw_eq k
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      refine (View.read_writes_cons_put arg6.view f6 (k0_off3_inb k) _ [] (off3_eq k)).trans ?_
      rw [View.writes_nil, h6]
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  isplitl [H7]
  · iexists _; isplitr [H7]; rotate_left
    · iexact H7
    · ipureintro
      refine (rd_stack _ _ _ _ _ _ _ _ _ _ _).trans ?_
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  isplitl [H8]
  · iexists _; isplitr [H8]; rotate_left
    · iexact H8
    · ipureintro
      refine (View.read_writes_full _ _ _ _ []).trans ?_
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  isplitl [H9]
  · iexists _; isplitr [H9]; rotate_left
    · iexact H9
    · ipureintro
      refine (rd_stack _ _ _ _ _ _ _ _ _ _ _).trans ?_
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  isplitl [H10]
  · iexists _; isplitr [H10]; rotate_left
    · iexact H10
    · ipureintro
      refine (View.read_writes_full _ _ _ _ []).trans ?_
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  isplitl [H11]
  · iexists _; isplitr [H11]; rotate_left
    · iexact H11
    · ipureintro
      refine (View.read_writes_full _ _ _ _ []).trans ?_
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  isplitl [H12]
  · iexists _; isplitr [H12]; rotate_left
    · iexact H12
    · ipureintro
      refine (View.read_writes_full _ _ _ _ []).trans ?_
      delta trip.sl.r trip.sl.r_1 trip.sl.r_2 trip.sl.r_3 trip.sl.r_4 trip.sl.r_5 trip.sl.r_6 trip.sl.r_7 trip.sl.r_8 trip.sl.r_9
      simp only [ez, eq, ek0, ek1, ek2, ek3, ev0, ev1, ev2, ev3, es0, es1, es2, es3, ep0, ep1, ep2, ep3, emx, eal, em, el, eac]
      rfl
  iexists _; isplitr [H13]; rotate_left
  · iexact H13
  · ipureintro
    refine (View.read_writes_full _ _ _ _ []).trans ?_
    delta trip.sl.r trip.sl.r_1 trip.sl.r_2 trip.sl.r_3 trip.sl.r_4 trip.sl.r_5 trip.sl.r_6 trip.sl.r_7 trip.sl.r_8 trip.sl.r_9
    simp only [ez, eq, ek0, ek1, ek2, ek3, ev0, ev1, ev2, ev3, es0, es1, es2, es3, ep0, ep1, ep2, ep3, emx, eal, em, el, eac]
    rfl

end Cert.Proof.Att
-- ==== Proof.AttBody.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.AttTrip

@[expose] public section
set_option maxRecDepth 16384
noncomputable section

/-! One grid point of the attention kernel: whatever the scratch held, the block of results is `outF` of the point's blocks. -/

namespace Cert.Proof.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

theorem rd_q0 {sg : RefSig} {κ : Kind} {sp : Space} (v : View sg κ sp S1x1x8x192x512 .bf16) (f : v.ty.Contents (Elt F)) :
    v.readAt (Elt F) (Rect.unit (s := S1x1x8x192x512) ![0, 0, 0, 0, 0] S1x1x1x192x512.size inb_S1x1x8x192x512_S1x1x1x192x512_0_0_0_0_0).toLoadRect f = qrow (v.read (Elt F) f) 0 := by
  exact (View.readAt_unit v f inb_S1x1x8x192x512_S1x1x1x192x512_0_0_0_0_0 rfl inb_S1x1x8x192x512_S1x1x1x192x512_0_0_0_0_0).trans rfl

theorem rd_kk0 {sg : RefSig} {κ : Kind} {sp : Space} (v : View sg κ sp S1x1x16384x192 .bf16) (f : v.ty.Contents (Elt F)) :
    v.readAt (Elt F) (Rect.unit (s := S1x1x16384x192) ![0, 0, 0, 0] S1x1x512x192.size inb_S1x1x16384x192_S1x1x512x192_0_0_0_0).toLoadRect f = krow (v.read (Elt F) f) 0 := by
  exact (View.readAt_unit v f inb_S1x1x16384x192_S1x1x512x192_0_0_0_0 rfl inb_S1x1x16384x192_S1x1x512x192_0_0_0_0).trans rfl

theorem rd_kk1 {sg : RefSig} {κ : Kind} {sp : Space} (v : View sg κ sp S1x1x16384x192 .bf16) (f : v.ty.Contents (Elt F)) :
    v.readAt (Elt F) (Rect.unit (s := S1x1x16384x192) ![0, 0, 512, 0] S1x1x512x192.size inb_S1x1x16384x192_S1x1x512x192_0_0_512_0).toLoadRect f = krow (v.read (Elt F) f) 1 := by
  exact (View.readAt_unit v f inb_S1x1x16384x192_S1x1x512x192_0_0_512_0 rfl inb_S1x1x16384x192_S1x1x512x192_0_0_512_0).trans rfl

theorem rd_kk2 {sg : RefSig} {κ : Kind} {sp : Space} (v : View sg κ sp S1x1x16384x192 .bf16) (f : v.ty.Contents (Elt F)) :
    v.readAt (Elt F) (Rect.unit (s := S1x1x16384x192) ![0, 0, 1024, 0] S1x1x512x192.size inb_S1x1x16384x192_S1x1x512x192_0_0_1024_0).toLoadRect f = krow (v.read (Elt F) f) 2 := by
  exact (View.readAt_unit v f inb_S1x1x16384x192_S1x1x512x192_0_0_1024_0 rfl inb_S1x1x16384x192_S1x1x512x192_0_0_1024_0).trans rfl

theorem rd_kk3 {sg : RefSig} {κ : Kind} {sp : Space} (v : View sg κ sp S1x1x16384x192 .bf16) (f : v.ty.Contents (Elt F)) :
    v.readAt (Elt F) (Rect.unit (s := S1x1x16384x192) ![0, 0, 1536, 0] S1x1x512x192.size inb_S1x1x16384x192_S1x1x512x192_0_0_1536_0).toLoadRect f = krow (v.read (Elt F) f) 3 := by
  exact (View.readAt_unit v f inb_S1x1x16384x192_S1x1x512x192_0_0_1536_0 rfl inb_S1x1x16384x192_S1x1x512x192_0_0_1536_0).trans rfl

theorem rd_kk4 {sg : RefSig} {κ : Kind} {sp : Space} (v : View sg κ sp S1x1x16384x192 .bf16) (f : v.ty.Contents (Elt F)) :
    v.readAt (Elt F) (Rect.unit (s := S1x1x16384x192) ![0, 0, 2048, 0] S1x1x512x192.size inb_S1x1x16384x192_S1x1x512x192_0_0_2048_0).toLoadRect f = krow (v.read (Elt F) f) 4 := by
  exact (View.readAt_unit v f inb_S1x1x16384x192_S1x1x512x192_0_0_2048_0 rfl inb_S1x1x16384x192_S1x1x512x192_0_0_2048_0).trans rfl

theorem rd_kk5 {sg : RefSig} {κ : Kind} {sp : Space} (v : View sg κ sp S1x1x16384x192 .bf16) (f : v.ty.Contents (Elt F)) :
    v.readAt (Elt F) (Rect.unit (s := S1x1x16384x192) ![0, 0, 2560, 0] S1x1x512x192.size inb_S1x1x16384x192_S1x1x512x192_0_0_2560_0).toLoadRect f = krow (v.read (Elt F) f) 5 := by
  exact (View.readAt_unit v f inb_S1x1x16384x192_S1x1x512x192_0_0_2560_0 rfl inb_S1x1x16384x192_S1x1x512x192_0_0_2560_0).trans rfl

theorem rd_kk6 {sg : RefSig} {κ : Kind} {sp : Space} (v : View sg κ sp S1x1x16384x192 .bf16) (f : v.ty.Contents (Elt F)) :
    v.readAt (Elt F) (Rect.unit (s := S1x1x16384x192) ![0, 0, 3072, 0] S1x1x512x192.size inb_S1x1x16384x192_S1x1x512x192_0_0_3072_0).toLoadRect f = krow (v.read (Elt F) f) 6 := by
  exact (View.readAt_unit v f inb_S1x1x16384x192_S1x1x512x192_0_0_3072_0 rfl inb_S1x1x16384x192_S1x1x512x192_0_0_3072_0).trans rfl

theorem rd_kk7 {sg : RefSig} {κ : Kind} {sp : Space} (v : View sg κ sp S1x1x16384x192 .bf16) (f : v.ty.Contents (Elt F)) :
    v.readAt (Elt F) (Rect.unit (s := S1x1x16384x192) ![0, 0, 3584, 0] S1x1x512x192.size inb_S1x1x16384x192_S1x1x512x192_0_0_3584_0).toLoadRect f = krow (v.read (Elt F) f) 7 := by
  exact (View.readAt_unit v f inb_S1x1x16384x192_S1x1x512x192_0_0_3584_0 rfl inb_S1x1x16384x192_S1x1x512x192_0_0_3584_0).trans rfl

theorem rd_vv24 {sg : RefSig} {κ : Kind} {sp : Space} (v : View sg κ sp S1x1x32x128x512 .bf16) (f : v.ty.Contents (Elt F)) :
    v.readAt (Elt F) (Rect.unit (s := S1x1x32x128x512) ![0, 0, 24, 0, 0] S1x1x1x128x512.size inb_S1x1x32x128x512_S1x1x1x128x512_0_0_24_0_0).toLoadRect f = vchk (v.read (Elt F) f) 24 := by
  exact (View.readAt_unit v f inb_S1x1x32x128x512_S1x1x1x128x512_0_0_24_0_0 rfl inb_S1x1x32x128x512_S1x1x1x128x512_0_0_24_0_0).trans rfl

theorem rd_vv25 {sg : RefSig} {κ : Kind} {sp : Space} (v : View sg κ sp S1x1x32x128x512 .bf16) (f : v.ty.Contents (Elt F)) :
    v.readAt (Elt F) (Rect.unit (s := S1x1x32x128x512) ![0, 0, 25, 0, 0] S1x1x1x128x512.size inb_S1x1x32x128x512_S1x1x1x128x512_0_0_25_0_0).toLoadRect f = vchk (v.read (Elt F) f) 25 := by
  exact (View.readAt_unit v f inb_S1x1x32x128x512_S1x1x1x128x512_0_0_25_0_0 rfl inb_S1x1x32x128x512_S1x1x1x128x512_0_0_25_0_0).trans rfl

theorem rd_vv26 {sg : RefSig} {κ : Kind} {sp : Space} (v : View sg κ sp S1x1x32x128x512 .bf16) (f : v.ty.Contents (Elt F)) :
    v.readAt (Elt F) (Rect.unit (s := S1x1x32x128x512) ![0, 0, 26, 0, 0] S1x1x1x128x512.size inb_S1x1x32x128x512_S1x1x1x128x512_0_0_26_0_0).toLoadRect f = vchk (v.read (Elt F) f) 26 := by
  exact (View.readAt_unit v f inb_S1x1x32x128x512_S1x1x1x128x512_0_0_26_0_0 rfl inb_S1x1x32x128x512_S1x1x1x128x512_0_0_26_0_0).trans rfl

theorem rd_vv27 {sg : RefSig} {κ : Kind} {sp : Space} (v : View sg κ sp S1x1x32x128x512 .bf16) (f : v.ty.Contents (Elt F)) :
    v.readAt (Elt F) (Rect.unit (s := S1x1x32x128x512) ![0, 0, 27, 0, 0] S1x1x1x128x512.size inb_S1x1x32x128x512_S1x1x1x128x512_0_0_27_0_0).toLoadRect f = vchk (v.read (Elt F) f) 27 := by
  exact (View.readAt_unit v f inb_S1x1x32x128x512_S1x1x1x128x512_0_0_27_0_0 rfl inb_S1x1x32x128x512_S1x1x1x128x512_0_0_27_0_0).trans rfl

theorem rd_vv28 {sg : RefSig} {κ : Kind} {sp : Space} (v : View sg κ sp S1x1x32x128x512 .bf16) (f : v.ty.Contents (Elt F)) :
    v.readAt (Elt F) (Rect.unit (s := S1x1x32x128x512) ![0, 0, 28, 0, 0] S1x1x1x128x512.size inb_S1x1x32x128x512_S1x1x1x128x512_0_0_28_0_0).toLoadRect f = vchk (v.read (Elt F) f) 28 := by
  exact (View.readAt_unit v f inb_S1x1x32x128x512_S1x1x1x128x512_0_0_28_0_0 rfl inb_S1x1x32x128x512_S1x1x1x128x512_0_0_28_0_0).trans rfl

theorem rd_vv29 {sg : RefSig} {κ : Kind} {sp : Space} (v : View sg κ sp S1x1x32x128x512 .bf16) (f : v.ty.Contents (Elt F)) :
    v.readAt (Elt F) (Rect.unit (s := S1x1x32x128x512) ![0, 0, 29, 0, 0] S1x1x1x128x512.size inb_S1x1x32x128x512_S1x1x1x128x512_0_0_29_0_0).toLoadRect f = vchk (v.read (Elt F) f) 29 := by
  exact (View.readAt_unit v f inb_S1x1x32x128x512_S1x1x1x128x512_0_0_29_0_0 rfl inb_S1x1x32x128x512_S1x1x1x128x512_0_0_29_0_0).trans rfl

theorem rd_vv30 {sg : RefSig} {κ : Kind} {sp : Space} (v : View sg κ sp S1x1x32x128x512 .bf16) (f : v.ty.Contents (Elt F)) :
    v.readAt (Elt F) (Rect.unit (s := S1x1x32x128x512) ![0, 0, 30, 0, 0] S1x1x1x128x512.size inb_S1x1x32x128x512_S1x1x1x128x512_0_0_30_0_0).toLoadRect f = vchk (v.read (Elt F) f) 30 := by
  exact (View.readAt_unit v f inb_S1x1x32x128x512_S1x1x1x128x512_0_0_30_0_0 rfl inb_S1x1x32x128x512_S1x1x1x128x512_0_0_30_0_0).trans rfl

theorem rd_vv31 {sg : RefSig} {κ : Kind} {sp : Space} (v : View sg κ sp S1x1x32x128x512 .bf16) (f : v.ty.Contents (Elt F)) :
    v.readAt (Elt F) (Rect.unit (s := S1x1x32x128x512) ![0, 0, 31, 0, 0] S1x1x1x128x512.size inb_S1x1x32x128x512_S1x1x1x128x512_0_0_31_0_0).toLoadRect f = vchk (v.read (Elt F) f) 31 := by
  exact (View.readAt_unit v f inb_S1x1x32x128x512_S1x1x1x128x512_0_0_31_0_0 rfl inb_S1x1x32x128x512_S1x1x1x128x512_0_0_31_0_0).trans rfl

/-- A buffer's contents, whatever they are. -/
theorem own_any (c : Dev nD) {s : Shape} {e : EltTy} (m : Memref sig .tc .vmem s e) (f : m.view.ty.Contents (Elt F)) :
    (iprop(View.loc (c : Thread nD τ) m.view ↦[m.view.set]{fullShare} f) : sProp 𝕄) ⊢
      iprop(∃ X f, ⌜View.read (Elt F) m.view f = X⌝ ∗ View.loc (c : Thread nD τ) m.view ↦[m.view.set]{fullShare} f) := by
  iintro H
  iexists (View.read (Elt F) m.view f)
  iexists f
  isplitr [H]
  · ipureintro; rfl
  · iexact H

/-- A slab read back after the four stores is the slab stored. -/
theorem cov_slab {sg : RefSig} {κ : Kind} {sp : Space} {e : EltTy} (v : View sg κ sp S4x512x512 e)
    (x0 x1 x2 x3 : Vec F S1x512x512 e) (g : Fin 4)
    (i0 : ∀ a, (![0, 0, 0] : Fin 3 → ℕ) a + S1x512x512.size a ≤ S4x512x512.size a) (i1 : ∀ a, (![1, 0, 0] : Fin 3 → ℕ) a + S1x512x512.size a ≤ S4x512x512.size a)
    (i2 : ∀ a, (![2, 0, 0] : Fin 3 → ℕ) a + S1x512x512.size a ≤ S4x512x512.size a) (i3 : ∀ a, (![3, 0, 0] : Fin 3 → ℕ) a + S1x512x512.size a ≤ S4x512x512.size a)
    (inb : ∀ a, (![g.val, 0, 0] : Fin 3 → ℕ) a + S1x512x512.size a ≤ S4x512x512.size a) :
    v.readCov [⟨Rect.unit (s := S4x512x512) ![3, 0, 0] S1x512x512.size i3, x3⟩, ⟨Rect.unit (s := S4x512x512) ![2, 0, 0] S1x512x512.size i2, x2⟩,
      ⟨Rect.unit (s := S4x512x512) ![1, 0, 0] S1x512x512.size i1, x1⟩, ⟨Rect.unit (s := S4x512x512) ![0, 0, 0] S1x512x512.size i0, x0⟩]
      (Rect.unit (s := S4x512x512) ![g.val, 0, 0] S1x512x512.size inb).toLoadRect = (![x0, x1, x2, x3] : Fin 4 → Vec F S1x512x512 e) g := by
  refine (rd_slab v _ g inb).trans ?_
  rw [rd_stack, slab_stack4]

set_option maxHeartbeats 4000000 in
/-- One grid point. -/
theorem body (c : Dev nD) (i : grid0.Coords) (arg3 : Memref sig .tc .vmem S1x1x8x192x512 .bf16) (harg3 : arg3.IsWhole) (arg4 : Memref sig .tc .vmem S1x1x16384x192 .bf16) (harg4 : arg4.IsWhole) (arg5 : Memref sig .tc .vmem S1x1x32x128x512 .bf16) (harg5 : arg5.IsWhole) (arg6 : Memref sig .tc .vmem S1x4096x128 .bf16) (harg6 : arg6.IsWhole) (arg7 : Memref sig .tc .vmem S4x512x512 .f32) (harg7 : arg7.IsWhole) (arg8 : Memref sig .tc .vmem S1x512 .f32) (harg8 : arg8.IsWhole) (arg9 : Memref sig .tc .vmem S4x512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole)
    (Q : Vec F S1x1x8x192x512 .bf16) (K : Vec F S1x1x16384x192 .bf16) (V : Vec F S1x1x32x128x512 .bf16) (Kont : PUnit → sProp 𝕄) :
    (iprop(iprop(owns (c : Thread nD τ) arg3 fullShare Q ∗ owns (c : Thread nD τ) arg4 fullShare K ∗ owns (c : Thread nD τ) arg5 fullShare V ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X)) ∗ (iprop(owns (c : Thread nD τ) arg3 fullShare Q ∗ owns (c : Thread nD τ) arg4 fullShare K ∗ owns (c : Thread nD τ) arg5 fullShare V ∗ owns (c : Thread nD τ) arg6 fullShare (outF Q K V) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X)) -∗ Kont ⟨⟩)) : sProp 𝕄) ⊢
      wp frame (wpE defs₀ Variants.none (c : Thread nD τ) none) Set.univ (cc0_mla_attention (F := F) i arg3 harg3 arg4 harg4 arg5 harg5 arg6 harg6 arg7 harg7 arg8 harg8 arg9 harg9 arg10 harg10 arg11 harg11 arg12 harg12 arg13 harg13)
        Kont := by
  simp only [cc0_mla_attention_eq_skeleton]
  unfold cc0_mla_attention_skel owns
  iintro ⟨⟨⟨%f3, %h3, H3⟩, ⟨%f4, %h4, H4⟩, ⟨%f5, %h5, H5⟩, ⟨%X6, %f6, %h6, H6⟩, ⟨%X7, %f7, %h7, H7⟩, ⟨%X8, %f8, %h8, H8⟩, ⟨%X9, %f9, %h9, H9⟩, ⟨%X10, %f10, %h10, H10⟩, ⟨%X11, %f11, %h11, H11⟩, ⟨%X12, %f12, %h12, H12⟩, ⟨%X13, %f13, %h13, H13⟩⟩, Hk⟩
  sl_exec
  sl_for (fun k _ => held c arg3 arg4 arg5 arg6 arg7 arg8 arg9 arg10 arg11 arg12 arg13 Q K V X6 k) $$ [H3 H4 H5 H6 H7 H8 H9 H10 H11 H12 H13]
  case region =>
    intro k _
    exact trip c i arg3 harg3 arg4 harg4 arg5 harg5 arg6 harg6 arg7 harg7 arg8 harg8 arg9 harg9 arg10 harg10 arg11 harg11 arg12 harg12 arg13 harg13 _ k Q K V X6
  · unfold held owns
    have eq0 := rd_q0 arg3.view f3; rw [h3] at eq0
    have ek0 := rd_kk0 arg4.view f4; rw [h4] at ek0
    have ek1 := rd_kk1 arg4.view f4; rw [h4] at ek1
    have ek2 := rd_kk2 arg4.view f4; rw [h4] at ek2
    have ek3 := rd_kk3 arg4.view f4; rw [h4] at ek3
    have ek4 := rd_kk4 arg4.view f4; rw [h4] at ek4
    have ek5 := rd_kk5 arg4.view f4; rw [h4] at ek5
    have ek6 := rd_kk6 arg4.view f4; rw [h4] at ek6
    have ek7 := rd_kk7 arg4.view f4; rw [h4] at ek7
    have es0 : body.sl.v52 c arg3 arg4 arg7 f3 f4 = sc Q K 0 0 := by
      delta body.sl.v52 body.sl.H7_4
      refine (cov_slab arg7.view _ _ _ _ 0 _ _ _ _ _).trans ?_
      delta body.sl.r_9 body.sl.r_8 body.sl.r_7 body.sl.r_2 body.sl.r_1 body.sl.r
      simp only [eq0, ek0, ek1, ek2, ek3]
      rfl
    have es1 : body.sl.v63 c arg3 arg4 arg7 f3 f4 = sc Q K 0 1 := by
      delta body.sl.v63 body.sl.H7_4
      refine (cov_slab arg7.view _ _ _ _ 1 _ _ _ _ _).trans ?_
      delta body.sl.r_9 body.sl.r_8 body.sl.r_7 body.sl.r_2 body.sl.r_1 body.sl.r
      simp only [eq0, ek0, ek1, ek2, ek3]
      rfl
    have es2 : body.sl.v75 c arg3 arg4 arg7 f3 f4 = sc Q K 0 2 := by
      delta body.sl.v75 body.sl.H7_4
      refine (cov_slab arg7.view _ _ _ _ 2 _ _ _ _ _).trans ?_
      delta body.sl.r_9 body.sl.r_8 body.sl.r_7 body.sl.r_2 body.sl.r_1 body.sl.r
      simp only [eq0, ek0, ek1, ek2, ek3]
      rfl
    have es3 : body.sl.v87 c arg3 arg4 arg7 f3 f4 = sc Q K 0 3 := by
      delta body.sl.v87 body.sl.H7_4
      refine (cov_slab arg7.view _ _ _ _ 3 _ _ _ _ _).trans ?_
      delta body.sl.r_9 body.sl.r_8 body.sl.r_7 body.sl.r_2 body.sl.r_1 body.sl.r
      simp only [eq0, ek0, ek1, ek2, ek3]
      rfl
    have emx : body.sl.v50 c arg3 arg4 arg8 f3 f4 = mxs Q K 0 := by
      delta body.sl.v50 body.sl.H8_1
      refine (View.readCov_full _ _ _ _ _).trans ?_
      delta body.sl.r_3 body.sl.r_4 body.sl.r_5 body.sl.r_6 body.sl.r_9 body.sl.r_8 body.sl.r_7 body.sl.r_2 body.sl.r_1 body.sl.r
      simp only [eq0, ek0, ek1, ek2, ek3]
      rfl
    isplitl [H3]
    · iexists _; isplitr [H3]; rotate_left
      · iexact H3
      · ipureintro
        exact h3
    isplitl [H4]
    · iexists _; isplitr [H4]; rotate_left
      · iexact H4
      · ipureintro
        exact h4
    isplitl [H5]
    · iexists _; isplitr [H5]; rotate_left
      · iexact H5
      · ipureintro
        exact h5
    isplitl [H6]
    · iexists _; isplitr [H6]; rotate_left
      · iexact H6
      · ipureintro
        exact h6
    isplitl [H7]
    · iexists _; isplitr [H7]; rotate_left
      · iexact H7
      · ipureintro
        delta body.sl.H7_8
        refine (rd_stack _ _ _ _ _ _ _ _ _ _ _).trans ?_
        delta body.sl.r_3 body.sl.r_4 body.sl.r_5 body.sl.r_6 body.sl.r_9 body.sl.r_8 body.sl.r_7 body.sl.r_2 body.sl.r_1 body.sl.r
        simp only [eq0, ek0, ek1, ek2, ek3, ek4, ek5, ek6, ek7, es0, es1, es2, es3, emx]
        rfl
    isplitl [H8]
    · iexists _; isplitr [H8]; rotate_left
      · iexact H8
      · ipureintro
        delta body.sl.H8_2
        refine (View.read_writes_full _ _ _ _ _).trans ?_
        delta body.sl.r_3 body.sl.r_4 body.sl.r_5 body.sl.r_6 body.sl.r_9 body.sl.r_8 body.sl.r_7 body.sl.r_2 body.sl.r_1 body.sl.r
        simp only [eq0, ek0, ek1, ek2, ek3, ek4, ek5, ek6, ek7, es0, es1, es2, es3, emx]
        rfl
    isplitl [H9]
    · iexists _; isplitr [H9]; rotate_left
      · iexact H9
      · ipureintro
        delta body.sl.H9_4
        refine (rd_stack _ _ _ _ _ _ _ _ _ _ _).trans ?_
        delta body.sl.r_3 body.sl.r_4 body.sl.r_5 body.sl.r_6 body.sl.r_9 body.sl.r_8 body.sl.r_7 body.sl.r_2 body.sl.r_1 body.sl.r
        simp only [eq0, ek0, ek1, ek2, ek3, ek4, ek5, ek6, ek7, es0, es1, es2, es3, emx]
        rfl
    isplitl [H10]
    · iexists _; isplitr [H10]; rotate_left
      · iexact H10
      · ipureintro
        delta body.sl.H10_1
        refine (View.read_writes_full _ _ _ _ _).trans ?_
        delta body.sl.r_3 body.sl.r_4 body.sl.r_5 body.sl.r_6 body.sl.r_9 body.sl.r_8 body.sl.r_7 body.sl.r_2 body.sl.r_1 body.sl.r
        simp only [eq0, ek0, ek1, ek2, ek3, ek4, ek5, ek6, ek7, es0, es1, es2, es3, emx]
        rfl
    isplitl [H11]
    · iexists _; isplitr [H11]; rotate_left
      · iexact H11
      · ipureintro
        delta body.sl.H11_1
        refine (View.read_writes_full _ _ _ _ _).trans ?_
        delta body.sl.r_3 body.sl.r_4 body.sl.r_5 body.sl.r_6 body.sl.r_9 body.sl.r_8 body.sl.r_7 body.sl.r_2 body.sl.r_1 body.sl.r
        simp only [eq0, ek0, ek1, ek2, ek3, ek4, ek5, ek6, ek7, es0, es1, es2, es3, emx]
        rfl
    isplitl [H12]
    · iexists _; isplitr [H12]; rotate_left
      · iexact H12
      · ipureintro
        delta body.sl.H12_1
        refine (View.read_writes_full _ _ _ _ _).trans ?_
        delta body.sl.r_3 body.sl.r_4 body.sl.r_5 body.sl.r_6 body.sl.r_9 body.sl.r_8 body.sl.r_7 body.sl.r_2 body.sl.r_1 body.sl.r
        simp only [eq0, ek0, ek1, ek2, ek3, ek4, ek5, ek6, ek7, es0, es1, es2, es3, emx]
        rfl
    iexists _; isplitr [H13]; rotate_left
    · iexact H13
    · ipureintro
      delta body.sl.H13_1
      refine (View.read_writes_full _ _ _ _ _).trans ?_
      rfl
  iintro %_ HI
  rw [show Scf.trips k0_t1_loop.lb k0_t1_loop.ub k0_t1_loop.st = 62 from trips_eq]
  unfold held owns
  icases HI with ⟨⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩⟩
  sl_exec
  sl_step
  have ev24 := rd_vv24 arg5.view g5; rw [e5] at ev24
  have ev25 := rd_vv25 arg5.view g5; rw [e5] at ev25
  have ev26 := rd_vv26 arg5.view g5; rw [e5] at ev26
  have ev27 := rd_vv27 arg5.view g5; rw [e5] at ev27
  have ev28 := rd_vv28 arg5.view g5; rw [e5] at ev28
  have ev29 := rd_vv29 arg5.view g5; rw [e5] at ev29
  have ev30 := rd_vv30 arg5.view g5; rw [e5] at ev30
  have ev31 := rd_vv31 arg5.view g5; rw [e5] at ev31
  have es0 : View.readAt (Elt F) arg7.view (Rect.unit (s := S4x512x512) ![0, 0, 0] S1x512x512.size inb_S4x512x512_S1x512x512_0_0_0).toLoadRect g7 = sc Q K 63 0 :=
    (rd_slab arg7.view g7 0 _).trans (by rw [e7, slab_stack4]; rfl)
  have es1 : View.readAt (Elt F) arg7.view (Rect.unit (s := S4x512x512) ![1, 0, 0] S1x512x512.size inb_S4x512x512_S1x512x512_1_0_0).toLoadRect g7 = sc Q K 63 1 :=
    (rd_slab arg7.view g7 1 _).trans (by rw [e7, slab_stack4]; rfl)
  have es2 : View.readAt (Elt F) arg7.view (Rect.unit (s := S4x512x512) ![2, 0, 0] S1x512x512.size inb_S4x512x512_S1x512x512_2_0_0).toLoadRect g7 = sc Q K 63 2 :=
    (rd_slab arg7.view g7 2 _).trans (by rw [e7, slab_stack4]; rfl)
  have es3 : View.readAt (Elt F) arg7.view (Rect.unit (s := S4x512x512) ![3, 0, 0] S1x512x512.size inb_S4x512x512_S1x512x512_3_0_0).toLoadRect g7 = sc Q K 63 3 :=
    (rd_slab arg7.view g7 3 _).trans (by rw [e7, slab_stack4]; rfl)
  have ep0 : View.readAt (Elt F) arg9.view (Rect.unit (s := S4x512x512) ![0, 0, 0] S1x512x512.size inb_S4x512x512_S1x512x512_0_0_0).toLoadRect g9 = pw Q K 62 0 :=
    (rd_slab arg9.view g9 0 _).trans (by rw [e9, slab_stack4]; rfl)
  have ep1 : View.readAt (Elt F) arg9.view (Rect.unit (s := S4x512x512) ![1, 0, 0] S1x512x512.size inb_S4x512x512_S1x512x512_1_0_0).toLoadRect g9 = pw Q K 62 1 :=
    (rd_slab arg9.view g9 1 _).trans (by rw [e9, slab_stack4]; rfl)
  have ep2 : View.readAt (Elt F) arg9.view (Rect.unit (s := S4x512x512) ![2, 0, 0] S1x512x512.size inb_S4x512x512_S1x512x512_2_0_0).toLoadRect g9 = pw Q K 62 2 :=
    (rd_slab arg9.view g9 2 _).trans (by rw [e9, slab_stack4]; rfl)
  have ep3 : View.readAt (Elt F) arg9.view (Rect.unit (s := S4x512x512) ![3, 0, 0] S1x512x512.size inb_S4x512x512_S1x512x512_3_0_0).toLoadRect g9 = pw Q K 62 3 :=
    (rd_slab arg9.view g9 3 _).trans (by rw [e9, slab_stack4]; rfl)
  have emx : View.readAt (Elt F) arg8.view (Rect.unit (s := S1x512) ![0, 0] S1x512.size inb_S1x512_S1x512_0_0).toLoadRect g8 = mxs Q K 63 :=
    (View.readAt_full arg8.view g8 _).trans e8
  have eal : View.readAt (Elt F) arg10.view (Rect.unit (s := S1x512) ![0, 0] S1x512.size inb_S1x512_S1x512_0_0).toLoadRect g10 = al Q K 62 :=
    (View.readAt_full arg10.view g10 _).trans e10
  have em : View.readAt (Elt F) arg11.view (Rect.unit (s := S1x512) ![0, 0] S1x512.size inb_S1x512_S1x512_0_0).toLoadRect g11 = (ML Q K 63).1 :=
    (View.readAt_full arg11.view g11 _).trans e11
  have el : View.readAt (Elt F) arg12.view (Rect.unit (s := S1x512) ![0, 0] S1x512.size inb_S1x512_S1x512_0_0).toLoadRect g12 = (ML Q K 63).2 :=
    (View.readAt_full arg12.view g12 _).trans e12
  have eac : View.readAt (Elt F) arg13.view (Rect.unit (s := S128x512) ![0, 0] S128x512.size inb_S128x512_S128x512_0_0).toLoadRect g13 = acc Q K V 62 :=
    (View.readAt_full arg13.view g13 _).trans e13
  have eq0 : body.sl.v264 c arg7 arg8 arg9 arg11 g7 g8 g11 = pw Q K 63 0 := by
    delta body.sl.v264 body.sl.H9_4_1
    refine (cov_slab arg9.view _ _ _ _ 0 _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  have eq1 : body.sl.v269 c arg7 arg8 arg9 arg11 g7 g8 g11 = pw Q K 63 1 := by
    delta body.sl.v269 body.sl.H9_4_1
    refine (cov_slab arg9.view _ _ _ _ 1 _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  have eq2 : body.sl.v275 c arg7 arg8 arg9 arg11 g7 g8 g11 = pw Q K 63 2 := by
    delta body.sl.v275 body.sl.H9_4_1
    refine (cov_slab arg9.view _ _ _ _ 2 _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  have eq3 : body.sl.v281 c arg7 arg8 arg9 arg11 g7 g8 g11 = pw Q K 63 3 := by
    delta body.sl.v281 body.sl.H9_4_1
    refine (cov_slab arg9.view _ _ _ _ 3 _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  have eal' : body.sl.v285 c arg8 arg10 arg11 g8 g11 = al Q K 63 := by
    delta body.sl.v285 body.sl.H10_1_1
    refine (View.readCov_full _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  have eac' : body.sl.v286 c arg5 arg9 arg10 arg13 g5 g9 g10 g13 = acc Q K V 63 := by
    delta body.sl.v286 body.sl.H13_1_1
    refine (View.readCov_full _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  have el' : body.sl.v293 c arg7 arg8 arg11 arg12 g7 g8 g11 g12 = (ML Q K 64).2 := by
    delta body.sl.v293 body.sl.H12_1_1
    refine (View.readCov_full _ _ _ _ _).trans ?_
    delta body.sl.r_10 body.sl.r_11 body.sl.r_12 body.sl.r_13 body.sl.r_14 body.sl.r_15
    simp only [ev24, ev25, ev26, ev27, ev28, ev29, ev30, ev31, es0, es1, es2, es3, ep0, ep1, ep2, ep3, emx, eal, em, el, eac]
    rfl
  iapply Hk
  isplitl [H3]
  · iexists _; isplitr [H3]; rotate_left
    · iexact H3
    · ipureintro
      exact e3
  isplitl [H4]
  · iexists _; isplitr [H4]; rotate_left
    · iexact H4
    · ipureintro
      exact e4
  isplitl [H5]
  · iexists _; isplitr [H5]; rotate_left
    · iexact H5
    · ipureintro
      exact e5
  isplitl [H6]
  · iexists _; isplitr [H6]; rotate_left
    · iexact H6
    · ipureintro
      refine (View.read_writes_cons_put arg6.view g6 inb_S1x4096x128_S1x512x128_0_3584_0 _ _ rfl).trans ?_
      rw [View.read_writes_cons_put arg6.view g6 inb_S1x4096x128_S1x512x128_0_3584_0 _ [] rfl, View.writes_nil, e6]
      delta body.sl.r_10 body.sl.r_11 body.sl.r_12 body.sl.r_13 body.sl.r_14 body.sl.r_15 body.sl.r_16 body.sl.r_17
      simp only [ev24, ev25, ev26, ev27, ev28, ev29, ev30, ev31, es0, es1, es2, es3, ep0, ep1, ep2, ep3, emx, eal, em, el, eac, eq0, eq1, eq2, eq3, eal', eac', el']
      rw [← outs_all Q K V X6]
      rfl
  isplitl [H7]
  · iapply (own_any c arg7 _); iexact H7
  isplitl [H8]
  · iapply (own_any c arg8 _); iexact H8
  isplitl [H9]
  · iapply (own_any c arg9 _); iexact H9
  isplitl [H10]
  · iapply (own_any c arg10 _); iexact H10
  isplitl [H11]
  · iapply (own_any c arg11 _); iexact H11
  isplitl [H12]
  · iapply (own_any c arg12 _); iexact H12
  iapply (own_any c arg13 _); iexact H13
end Cert.Proof.Att
-- ==== Proof.AttRun.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.AttBody
public import Idealize.ShloMosaic.Lib.Pipeline.Frame

@[expose] public section
set_option maxRecDepth 16384
noncomputable section

/-! The launch: every grid point's block of results is `outF` of the point's blocks of queries, keys and values. -/

namespace Cert.Proof.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem
variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The scratch between grid points: owned, at whatever contents. -/
theorem phi_eq (c : Dev nD) :
    (Pipeline.ΦA spec0 c : sProp 𝕄)
      = iprop(iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) ∗ (∃ r, prngReg c r)) := by
  unfold Pipeline.ΦA; rw [scopedRest0_eq]; simp only [owns_whole]; try rfl

/-- The launch's data: the inputs' blocks stay, the results' block becomes `outF` of them. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => outF (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outF (iblk m c 0 t) (iblk m c 1 t) (iblk m c 2 t) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- The region's call of the kernel is the kernel on the point's buffers. -/
theorem defs₀_row (t : Fin cfg0.N) : defs₀ (F := F) .tc cfg0.body (cfg0.bodyArgs t (cfg0.slots t)) = bodyAt0 t := by
  unfold defs₀; rw [Defs.onTc_tc]

set_option backward.isDefEq.respectTransparency.types false in
/-- Every grid point does what the launch's data say. -/
theorem body_obligation (c : Dev nD) : BodyObligation (dats (F := F) m 0 c) (defs₀ (F := F)) Variants.none () Set.univ := fun t => by
  rw [bigSep_W0, bigSep_W0]
  dsimp only
  simp only [before0, before1, before2, after0, after1, after2, after3]
  rw [show (dats m 0 c).Φ t.succ = (dats m 0 c).Φ t.castSucc from rfl, show (dats m 0 c).Φ t.castSucc = Pipeline.ΦA spec0 c from rfl, phi_eq]
  unfold Dat.owesAt Pipeline.owesWithin
  rw [show (dats m 0 c).owed t.castSucc = 0 from rfl, show (dats m 0 c).owed t.succ = 0 from rfl]
  sl_rw [defs₀_row t]
  iintro ⟨⟨⟨HS0, HS1, HS2, HS3, HS4, HS5, HS6⟩, Hg⟩, ⟨%W, %hW, HO⟩, ⟨%d0, H0⟩, ⟨%d1, H1⟩, ⟨%d2, H2⟩, ⟨%d3, H3⟩⟩
  iapply (body c (grid0.coords t) _ _ _ _ _ _ _ _ _ _ _ _ _ _ _ _ _ _ _ _ _ _ (iblk m c 0 t) (iblk m c 1 t) (iblk m c 2 t) _)
  isplitl [H0 H1 H2 H3 HS0 HS1 HS2 HS3 HS4 HS5 HS6]
  · isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro ⟨H0, H1, H2, H3, HS0, HS1, HS2, HS3, HS4, HS5, HS6⟩
  isplitl [Hg HS0 HS1 HS2 HS3 HS4 HS5 HS6]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [HO]
  · iexists W; isplitr; · ipureintro; exact fun _ _ => Or.inl trivial
    iexact HO
  isplitl [H0]; · iexact H0
  isplitl [H1]; · iexact H1
  isplitl [H2]; · iexact H2
  iexact H3

set_option backward.isDefEq.respectTransparency.types false in
/-- Every run of @main ends, the array of results at the blocks the launch's data say, the rest as launched, every counter
at zero. -/
theorem run_main :
    θ_run defs (onTc (τ := τ) (main (F := F))) (s₀ m ρ) (fun r => Pipeline.FramePost cfgs (dats m) 0 (V m) r ∧ r.2.sem = fun _ => 0) :=
  Pipeline.θ_run_frame cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

end Cert.Proof.Att
-- ==== Proof.AttMath.lean ====
module

public import Idealize.ShloMosaic.PureOps.Ideal.Laws
public import Idealize.ShloMosaic.Lib.IdealHost
public import Mathlib.Data.EReal.Operations
public import Mathlib.Algebra.BigOperators.Fin

@[expose] public section
noncomputable section

/-! A softmax computed online, over the extended reals: finite scores `s k` of the keys `k`, and any values. A running
state holds some finite reference point `M`, the sum of the weights `2 ^ (s k - M)` of the keys seen, and the sums of the
values by these weights; what it holds after the last key, divided, does not depend on `M`. -/

namespace Cert.Proof.Att
open Idealize.ShloMosaic
open scoped BigOperators

/-- The weight of key `k` against the reference point `M`. -/
def wt (s : ℕ → ℝ) (M : ℝ) (k : ℕ) : ℝ := (2 : ℝ) ^ (s k - M)

/-- The softmax weight of key `k` among `n` keys. -/
def smx (s : ℕ → ℝ) (n k : ℕ) : ℝ := (2 : ℝ) ^ s k / ∑ i ∈ Finset.range n, (2 : ℝ) ^ s i

theorem wt_pos (s : ℕ → ℝ) (M : ℝ) (k : ℕ) : 0 < wt s M k := Real.rpow_pos_of_pos (by norm_num) _

/-- A weight moved from one reference point to another. -/
theorem wt_move (s : ℕ → ℝ) (M M' : ℝ) (k : ℕ) : (2 : ℝ) ^ (M - M') * wt s M k = wt s M' k := by
  unfold wt
  rw [← Real.rpow_add (by norm_num)]
  congr 1; ring

/-- Weights divided by their sum are the softmax weights, whatever the reference point. -/
theorem wt_div (s : ℕ → ℝ) (M : ℝ) (n k : ℕ) : wt s M k / ∑ i ∈ Finset.range n, wt s M i = smx s n k := by
  have h (i : ℕ) : wt s M i = (2 : ℝ) ^ s i * (2 : ℝ) ^ (-M) := by
    unfold wt; rw [← Real.rpow_add (by norm_num)]; congr 1
  have hp : (2 : ℝ) ^ (-M) ≠ 0 := (Real.rpow_pos_of_pos (by norm_num) _).ne'
  unfold smx
  rw [h k, Finset.sum_congr rfl fun i _ => h i, ← Finset.sum_mul, mul_div_mul_right _ _ hp]

theorem sum_wt_pos (s : ℕ → ℝ) (M : ℝ) {n : ℕ} (hn : 0 < n) : 0 < ∑ i ∈ Finset.range n, wt s M i :=
  Finset.sum_pos (fun i _ => wt_pos s M i) ⟨0, Finset.mem_range.2 hn⟩

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A factor that is a real not below zero passes into a sum of extended reals. -/
theorem coe_mul_sum {ι : Type} (t : Finset ι) (c : ℝ) (hc : 0 ≤ c) (f : ι → EReal) : (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (EReal.coe_nonneg.2 hc) (EReal.coe_ne_top c), ih]

theorem sub_coe (a b : ℝ) : (a : EReal) - (b : EReal) = ((a - b : ℝ) : EReal) := (EReal.coe_sub a b).symm

theorem exp2_coe (a : ℝ) : Ideal.exp2 (a : EReal) = (((2 : ℝ) ^ a : ℝ) : EReal) := rfl

theorem exp_coe (a : ℝ) : Ideal.exp (a : EReal) = ((Real.exp a : ℝ) : EReal) := rfl

/-- The weight, as the kernel computes it. -/
theorem exp2_sub (s : ℕ → ℝ) (M : ℝ) (k : ℕ) : Ideal.exp2 ((s k : EReal) - (M : EReal)) = (wt s M k : EReal) := by
  rw [sub_coe, exp2_coe]; rfl

/-- The quotient of two reals, the divisor above zero, is theirs. -/
theorem div_coe (a : ℝ) {b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The running state after the first `n` keys: the reference point, the sum of the weights, and the weighted sums of each
family of values. -/
def Inv {ι : Type} (s : ℕ → ℝ) (v : ι → ℕ → EReal) (n : ℕ) (m l : EReal) (a : ι → EReal) : Prop :=
  ∃ M : ℝ, m = (M : EReal) ∧ l = ((∑ k ∈ Finset.range n, wt s M k : ℝ) : EReal)
    ∧ ∀ d, a d = ∑ k ∈ Finset.range n, v d k * (wt s M k : EReal)

/-- One more group of keys at a state, its largest score `μ` joining the reference point. -/
theorem Inv.step {ι : Type} {s : ℕ → ℝ} {v : ι → ℕ → EReal} {n : ℕ} {m l : EReal} {a : ι → EReal} (h : Inv s v n m l a)
    (N : ℕ) (μ : ℝ) :
    Inv s v (n + N) (max m μ)
      (Ideal.exp2 (m - max m μ) * l + ∑ k ∈ Finset.range N, Ideal.exp2 ((s (n + k) : EReal) - max m μ))
      (fun d => Ideal.exp2 (m - max m μ) * a d + ∑ k ∈ Finset.range N, v d (n + k) * Ideal.exp2 ((s (n + k) : EReal) - max m μ)) := by
  obtain ⟨M, rfl, rfl, ha⟩ := h
  have hm : max (M : EReal) (μ : EReal) = ((max M μ : ℝ) : EReal) := (EReal.coe_strictMono.monotone.map_max).symm
  rw [hm]
  refine ⟨max M μ, rfl, ?_, fun d => ?_⟩
  · rw [sub_coe, exp2_coe, ← EReal.coe_mul, Finset.sum_congr rfl fun k _ => exp2_sub s (max M μ) (n + k), ← coe_sum, ← EReal.coe_add,
      Finset.mul_sum, Finset.sum_congr rfl fun k _ => wt_move s M (max M μ) k, Finset.sum_range_add]
  · show Ideal.exp2 _ * a d + _ = _
    rw [ha d, sub_coe, exp2_coe, coe_mul_sum _ _ (Real.rpow_pos_of_pos (by norm_num) _).le, Finset.sum_range_add]
    congr 1
    · refine Finset.sum_congr rfl fun k _ => ?_
      rw [mul_left_comm, ← EReal.coe_mul, wt_move]

/-- The first group of keys: the state before it is `-∞` and zero, and the sums held before are forgotten. -/
theorem Inv.first {ι : Type} (s : ℕ → ℝ) (v : ι → ℕ → EReal) (N : ℕ) (μ : ℝ) (a : ι → EReal) :
    Inv s v N (max ⊥ (μ : EReal))
      (Ideal.exp2 (⊥ - max ⊥ (μ : EReal)) * 0 + ∑ k ∈ Finset.range N, Ideal.exp2 ((s k : EReal) - max ⊥ (μ : EReal)))
      (fun d => Ideal.exp2 (⊥ - max ⊥ (μ : EReal)) * a d + ∑ k ∈ Finset.range N, v d k * Ideal.exp2 ((s k : EReal) - max ⊥ (μ : EReal))) := by
  rw [max_eq_right bot_le]
  refine ⟨μ, rfl, ?_, fun d => ?_⟩
  · rw [mul_zero, zero_add, Finset.sum_congr rfl fun k _ => exp2_sub s μ k, ← coe_sum]
  · show Ideal.exp2 _ * a d + _ = _
    rw [EReal.bot_sub, show Ideal.exp2 ⊥ = 0 from rfl, zero_mul, zero_add]
    exact Finset.sum_congr rfl fun k _ => by rw [exp2_sub]

/-- The state divided: each family of values summed by the softmax weights. -/
theorem Inv.out {ι : Type} {s : ℕ → ℝ} {v : ι → ℕ → EReal} {n : ℕ} {m l : EReal} {a : ι → EReal} (h : Inv s v n m l a)
    (hn : 0 < n) (d : ι) : a d * Ideal.div 1 l = ∑ k ∈ Finset.range n, v d k * (smx s n k : EReal) := by
  obtain ⟨M, rfl, rfl, ha⟩ := h
  have hp := sum_wt_pos s M hn
  rw [ha d, show (1 : EReal) = ((1 : ℝ) : EReal) from rfl, div_coe 1 hp, mul_comm, coe_mul_sum _ _ (by positivity)]
  refine Finset.sum_congr rfl fun k _ => ?_
  rw [mul_left_comm, ← EReal.coe_mul, one_div_mul_eq_div, wt_div]

/-- The plain softmax: the scores `s k * log 2` less any finite reference point, their exponentials divided by their sum. -/
theorem plain_out (s : ℕ → ℝ) (v : ℕ → EReal) {n : ℕ} (hn : 0 < n) (M : ℝ) :
    ∑ k ∈ Finset.range n, v k * Ideal.div (Ideal.exp (((s k * Real.log 2 : ℝ) : EReal) - (M : EReal)))
        (0 + ∑ i ∈ Finset.range n, Ideal.exp (((s i * Real.log 2 : ℝ) : EReal) - (M : EReal)))
      = ∑ k ∈ Finset.range n, v k * (smx s n k : EReal) := by
  have hl : Real.log 2 ≠ 0 := (Real.log_pos (by norm_num)).ne'
  have h (k : ℕ) : Ideal.exp (((s k * Real.log 2 : ℝ) : EReal) - (M : EReal)) = (wt s (M / Real.log 2) k : EReal) := by
    rw [sub_coe, exp_coe]; unfold wt
    rw [Real.rpow_def_of_pos (by norm_num)]
    congr 2; field_simp
  refine Finset.sum_congr rfl fun k _ => ?_
  rw [h k, Finset.sum_congr rfl fun i _ => h i, ← coe_sum, zero_add, div_coe _ (sum_wt_pos s _ hn), wt_div]

/-- Four sums over 512 keys each are one over 2048. -/
theorem sum_four (f : ℕ → EReal) (n : ℕ) :
    ((∑ r : Fin 512, f (n + r.val) + ∑ r : Fin 512, f (n + 512 + r.val)) + ∑ r : Fin 512, f (n + 1024 + r.val)) + ∑ r : Fin 512, f (n + 1536 + r.val)
      = ∑ k ∈ Finset.range 2048, f (n + k) := by
  rw [show 2048 = 512 + 512 + 512 + 512 from rfl, Finset.sum_range_add, Finset.sum_range_add, Finset.sum_range_add]
  simp only [Finset.sum_range, ← add_assoc]

/-- A real score times a positive real is the score of scaled operands. -/
theorem dot_scale {n : ℕ} (x y : Fin n → EReal) (c : ℝ) (hc : 0 ≤ c) : ∑ e, x e * (y e * (c : EReal)) = (c : EReal) * ∑ e, x e * y e := by
  rw [coe_mul_sum _ _ hc]
  exact Finset.sum_congr rfl fun e _ => by rw [← mul_assoc, mul_comm]

/-- A product of reals summed is a real. -/
theorem dot_coe {n : ℕ} (x y : Fin n → ℝ) : ∑ e, (x e : EReal) * (y e : EReal) = ((∑ e, x e * y e : ℝ) : EReal) := by
  rw [coe_sum]; exact Finset.sum_congr rfl fun e _ => (EReal.coe_mul _ _).symm

/-- The largest of finitely many reals, over at least one, is a real. -/
theorem fold_max_coe {ι : Type} (t : Finset ι) (ht : t.Nonempty) (f : ι → ℝ) : ∃ μ : ℝ, t.fold max ⊥ (fun i => (f i : EReal)) = (μ : EReal) := by
  classical
  induction ht using Finset.Nonempty.cons_induction with
  | singleton a => exact ⟨f a, by rw [Finset.fold_singleton, max_eq_left bot_le]⟩
  | cons a t ha ht ih =>
    obtain ⟨μ, h⟩ := ih
    exact ⟨max (f a) μ, by rw [Finset.fold_cons, h]; exact (EReal.coe_strictMono.monotone.map_max).symm⟩

/-- The larger of two reals is a real. -/
theorem max_coe (a b : ℝ) : max (a : EReal) (b : EReal) = ((max a b : ℝ) : EReal) := (EReal.coe_strictMono.monotone.map_max).symm

/-- The word of `-∞`. -/
theorem ofBits_neg_inf : Ideal.ofBits .f32 0xFF800000#32 = ⊥ := by simp [Ideal.ofBits, Ideal.ieee]

/-- The word of `+∞`. -/
theorem ofBits_inf : Ideal.ofBits .f32 0x7F800000#32 = ⊤ := by simp [Ideal.ofBits, Ideal.ieee]

/-- The word of two. -/
theorem ofBits_two : Ideal.ofBits .f32 0x40000000#32 = ((2 : ℝ) : EReal) := by
  simp [Ideal.ofBits, Ideal.ieee]
  rw [← EReal.coe_mul]; norm_num

/-- The score's scale, `192 ^ (-1/2)` as a 32-bit float. -/
def scl : ℝ := 4843165 / 67108864

theorem ofBits_scl : Ideal.ofBits .f32 0x3D93CD3A#32 = (scl : EReal) := by
  simp [Ideal.ofBits, Ideal.ieee, scl]
  rw [← EReal.coe_mul]; norm_num

theorem scl_pos : 0 < scl := by unfold scl; norm_num

end Cert.Proof.Att
end
-- ==== Proof.AttValue.lean ====
module

public import proofs.«01_k».proof.Proof.AttStage
public import proofs.«01_k».proof.Proof.AttMath
public import Idealize.ShloMosaic.Lib.Pointwise

@[expose] public section
set_option maxRecDepth 16384
noncomputable section

/-! The stages of a grid point of the attention kernel, read at an index over the extended reals, and what they come to:
the values summed by the softmax weights. -/

namespace Cert.Proof.Att
open Cert.KernelIdeal Cert.KernelIdeal.Gen
open Idealize.ShloMosaic

variable (Q : Vec Ideal S1x1x8x192x512 .bf16) (K : Vec Ideal S1x1x16384x192 .bf16) (V : Vec Ideal S1x1x32x128x512 .bf16)

theorem lin (a b : ℕ) : a + 1 * b = a + b := by rw [Nat.one_mul]
theorem lin0 (b : ℕ) : 0 + 1 * b = b := by rw [Nat.one_mul, Nat.zero_add]

/-- A query tile at an index. -/
theorem qrow_apply (n : ℕ) (hn : n < 8) (e : Fin 192) (x : Fin 512) :
    qrow Q n (ix5 0 0 0 e x) = Q (ix5 0 0 ⟨n, hn⟩ e x) := by
  refine congrArg Q (funext fun a => Fin.ext ?_)
  rw [Rect.emb_apply]
  match a with
  | 0 => rfl
  | 1 => rfl
  | 2 => exact (lin _ 0).trans (Nat.mod_eq_of_lt hn)
  | 3 => exact lin0 _
  | 4 => exact lin0 _

/-- Keys at an index. -/
theorem krow_apply (n : ℕ) (hn : n < 32) (r : Fin 512) (e : Fin 192) :
    krow K n (ix4 0 0 r e) = K (ix4 0 0 ⟨n * 512 + r.val, by have := r.isLt; omega⟩ e) := by
  refine congrArg K (funext fun a => Fin.ext ?_)
  rw [Rect.emb_apply]
  match a with
  | 0 => rfl
  | 1 => rfl
  | 2 => exact (lin (n % 32 * 512) r.val).trans (congrArg (· * 512 + r.val) (Nat.mod_eq_of_lt hn))
  | 3 => exact lin0 _

/-- A chunk of the values at an index. -/
theorem vchk_apply (n : ℕ) (hn : n < 32) (d : Fin 128) (r : Fin 512) :
    vchk V n (ix5 0 0 0 d r) = V (ix5 0 0 ⟨n, hn⟩ d r) := by
  refine congrArg V (funext fun a => Fin.ext ?_)
  rw [Rect.emb_apply]
  match a with
  | 0 => rfl
  | 1 => rfl
  | 2 => exact (lin _ 0).trans (Nat.mod_eq_of_lt hn)
  | 3 => exact lin0 _
  | 4 => exact lin0 _

/-- A score is the dot product of a key and a query. -/
theorem sc_apply (t g : ℕ) (r x : Fin 512) :
    sc Q K t g (ix3 0 r x) = ∑ e : Fin 192, krow K (t % 8 * 4 + g) (ix4 0 0 r e) * qrow Q (t / 8) (ix5 0 0 0 e x) := by
  unfold sc
  pointwise [k0_pay25, k0_pay24, k0_pay23]

/-- The largest score of a step is that of its four groups. -/
theorem mxs_apply (t : ℕ) (x : Fin 512) : mxs Q K t (ix2 0 x) =
    max (max (max (Finset.univ.fold max ⊥ fun r : Fin 512 => sc Q K t 0 (ix3 0 r x)) (Finset.univ.fold max ⊥ fun r : Fin 512 => sc Q K t 1 (ix3 0 r x)))
      (Finset.univ.fold max ⊥ fun r : Fin 512 => sc Q K t 2 (ix3 0 r x))) (Finset.univ.fold max ⊥ fun r : Fin 512 => sc Q K t 3 (ix3 0 r x)) := by
  simp only [sc_apply]
  unfold mxs
  pointwise [k0_pay73, k0_pay33, k0_pay31, k0_pay29, k0_pay28, k0_pay26, k0_pay24, k0_pay23]
  rw [ofBits_neg_inf]

/-- The test for a tile's first step. -/
theorem sel_zw {α : Type} (t : ℕ) (a b : α) :
    Scalar.select (Scalar.cmpi CmpIPredicate.eq (zw t) 0#32) a b = if t % 8 = 0 then a else b := by
  have h8 : t % 8 < 8 := Nat.mod_lt _ (by omega)
  unfold zw
  generalize t % 8 = z at h8
  interval_cases z <;> rfl

/-- The maximum a step begins with. -/
def mIn (t : ℕ) (x : Fin 512) : EReal := if t % 8 = 0 then ⊥ else (ML Q K t).1 (ix2 0 x)

/-- The maximum after a step. -/
theorem ML_fst (t : ℕ) (x : Fin 512) : (ML Q K (t + 1)).1 (ix2 0 x) = max (mIn Q K t x) (mxs Q K t (ix2 0 x)) := by
  show k0_pay22 (k0_pay9 (zw t) 0#32 (ML Q K t).1 (mxs Q K t)) (ix2 0 x) = _
  pointwise [k0_pay22, k0_pay9, k0_pay7]
  rw [ofBits_neg_inf, sel_zw]
  rfl

/-- The sum after a step. -/
theorem ML_snd (t : ℕ) (x : Fin 512) : (ML Q K (t + 1)).2 (ix2 0 x) =
    Ideal.exp2 (mIn Q K t x - max (mIn Q K t x) (mxs Q K t (ix2 0 x))) * (if t % 8 = 0 then 0 else (ML Q K t).2 (ix2 0 x))
      + (((∑ r : Fin 512, Ideal.exp2 (sc Q K t 0 (ix3 0 r x) - max (mIn Q K t x) (mxs Q K t (ix2 0 x)))
        + ∑ r : Fin 512, Ideal.exp2 (sc Q K t 1 (ix3 0 r x) - max (mIn Q K t x) (mxs Q K t (ix2 0 x))))
        + ∑ r : Fin 512, Ideal.exp2 (sc Q K t 2 (ix3 0 r x) - max (mIn Q K t x) (mxs Q K t (ix2 0 x))))
        + ∑ r : Fin 512, Ideal.exp2 (sc Q K t 3 (ix3 0 r x) - max (mIn Q K t x) (mxs Q K t (ix2 0 x)))) := by
  show k0_pay20 (k0_pay7 (zw t) 0#32 (ML Q K t).1) (k0_pay8 (zw t) 0#32 (ML Q K t).2) (k0_pay9 (zw t) 0#32 (ML Q K t).1 (mxs Q K t))
      (k0_pay13 (zw t) 0#32 (ML Q K t).1 (mxs Q K t) (sc Q K t 0) (sc Q K t 1)) (sc Q K t 2) (sc Q K t 3) (ix2 0 x) = _
  pointwise [k0_pay20, k0_pay19, k0_pay17, k0_pay15, k0_pay13, k0_pay12, k0_pay10, k0_pay9, k0_pay8, k0_pay7]
  simp only [ofBits_neg_inf, sel_zw, Ideal.ofBits_zero_f32]
  unfold mIn
  by_cases h : t % 8 = 0
  · simp only [h, if_true, mul_zero]; rfl
  · simp only [h, if_false]; rfl

/-- The weights of a step. -/
theorem pw_apply (t g : ℕ) (r x : Fin 512) :
    pw Q K t g (ix3 0 r x) = Ideal.exp2 (sc Q K t g (ix3 0 r x) - max (mIn Q K t x) (mxs Q K t (ix2 0 x))) := by
  unfold pw
  pointwise [k0_pay11, k0_pay10, k0_pay9, k0_pay7]
  simp only [ofBits_neg_inf, sel_zw]
  rfl

/-- What a step scales the earlier sums by. -/
theorem al_apply (t : ℕ) (x : Fin 512) : al Q K t (ix2 0 x) = Ideal.exp2 (mIn Q K t x - max (mIn Q K t x) (mxs Q K t (ix2 0 x))) := by
  unfold al
  pointwise [k0_pay21, k0_pay19, k0_pay9, k0_pay7]
  simp only [ofBits_neg_inf, sel_zw]
  rfl

/-- The accumulator after a step. -/
theorem acc_apply (t : ℕ) (d : Fin 128) (x : Fin 512) : acc Q K V (t + 1) (ix2 d x) =
    al Q K t (ix2 0 x) * acc Q K V t (ix2 d x)
      + (((∑ r : Fin 512, vchk V (t % 8 * 4) (ix5 0 0 0 d r) * pw Q K t 0 (ix3 0 r x)
        + ∑ r : Fin 512, vchk V (t % 8 * 4 + 1) (ix5 0 0 0 d r) * pw Q K t 1 (ix3 0 r x))
        + ∑ r : Fin 512, vchk V (t % 8 * 4 + 2) (ix5 0 0 0 d r) * pw Q K t 2 (ix3 0 r x))
        + ∑ r : Fin 512, vchk V (t % 8 * 4 + 3) (ix5 0 0 0 d r) * pw Q K t 3 (ix3 0 r x)) := by
  show k0_pay5 _ _ _ _ _ _ (ix2 d x) = _
  pointwise [k0_pay5, k0_pay4, k0_pay2, k0_pay3]

/-- The rows a step writes: the accumulator after it over the sum after it. -/
theorem orow_apply (t : ℕ) (d : Fin 128) (x : Fin 512) :
    orow Q K V t (ix3 0 x d) = acc Q K V (t + 1) (ix2 d x) * Ideal.div 1 ((ML Q K (t + 1)).2 (ix2 0 x)) := by
  rw [acc_apply]
  unfold orow
  pointwise [k0_pay6, k0_pay4, k0_pay2, k0_pay3]

/-- The values a column of the results weighs. -/
def vcol (d : Fin 128) (k : ℕ) : EReal := V (ix5 0 0 ⟨k / 512 % 32, Nat.mod_lt _ (by omega)⟩ d ⟨k % 512, Nat.mod_lt _ (by omega)⟩)

variable {Q K}

/-- One step of a tile whose scores are the reals `s`: the state after it, from the state before. -/
theorem one_step (n : ℕ) (x : Fin 512) (s : ℕ → ℝ) (c : ℕ) (hc : c < 8)
    (hs : ∀ g, g < 4 → ∀ r : Fin 512, sc Q K (n * 8 + c) g (ix3 0 r x) = (s (c * 2048 + g * 512 + r.val) : EReal)) :
    ∃ μ : ℝ, (ML Q K (n * 8 + c + 1)).1 (ix2 0 x) = max (mIn Q K (n * 8 + c) x) (μ : EReal)
      ∧ (ML Q K (n * 8 + c + 1)).2 (ix2 0 x) =
        Ideal.exp2 (mIn Q K (n * 8 + c) x - max (mIn Q K (n * 8 + c) x) (μ : EReal)) * (if c = 0 then 0 else (ML Q K (n * 8 + c)).2 (ix2 0 x))
          + ∑ k ∈ Finset.range 2048, Ideal.exp2 ((s (c * 2048 + k) : EReal) - max (mIn Q K (n * 8 + c) x) (μ : EReal))
      ∧ ∀ d, acc Q K V (n * 8 + c + 1) (ix2 d x) =
        Ideal.exp2 (mIn Q K (n * 8 + c) x - max (mIn Q K (n * 8 + c) x) (μ : EReal)) * acc Q K V (n * 8 + c) (ix2 d x)
          + ∑ k ∈ Finset.range 2048, vcol V d (c * 2048 + k) * Ideal.exp2 ((s (c * 2048 + k) : EReal) - max (mIn Q K (n * 8 + c) x) (μ : EReal)) := by
  have hμ : ∃ μ : ℝ, mxs Q K (n * 8 + c) (ix2 0 x) = (μ : EReal) := by
    have hf : ∀ g, g < 4 → ∃ μ : ℝ, (Finset.univ.fold max ⊥ fun r : Fin 512 => sc Q K (n * 8 + c) g (ix3 0 r x)) = (μ : EReal) := by
      intro g hg
      obtain ⟨μ, h⟩ := fold_max_coe (Finset.univ : Finset (Fin 512)) ⟨0, Finset.mem_univ _⟩ fun r => s (c * 2048 + g * 512 + r.val)
      exact ⟨μ, by rw [← h]; exact congrArg (fun f => Finset.univ.fold max ⊥ f) (funext fun r => hs g hg r)⟩
    obtain ⟨a, ha⟩ := hf 0 (by omega)
    obtain ⟨b, hb⟩ := hf 1 (by omega)
    obtain ⟨e, he⟩ := hf 2 (by omega)
    obtain ⟨f, hf⟩ := hf 3 (by omega)
    exact ⟨max (max (max a b) e) f, by rw [mxs_apply, ha, hb, he, hf, max_coe, max_coe, max_coe]⟩
  obtain ⟨μ, hμ⟩ := hμ
  have ht : (n * 8 + c) % 8 = c := by omega
  have hv : ∀ g, g < 4 → ∀ d (r : Fin 512), vchk V (c * 4 + g) (ix5 0 0 0 d r) = vcol V d (c * 2048 + g * 512 + r.val) := by
    intro g hg d r
    have hr := r.isLt
    rw [vchk_apply V _ (by omega)]
    exact congrArg₂ (fun a b => V (ix5 0 0 a d b)) (Fin.ext (by show c * 4 + g = (c * 2048 + g * 512 + r.val) / 512 % 32; omega))
      (Fin.ext (by show r.val = (c * 2048 + g * 512 + r.val) % 512; omega))
  have hE : ∀ g, g < 4 → ∀ r : Fin 512, sc Q K (n * 8 + c) g (ix3 0 r x) - max (mIn Q K (n * 8 + c) x) (mxs Q K (n * 8 + c) (ix2 0 x))
      = (s (c * 2048 + g * 512 + r.val) : EReal) - max (mIn Q K (n * 8 + c) x) (μ : EReal) := fun g hg r => by rw [hs g hg r, hμ]
  refine ⟨μ, by rw [ML_fst, hμ], ?_, fun d => ?_⟩
  · rw [ML_snd, ht, hμ]
    refine congrArg (HAdd.hAdd (α := EReal) (β := EReal) (γ := EReal) _) ?_
    rw [← sum_four (fun k => Ideal.exp2 ((s k : EReal) - max (mIn Q K (n * 8 + c) x) (μ : EReal))) (c * 2048)]
    rw [← hμ]
    refine congrArg₂ (· + ·) (congrArg₂ (· + ·) (congrArg₂ (· + ·) ?_ ?_) ?_) ?_ <;> refine Finset.sum_congr rfl fun r _ => congrArg Ideal.exp2 ?_
    · rw [hE 0 (by omega) r, hμ, Nat.zero_mul, Nat.add_zero]
    · rw [hE 1 (by omega) r, hμ, Nat.one_mul]
    · rw [hE 2 (by omega) r, hμ]
    · rw [hE 3 (by omega) r, hμ]
  · rw [acc_apply, al_apply, ht, hμ]
    refine congrArg (HAdd.hAdd (α := EReal) (β := EReal) (γ := EReal) _) ?_
    rw [← sum_four (fun k => vcol V d k * Ideal.exp2 ((s k : EReal) - max (mIn Q K (n * 8 + c) x) (μ : EReal))) (c * 2048)]
    refine congrArg₂ (· + ·) (congrArg₂ (· + ·) (congrArg₂ (· + ·) ?_ ?_) ?_) ?_ <;> refine Finset.sum_congr rfl fun r _ => congrArg₂ (· * ·) ?_ ?_
    · exact (hv 0 (by omega) d r).trans (by rw [Nat.zero_mul, Nat.add_zero])
    · rw [pw_apply, hE 0 (by omega) r, Nat.zero_mul, Nat.add_zero]
    · exact (hv 1 (by omega) d r).trans (by rw [Nat.one_mul])
    · rw [pw_apply, hE 1 (by omega) r, Nat.one_mul]
    · exact hv 2 (by omega) d r
    · rw [pw_apply, hE 2 (by omega) r]
    · exact hv 3 (by omega) d r
    · rw [pw_apply, hE 3 (by omega) r]

/-- With the scores of a tile's column real, the state after `c + 1` steps of the tile is the sums over the keys seen. -/
theorem inv_steps (n : ℕ) (x : Fin 512) (s : ℕ → ℝ)
    (hs : ∀ c, c < 8 → ∀ g, g < 4 → ∀ r : Fin 512, sc Q K (n * 8 + c) g (ix3 0 r x) = (s (c * 2048 + g * 512 + r.val) : EReal))
    (c : ℕ) : c < 8 →
    Inv s (vcol V) (c * 2048 + 2048) ((ML Q K (n * 8 + c + 1)).1 (ix2 0 x)) ((ML Q K (n * 8 + c + 1)).2 (ix2 0 x))
      (fun d => acc Q K V (n * 8 + c + 1) (ix2 d x)) := by
  induction c with
  | zero =>
    intro hc
    obtain ⟨μ, h1, h2, h3⟩ := one_step V n x s 0 hc (hs 0 hc)
    rw [h1, h2, funext h3, show mIn Q K (n * 8 + 0) x = ⊥ from if_pos (by omega), if_pos rfl]
    simp only [Nat.zero_mul, Nat.zero_add]
    exact Inv.first s (vcol V) 2048 μ fun d => acc Q K V (n * 8 + 0) (ix2 d x)
  | succ c ih =>
    intro hc
    obtain ⟨μ, h1, h2, h3⟩ := one_step V n x s (c + 1) hc (hs (c + 1) hc)
    rw [h1, h2, funext h3, show mIn Q K (n * 8 + (c + 1)) x = (ML Q K (n * 8 + c + 1)).1 (ix2 0 x) from if_neg (by omega), if_neg (by omega),
      show (c + 1) * 2048 = c * 2048 + 2048 by omega]
    exact (ih (by omega)).step 2048 μ

/-- A row of the results of a tile whose scores are real: the values summed by the softmax weights. -/
theorem orow_eq (n : ℕ) (x : Fin 512) (s : ℕ → ℝ)
    (hs : ∀ c, c < 8 → ∀ g, g < 4 → ∀ r : Fin 512, sc Q K (n * 8 + c) g (ix3 0 r x) = (s (c * 2048 + g * 512 + r.val) : EReal))
    (d : Fin 128) :
    orow Q K V (n * 8 + 7) (ix3 0 x d) = ∑ k ∈ Finset.range 16384, vcol V d k * (smx s 16384 k : EReal) := by
  rw [orow_apply]
  exact (inv_steps V n x s hs 7 (by omega)).out (by omega) d

/-- The block of results at an index, where every score of the column is real. -/
theorem outF_eq (n : Fin 8) (x : Fin 512) (s : ℕ → ℝ)
    (hs : ∀ k : Fin 16384, ∑ e : Fin 192, K (ix4 0 0 k e) * Q (ix5 0 0 n e x) = (s k.val : EReal)) (y : Fin 4096) (hy : y.val = n.val * 512 + x.val)
    (d : Fin 128) :
    outF Q K V (ix3 0 y d) = ∑ k ∈ Finset.range 16384, vcol V d k * (smx s 16384 k : EReal) := by
  have hx := x.isLt
  have hn := n.isLt
  rw [← orow_eq V n.val x s ?_ d]
  · show orow Q K V (y.val / 512 * 8 + 7) (ix3 (0 : Fin 1) (⟨y.val % 512, _⟩ : Fin 512) d) = _
    have h1 : y.val / 512 = n.val := by omega
    have h2 : (⟨y.val % 512, Nat.mod_lt _ (by omega)⟩ : Fin 512) = x := Fin.ext (by show y.val % 512 = x.val; omega)
    rw [h1, h2]
  · intro c hc g hg r
    have hr := r.isLt
    rw [sc_apply, show (n.val * 8 + c) % 8 = c by omega, show (n.val * 8 + c) / 8 = n.val by omega,
      ← hs ⟨c * 2048 + g * 512 + r.val, by omega⟩]
    refine Finset.sum_congr rfl fun e _ => ?_
    rw [qrow_apply Q _ hn, krow_apply K _ (by omega)]
    refine congrArg (· * _) (congrArg (fun k => K (ix4 0 0 k e)) (Fin.ext ?_))
    show (c * 4 + g) * 512 + r.val = c * 2048 + g * 512 + r.val
    omega

end Cert.Proof.Att
end
-- ==== Proof.AttRef.lean ====
module

public import proofs.«01_k».proof.Proof.Gen.ReferenceIdeal
public import proofs.«01_k».proof.Proof.AttMath
public import Idealize.ShloMosaic.Lib.Pointwise

@[expose] public section
set_option maxRecDepth 16384
noncomputable section

/-! The reference read at an index over the extended reals: with finite queries and keys, the values summed by the softmax
weights. -/

namespace Cert.Proof.Att
open Cert.ReferenceIdeal Cert.ReferenceIdeal.Gen
open Idealize.ShloMosaic

variable (q k : FVec Ideal S2x16384x8x192 .f32) (v : FVec Ideal S2x16384x8x128 .f32)

/-- The reference's scores. -/
def refS : FVec Ideal S2x8x16384x16384 .f32 := mulf (Host.dotGeneral dot_S2x16384x8x192_S2x16384x8x192_S2x8x16384x16384_3_3_1_1_02_02 none q k) (broadcastInDim S2x8x16384x16384 ![] bcast_S_S2x8x16384x16384 (constant S_ .f32 0x3D93CD3A#32))

/-- The reference's largest scores. -/
def refM : FVec Ideal S2x8x16384 .f32 := maximumf (broadcastInDim S2x8x16384 ![] bcast_S_S2x8x16384 (constant S_ .f32 0xFF800000#32)) (Host.reduce FloatOps.maximumf (refS q k) (constant S_ .f32 0xFF800000#32) reducesTo_S2x8x16384x16384_S2x8x16384_d3 h_S_)

/-- The reference's exponentials. -/
def refE : FVec Ideal S2x8x16384x16384 .f32 := Host.exp (subf (refS q k) (broadcastInDim S2x8x16384x16384 ![0, 1, 2, 3] bcast_S2x8x16384x1_S2x8x16384x16384_0_1_2_3 (broadcastInDim S2x8x16384x1 ![0, 1, 2] bcast_S2x8x16384_S2x8x16384x1_0_1_2 (refM q k))))

/-- The reference's weights. -/
def refP : FVec Ideal S2x8x16384x16384 .f32 := Host.divf (refE q k) (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd (refE q k) (constant S_ .f32 0x00000000#32) reducesTo_S2x8x16384x16384_S2x8x16384_d3 h_S_)))

/-- The reference's result. -/
def refA : FVec Ideal S2x16384x1024 .bf16 := truncf .bf16 (shapeCast _ (transpose S2x16384x8x128 [0, 3, 1, 2] (Host.dotGeneral dot_S2x16384x8x128_S2x8x16384x16384_S2x8x128x16384_1_3_3_2_02_01 none v (refP q k)) transposes_S2x8x128x16384_S2x16384x8x128_0_3_1_2) shapeCasts_S2x16384x8x128_S2x16384x1024) bitsLt_bf16_f32

theorem refS_apply (b : Fin 2) (h : Fin 8) (y i : Fin 16384) :
    refS q k (ix4 b h y i) = (∑ e : Fin 192, q (ix4 b y h e) * k (ix4 b i h e)) * (scl : EReal) := by
  pointwise [refS]
  rw [ofBits_scl]

/-- The host's largest over the last of four axes, at an index: the largest over that axis's coordinates. -/
theorem reduceMax_r4 {n0 n1 n2 n3 : ℕ} {u : Shape} (H : (⟨4, ![n0, n1, n2, n3]⟩ : Shape).ReducesTo [3] ⟨3, ![n0, n1, n2]⟩) (hu : 0 < u.numel)
    (x : FVec Ideal ⟨4, ![n0, n1, n2, n3]⟩ .f32) (init : FVec Ideal u .f32) (a : Fin n0) (b : Fin n1) (c : Fin n2) :
    Host.reduce (FloatOps.maximumf (F := Ideal) (φ := .f32)) x init H hu (ix3 a b c)
      = Finset.univ.fold max (init (Shape.Idx.first hu)) fun i : Fin n3 => x (ix4 a b c i) := by
  rw [Host.reduce_eq_fold]
  exact H.fold_fiber_r4_a3 (ix3 a b c) max _ x

/-- The larger of the least value, everywhere, and an array, at an index. -/
theorem max_bot_apply (X : FVec Ideal S2x8x16384 .f32) (j : S2x8x16384.Idx) :
    maximumf (broadcastInDim S2x8x16384 ![] bcast_S_S2x8x16384 (constant S_ .f32 0xFF800000#32)) X j = max ⊥ (X j) := by
  rw [← ofBits_neg_inf]
  rfl

/-- The least value, as the constant it is. -/
theorem const_bot (i : S_.Idx) : (constant S_ .f32 0xFF800000#32 : FVec Ideal S_ .f32) i = ⊥ := by
  rw [← ofBits_neg_inf]
  rfl

theorem refM_apply (b : Fin 2) (h : Fin 8) (y : Fin 16384) :
    refM q k (ix3 b h y) = max ⊥ (Finset.univ.fold max ⊥ fun i : Fin 16384 => refS q k (ix4 b h y i)) := by
  unfold refM
  rw [max_bot_apply, reduceMax_r4, const_bot]

theorem refE_apply (b : Fin 2) (h : Fin 8) (y i : Fin 16384) :
    refE q k (ix4 b h y i) = Ideal.exp (refS q k (ix4 b h y i) - refM q k (ix3 b h y)) := by
  pointwise [refE]

theorem refP_apply (b : Fin 2) (h : Fin 8) (y i : Fin 16384) :
    refP q k (ix4 b h y i) = Ideal.div (refE q k (ix4 b h y i)) (0 + ∑ j : Fin 16384, refE q k (ix4 b h y j)) := by
  pointwise [refP]

theorem refA_apply (b : Fin 2) (y : Fin 16384) (h : Fin 8) (d : Fin 128) :
    refA q k v (ix3 b y ⟨h.val * 128 + d.val, by omega⟩) = ∑ i : Fin 16384, v (ix4 b i h d) * refP q k (ix4 b h y i) := by
  pointwise [refA]

/-- The score of a query and a key, to the base two. -/
def score (qr kr : S2x16384x8x192.Idx → ℝ) (b : Fin 2) (h : Fin 8) (y : Fin 16384) (i : ℕ) : ℝ :=
  (∑ e : Fin 192, qr (ix4 b y h e) * kr (ix4 b ⟨i % 16384, Nat.mod_lt _ (by omega)⟩ h e)) * (scl / Real.log 2)

/-- One column of the values. -/
def valc (b : Fin 2) (h : Fin 8) (d : Fin 128) (i : ℕ) : EReal := v (ix4 b ⟨i % 16384, Nat.mod_lt _ (by omega)⟩ h d)

/-- With finite queries and keys the reference is the values summed by the softmax weights. -/
theorem refA_eq (qr kr : S2x16384x8x192.Idx → ℝ) (hq : ∀ i, q i = (qr i : EReal)) (hk : ∀ i, k i = (kr i : EReal))
    (b : Fin 2) (y : Fin 16384) (h : Fin 8) (d : Fin 128) :
    refA q k v (ix3 b y ⟨h.val * 128 + d.val, by omega⟩)
      = ∑ i ∈ Finset.range 16384, valc v b h d i * (smx (score qr kr b h y) 16384 i : EReal) := by
  have hl : Real.log 2 ≠ 0 := (Real.log_pos (by norm_num)).ne'
  have hs (i : Fin 16384) : refS q k (ix4 b h y i) = ((score qr kr b h y i.val * Real.log 2 : ℝ) : EReal) := by
    rw [refS_apply, Finset.sum_congr rfl fun e _ => congrArg₂ (· * ·) (hq (ix4 b y h e)) (hk (ix4 b i h e)),
      dot_coe (fun e => qr (ix4 b y h e)) fun e => kr (ix4 b i h e), ← EReal.coe_mul]
    unfold score
    have hi : (⟨i.val % 16384, Nat.mod_lt _ (by omega)⟩ : Fin 16384) = i := Fin.ext (Nat.mod_eq_of_lt i.isLt)
    rw [hi, mul_assoc, div_mul_cancel₀ _ hl]
  obtain ⟨M, hM⟩ := fold_max_coe (Finset.univ : Finset (Fin 16384)) ⟨0, Finset.mem_univ _⟩ fun i => score qr kr b h y i.val * Real.log 2
  have hm : refM q k (ix3 b h y) = (M : EReal) := by
    rw [refM_apply, max_eq_right bot_le, ← hM]
    exact congrArg (fun f => Finset.univ.fold max ⊥ f) (funext hs)
  rw [refA_apply, ← plain_out (score qr kr b h y) (valc v b h d) (by omega) M, Finset.sum_range, Finset.sum_range]
  refine Finset.sum_congr rfl fun i _ => ?_
  rw [refP_apply]
  simp only [refE_apply, hs, hm]
  have hi : (⟨i.val % 16384, Nat.mod_lt _ (by omega)⟩ : Fin 16384) = i := Fin.ext (Nat.mod_eq_of_lt i.isLt)
  unfold valc
  rw [hi]

end Cert.Proof.Att
end
-- ==== Proof.AttArray.lean ====
module

public import proofs.«01_k».proof.Proof.AttRun
public import proofs.«01_k».proof.Proof.AttValue
public import proofs.«01_k».proof.Proof.AttRef
public import Idealize.ShloMosaic.Lib.Pipeline.ValueKit
public import Idealize.ShloMosaic.Lib.Pointwise

@[expose] public section
set_option maxRecDepth 16384
noncomputable section

/-! The kernel's array of results over the extended reals: the host's preparation of the operands, each grid point's blocks
of them, and the blocks of results put together, which is the reference's array. -/

namespace Cert.Proof.Att
open Cert.KernelIdeal Cert.KernelIdeal.Gen
open Idealize.ShloMosaic Idealize.ShloMosaic.TcCoe Idealize.ShloMosaic.StableHlo

/-- The queries as the kernel is given them: scaled, cut in tiles, each tile transposed. -/
def hostQ (q : FVec Ideal S2x16384x8x192 .f32) : FVec Ideal S2x8x32x192x512 .bf16 :=
  transpose S2x8x32x192x512 [0, 3, 1, 4, 2]
    (shapeCast S2x32x512x8x192
      (truncf FTy.bf16
        (mulf q (broadcastInDim S2x16384x8x192 ![] bcast_S_S2x16384x8x192
          (Host.divf (constant S_ FTy.f32 0x3D93CD3A#32) (Host.log (constant S_ FTy.f32 0x40000000#32)))))
        bitsLt_bf16_f32)
      shapeCasts_S2x16384x8x192_S2x32x512x8x192)
    transposes_S2x32x512x8x192_S2x8x32x192x512_0_3_1_4_2

/-- The keys as the kernel is given them: head by head. -/
def hostK (k : FVec Ideal S2x16384x8x192 .f32) : FVec Ideal S2x8x16384x192 .bf16 :=
  transpose S2x8x16384x192 [0, 2, 1, 3] (truncf FTy.bf16 k bitsLt_bf16_f32) transposes_S2x16384x8x192_S2x8x16384x192_0_2_1_3

/-- The values as the kernel is given them: cut in chunks, each chunk transposed. -/
def hostV (v : FVec Ideal S2x16384x8x128 .f32) : FVec Ideal S2x8x32x128x512 .bf16 :=
  transpose S2x8x32x128x512 [0, 3, 1, 4, 2]
    (shapeCast S2x32x512x8x128 (truncf FTy.bf16 v bitsLt_bf16_f32) shapeCasts_S2x16384x8x128_S2x32x512x8x128)
    transposes_S2x32x512x8x128_S2x8x32x128x512_0_3_1_4_2

/-- The scale of the queries is the score's scale over the logarithm of two. -/
theorem qscale : Ideal.div (Ideal.ofBits .f32 0x3D93CD3A#32) (Ideal.log (Ideal.ofBits .f32 0x40000000#32)) = ((scl / Real.log 2 : ℝ) : EReal) := by
  rw [ofBits_scl, ofBits_two, show Ideal.log ((2 : ℝ) : EReal) = ((Real.log 2 : ℝ) : EReal) from if_neg (by norm_num),
    div_coe _ (Real.log_pos (by norm_num))]

theorem hostQ_apply (q : FVec Ideal S2x16384x8x192 .f32) (b : Fin 2) (h : Fin 8) (n : Fin 32) (e : Fin 192) (r : Fin 512) :
    hostQ q (ix5 b h n e r) = q (ix4 b ⟨n.val * 512 + r.val, by omega⟩ h e) * ((scl / Real.log 2 : ℝ) : EReal) := by
  rw [← qscale]
  pointwise [hostQ]

theorem hostK_apply (k : FVec Ideal S2x16384x8x192 .f32) (b : Fin 2) (h : Fin 8) (i : Fin 16384) (e : Fin 192) :
    hostK k (ix4 b h i e) = k (ix4 b i h e) := by
  pointwise [hostK]

theorem hostV_apply (v : FVec Ideal S2x16384x8x128 .f32) (b : Fin 2) (h : Fin 8) (n : Fin 32) (d : Fin 128) (r : Fin 512) :
    hostV v (ix5 b h n d r) = v (ix4 b ⟨n.val * 512 + r.val, by omega⟩ h d) := by
  pointwise [hostV]

variable (m : (ℓ : Loc nD τ sig) → Buf (Elt Ideal) ℓ)

theorem V_q (c : Dev nD) : V m c main_v6 = hostQ (m (c, Proc.tc.devRef main_arg0)) := by
  unfold V
  after_results <;> rfl

theorem V_k (c : Dev nD) : V m c main_v8 = hostK (m (c, Proc.tc.devRef main_arg1)) := by
  unfold V
  after_results <;> rfl

theorem V_v (c : Dev nD) : V m c main_v11 = hostV (m (c, Proc.tc.devRef main_arg2)) := by
  unfold V
  after_results <;> rfl

theorem idx0 : ∀ t : Fin grid0.N, win0_0.index t = ![t.val / 32, t.val / 4 % 8, t.val % 4, 0, 0] := by decide +kernel
theorem idx1 : ∀ t : Fin grid0.N, win0_1.index t = ![t.val / 32, t.val / 4 % 8, 0, 0] := by decide +kernel
theorem idx2 : ∀ t : Fin grid0.N, win0_2.index t = ![t.val / 32, t.val / 4 % 8, 0, 0, 0] := by decide +kernel
theorem idx3 : ∀ t : Fin grid0.N, win0_3.index t = ![t.val / 32, t.val % 4, t.val / 4 % 8] := by decide +kernel

/-- A grid point's batch and head. -/
def tb (t : Fin cfg0.N) : Fin 2 := ⟨t.val / 32, by have : t.val < 64 := t.isLt; omega⟩
def th (t : Fin cfg0.N) : Fin 8 := ⟨t.val / 4 % 8, Nat.mod_lt _ (by omega)⟩

theorem blk_q (c : Dev nD) (t : Fin cfg0.N) (n : Fin 8) (e : Fin 192) (x : Fin 512) :
    (iblk m c 0 t : Vec Ideal S1x1x8x192x512 .bf16) (ix5 0 0 n e x)
      = hostQ (m (c, Proc.tc.devRef main_arg0)) (ix5 (tb t) (th t) ⟨t.val % 4 * 8 + n.val, by omega⟩ e x) := by
  unfold iblk
  show V m c main_v6 ((win0_0.blk t).view.emb (ix5 0 0 n e x)) = _
  rw [V_q]
  refine congrArg (hostQ _) (funext fun a => Fin.ext ?_)
  fin_cases a <;> blk_simp [idx0] <;> rfl

theorem blk_k (c : Dev nD) (t : Fin cfg0.N) (i : Fin 16384) (e : Fin 192) :
    (iblk m c 1 t : Vec Ideal S1x1x16384x192 .bf16) (ix4 0 0 i e) = hostK (m (c, Proc.tc.devRef main_arg1)) (ix4 (tb t) (th t) i e) := by
  unfold iblk
  show V m c main_v8 ((win0_1.blk t).view.emb (ix4 0 0 i e)) = _
  rw [V_k]
  refine congrArg (hostK _) (funext fun a => Fin.ext ?_)
  fin_cases a <;> blk_simp [idx1] <;> rfl

theorem blk_v (c : Dev nD) (t : Fin cfg0.N) (n : Fin 32) (d : Fin 128) (r : Fin 512) :
    (iblk m c 2 t : Vec Ideal S1x1x32x128x512 .bf16) (ix5 0 0 n d r) = hostV (m (c, Proc.tc.devRef main_arg2)) (ix5 (tb t) (th t) n d r) := by
  unfold iblk
  show V m c main_v11 ((win0_2.blk t).view.emb (ix5 0 0 n d r)) = _
  rw [V_v]
  refine congrArg (hostV _) (funext fun a => Fin.ext ?_)
  fin_cases a <;> blk_simp [idx2] <;> rfl

theorem covers : (cfg0.win 3).Covers := by decide +kernel

/-- With finite queries and keys the kernel's array of results is the reference's. -/
theorem arr_eq (c : Dev nD) (qr kr : S2x16384x8x192.Idx → ℝ)
    (hq : ∀ i, (m (c, Proc.tc.devRef main_arg0) : FVec Ideal S2x16384x8x192 .f32) i = (qr i : EReal))
    (hk : ∀ i, (m (c, Proc.tc.devRef main_arg1) : FVec Ideal S2x16384x8x192 .f32) i = (kr i : EReal)) :
    (dats m 0 c).arrAt 3 cfg0.N
      = refA (m (c, Proc.tc.devRef main_arg0)) (m (c, Proc.tc.devRef main_arg1)) (m (c, Proc.tc.devRef main_arg2)) := by
  refine (dats m 0 c).arrAt_eq_of_covers 3 _ covers fun t hf y => ?_
  blk_simp
  rw [after3]
  have ht : t.val < 64 := t.isLt
  obtain ⟨y0, y1, d, rfl⟩ : ∃ (y0 : Fin 1) (y1 : Fin 4096) (d : Fin 128), y = ix3 y0 y1 d := ⟨y 0, y 1, y 2, eq_ix3 y⟩
  obtain rfl : y0 = 0 := Subsingleton.elim _ _
  have hemb : (win0_3.blk t).view.emb (ix3 0 y1 d)
      = ix3 (tb t) (⟨t.val % 4 * 4096 + y1.val, by omega⟩ : Fin 16384) (⟨(th t).val * 128 + d.val, by have := (th t).isLt; omega⟩ : Fin 1024) := by
    funext a
    refine Fin.ext ?_
    fin_cases a <;> blk_simp [idx3] <;> rfl
  rw [hemb, refA_eq _ _ _ qr kr hq hk]
  have hy := y1.isLt
  refine (outF_eq (Q := iblk m c 0 t) (K := iblk m c 1 t) (iblk m c 2 t) ⟨y1.val / 512, by omega⟩ ⟨y1.val % 512, by omega⟩
    (score qr kr (tb t) (th t) ⟨t.val % 4 * 4096 + y1.val, by omega⟩) ?_ y1 (by show y1.val = y1.val / 512 * 512 + y1.val % 512; omega) d).trans ?_
  · intro k
    have hkk : (⟨k.val % 16384, Nat.mod_lt _ (by omega)⟩ : Fin 16384) = k := Fin.ext (Nat.mod_eq_of_lt k.isLt)
    have hrow : (⟨(t.val % 4 * 8 + y1.val / 512) * 512 + y1.val % 512, by omega⟩ : Fin 16384) = ⟨t.val % 4 * 4096 + y1.val, by omega⟩ :=
      Fin.ext (by show (t.val % 4 * 8 + y1.val / 512) * 512 + y1.val % 512 = t.val % 4 * 4096 + y1.val; omega)
    have hc : 0 ≤ scl / Real.log 2 := div_nonneg scl_pos.le (Real.log_nonneg (by norm_num))
    have hx (e : Fin 192) : (iblk m c 1 t : Vec Ideal S1x1x16384x192 .bf16) (ix4 0 0 k e) = (kr (ix4 (tb t) k (th t) e) : EReal) :=
      (blk_k m c t k e).trans ((hostK_apply _ _ _ _ _).trans (hk _))
    have hz (e : Fin 192) : (iblk m c 0 t : Vec Ideal S1x1x8x192x512 .bf16) (ix5 0 0 ⟨y1.val / 512, by omega⟩ e ⟨y1.val % 512, by omega⟩)
        = (qr (ix4 (tb t) ⟨t.val % 4 * 4096 + y1.val, by omega⟩ (th t) e) : EReal) * ((scl / Real.log 2 : ℝ) : EReal) := by
      refine (blk_q m c t _ e _).trans ((hostQ_apply _ _ _ _ _ _).trans (congrArg (fun a : EReal => a * ((scl / Real.log 2 : ℝ) : EReal)) ((hq _).trans ?_)))
      exact congrArg (fun i => ((qr (ix4 (tb t) i (th t) e) : ℝ) : EReal)) hrow
    refine (Finset.sum_congr rfl fun e _ => congrArg₂ (fun a b : EReal => a * b) (hx e) (hz e)).trans ?_
    rw [dot_scale _ _ _ hc, dot_coe, ← EReal.coe_mul]
    unfold score
    rw [hkk, mul_comm]
    refine congrArg (fun a : ℝ => ((a * (scl / Real.log 2) : ℝ) : EReal)) (Finset.sum_congr rfl fun e _ => mul_comm _ _)
  · refine Finset.sum_congr rfl fun k hk => congrArg (fun a : EReal => a * _) ?_
    have hk := Finset.mem_range.1 hk
    refine (blk_v m c t _ d _).trans ((hostV_apply _ _ _ _ _ _).trans ?_)
    unfold valc
    refine congrArg (fun i => (m (c, Proc.tc.devRef main_arg2) : FVec Ideal S2x16384x8x128 .f32) (ix4 (tb t) i (th t) d)) (Fin.ext ?_)
    show k / 512 % 32 * 512 + k % 512 = k % 16384
    omega

end Cert.Proof.Att
end
-- ==== Proof.AttAlg.lean ====
module

public import proofs.«01_k».proof.Defs
public import proofs.«01_k».proof.Proof.Gen.ReferenceIdeal.Run
public import proofs.«01_k».proof.Proof.AttArray

@[expose] public section
set_option maxRecDepth 16384
noncomputable section

/-! The kernel of the attention and its reference end with equal arrays of results, from finite queries and keys. -/

namespace Cert.Proof.Att
open Idealize.ShloMosaic Idealize.SL.Sem

/-- The shape relation the precondition states. -/
theorem preFacts : Cert.Pre_qk_finite.Facts := ⟨by decide⟩

/-- An extended real whose magnitude is below the largest is a real. -/
theorem real_of_abs (x : EReal) (h : max x (-x) < ⊤) : x = ((x.toReal : ℝ) : EReal) := by
  refine (EReal.coe_toReal ?_ ?_).symm
  · rintro rfl; simp at h
  · rintro rfl; simp at h

/-- A comparison that holds at an index, read over the extended reals. -/
theorem lt_of_cmp {s : Shape} (x y : FVec Ideal s .f32) (i : s.Idx) (h : cmpf .olt x y i = 1#1) : (x i : EReal) < y i := by
  by_contra hn
  have : cmpf .olt x y i = 0#1 := by
    show BitVec.ofBool (decide ((x i : EReal) < y i)) = 0#1
    rw [decide_eq_false hn]; rfl
  rw [this] at h
  exact absurd h (by decide)

/-- Where the conjunction of two flags is set, both are. -/
theorem and_one (a b : BitVec 1) (h : a &&& b = 1#1) : a = 1#1 ∧ b = 1#1 := by
  revert a b; decide

/-- The precondition at an index: the query and the key there are reals. -/
theorem real_of_pre [Cert.Pre_qk_finite.Facts] (q k : FVec Ideal Cert.Pre_qk_finite.S2x16384x8x192 .f32) (v : FVec Ideal Cert.Pre_qk_finite.S2x16384x8x128 .f32)
    (h : Cert.Pre_qk_finite.fn (F := Ideal) q k v = fun _ => 1#1) (i : Cert.Pre_qk_finite.S2x16384x8x192.Idx) :
    q i = (((q i : EReal).toReal : ℝ) : EReal) ∧ k i = (((k i : EReal).toReal : ℝ) : EReal) := by
  obtain ⟨h0, h1⟩ := and_one _ _ (congrFun h i)
  have h0 := lt_of_cmp _ _ i h0
  have h1 := lt_of_cmp _ _ i h1
  refine ⟨real_of_abs _ ?_, real_of_abs _ ?_⟩
  · exact lt_of_lt_of_eq h0 ofBits_inf
  · exact lt_of_lt_of_eq h1 ofBits_inf

/-- The reference's run: its array of results is `refA` of its arguments. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v17)
        = refA (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  unfold refA refP refE refM refS
  exact Cert.ReferenceIdeal.Value.run (F := Ideal) m ρ

/-- With finite queries and keys the kernel and the reference end with equal arrays of results. -/
theorem algebraic [Cert.Pre_qk_finite.Facts] : Cert.algebraic_KernelIdeal_ReferenceIdeal_pre_qk_finite := by
  intro m g m' g' hp hm
  refine ⟨fun c => refA (m (c, Proc.tc.devRef Cert.KernelIdeal.main_arg0)) (m (c, Proc.tc.devRef Cert.KernelIdeal.main_arg1)) (m (c, Proc.tc.devRef Cert.KernelIdeal.main_arg2)), ?_, ?_⟩
  · refine (θ_run Cert.KernelIdeal.defs _ _).mono (fun r h c => ?_) (run_main (F := Ideal) m g)
    have hr := real_of_pre _ _ _ (hp c)
    exact ⟨((h.1 c).1 3).trans (arr_eq m c _ _ (fun i => (hr i).1) (fun i => (hr i).2)),
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩
  · refine (θ_run Cert.ReferenceIdeal.defs _ _).mono (fun r h c => ⟨(h c).1.trans ?_, (h c).2⟩) (run_ref m' g')
    exact congr (congrArg₂ refA (hm c).1 (hm c).2.1) (hm c).2.2

end Cert.Proof.Att
end
-- ==== Proof.FfnIn.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section
set_option maxRecDepth 16384
noncomputable section

/-! The first product of the feed-forward part, with the squared positive part: the kernel's tiles put together are the
reference's array. -/

namespace Cert.Proof.FfnIn
open Idealize.ShloMosaic Idealize.ShloMosaic.TcCoe Idealize.SL.Sem

section reference
open Cert.Reference2Ideal Cert.Reference2Ideal.Gen

/-- The reference's result. -/
def refU (h : FVec Ideal S2x16384x2048 .f32) (w : FVec Ideal S2048x8192 .f32) : FVec Ideal S32768x8192 .bf16 :=
  truncf .bf16 (shapeCast _ (mulf (maximumf (Host.dotGeneral dot_S2x16384x2048_S2048x8192_S2x16384x8192_2_0_01_1_n_n none h w) (broadcastInDim S2x16384x8192 ![] bcast_S_S2x16384x8192 (constant S_ .f32 0x00000000#32))) (maximumf (Host.dotGeneral dot_S2x16384x2048_S2048x8192_S2x16384x8192_2_0_01_1_n_n none h w) (broadcastInDim S2x16384x8192 ![] bcast_S_S2x16384x8192 (constant S_ .f32 0x00000000#32)))) shapeCasts_S2x16384x8192_S32768x8192) bitsLt_bf16_f32

/-- The squared positive part of an extended real. -/
def sq (a : EReal) : EReal := max a 0 * max a 0

/-- The reference at a row and a column. -/
theorem refU_apply (h : FVec Ideal S2x16384x2048 .f32) (w : FVec Ideal S2048x8192 .f32) (r : Fin 32768) (n : Fin 8192) :
    refU h w (ix2 r n) = sq (∑ e : Fin 2048, h (ix3 (⟨r.val / 16384, by omega⟩ : Fin 2) (⟨r.val % 16384, by omega⟩ : Fin 16384) e) * w (ix2 e n)) := by
  pointwise [refU, sq]

end reference

section kernel
open Cert.Kernel2Ideal Cert.Kernel2Ideal.Gen

variable (m : (ℓ : Loc nD τ sig) → Buf (Elt Ideal) ℓ)

/-- The rows as the kernel is given them. -/
def hostH (h : FVec Ideal S2x16384x2048 .f32) : FVec Ideal S32768x2048 .bf16 :=
  truncf .bf16 (shapeCast S32768x2048 h shapeCasts_S2x16384x2048_S32768x2048) bitsLt_bf16_f32

theorem hostH_apply (h : FVec Ideal S2x16384x2048 .f32) (r : Fin 32768) (e : Fin 2048) :
    hostH h (ix2 r e) = h (ix3 (⟨r.val / 16384, by omega⟩ : Fin 2) (⟨r.val % 16384, by omega⟩ : Fin 16384) e) := by
  pointwise [hostH]

theorem V_h (c : Dev nD) : V m c main_v1 = hostH (m (c, Proc.tc.devRef main_arg0)) := by
  unfold V
  after_results <;> rfl

theorem V_w (c : Dev nD) : V m c main_v2 = (truncf .bf16 (m (c, Proc.tc.devRef main_arg1) : FVec Ideal S2048x8192 .f32) bitsLt_bf16_f32 : FVec Ideal S2048x8192 .bf16) := by
  unfold V
  after_results <;> rfl

theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![t.val / 4, t.val % 4] := by decide +kernel
theorem covers : (cfg0.win 2).Covers := by decide +kernel

theorem lt_N (t : Fin cfg0.N) : t.val < 128 := t.isLt

/-- A grid point's block of the rows. -/
theorem blk_h (c : Dev nD) (t : Fin cfg0.N) (r : Fin 1024) (e : Fin 2048) :
    (iblk m c 0 t : Vec Ideal S1024x2048 .bf16) (ix2 r e)
      = hostH (m (c, Proc.tc.devRef main_arg0)) (ix2 ⟨t.val / 4 * 1024 + r.val, by have := lt_N t; omega⟩ e) := by
  unfold iblk
  show V m c main_v1 ((win0_0.blk t).view.emb (ix2 r e)) = _
  rw [V_h]
  refine congrArg (hostH _) (funext fun a => Fin.ext ?_)
  fin_cases a <;> blk_simp [idx0] <;> rfl

/-- A grid point's block of the weights. -/
theorem blk_w (c : Dev nD) (t : Fin cfg0.N) (e : Fin 2048) (n : Fin 2048) :
    (iblk m c 1 t : Vec Ideal S2048x2048 .bf16) (ix2 e n)
      = (m (c, Proc.tc.devRef main_arg1) : FVec Ideal S2048x8192 .f32) (ix2 e ⟨t.val % 4 * 2048 + n.val, by omega⟩) := by
  unfold iblk
  show V m c main_v2 ((win0_1.blk t).view.emb (ix2 e n)) = _
  rw [V_w]
  refine congrArg (m (c, Proc.tc.devRef main_arg1) : FVec Ideal S2048x8192 .f32) (funext fun a => Fin.ext ?_)
  fin_cases a <;> blk_simp [idx1] <;> rfl

/-- What the body computes of its blocks, at an index. -/
theorem pay_apply (x : Vec Ideal S1024x2048 .bf16) (w : Vec Ideal S2048x2048 .bf16) (r : Fin 1024) (n : Fin 2048) :
    k0_pay1 x w (ix2 r n) = sq (∑ e : Fin 2048, x (ix2 r e) * w (ix2 e n)) := by
  pointwise [k0_pay1, sq]

/-- What the body leaves in its block of results. -/
theorem out_eq (x : Vec Ideal S1024x2048 .bf16) (w : Vec Ideal S2048x2048 .bf16) : out0_2 x w = k0_pay1 x w := by
  have hz : (![0, 0] : Fin 2 → Nat) = fun _ => 0 := funext fun a => by fin_cases a <;> rfl
  unfold out0_2
  rw [View.canon_unit_zero hz]
  congr 1 <;> exact View.ld_unit_zero hz _ _

/-- The kernel's array of results is the reference's. -/
theorem arr_eq (c : Dev nD) :
    (dats m 0 c).arrAt 2 cfg0.N = refU (m (c, Proc.tc.devRef main_arg0)) (m (c, Proc.tc.devRef main_arg1)) := by
  refine (dats m 0 c).arrAt_eq_of_covers 2 _ covers fun t hf y => ?_
  blk_simp
  rw [after0_2, out_eq]
  obtain ⟨r, n, rfl⟩ : ∃ (r : Fin 1024) (n : Fin 2048), y = ix2 r n := ⟨y 0, y 1, eq_ix2 y⟩
  have ht := lt_N t
  have hemb : (win0_2.blk t).view.emb (ix2 r n)
      = ix2 (⟨t.val / 4 * 1024 + r.val, by omega⟩ : Fin 32768) (⟨t.val % 4 * 2048 + n.val, by omega⟩ : Fin 8192) := by
    funext a
    refine Fin.ext ?_
    fin_cases a <;> blk_simp [idx2] <;> rfl
  rw [hemb, refU_apply]
  refine (pay_apply _ _ r n).trans (congrArg sq (Finset.sum_congr rfl fun e _ => congrArg₂ (fun a b : EReal => a * b) ?_ ?_))
  · exact (blk_h m c t r e).trans (hostH_apply _ _ _)
  · exact blk_w m c t e n

end kernel

/-- The kernel and the reference end with equal arrays of results. -/
theorem algebraic : Cert.algebraic_Kernel2Ideal_Reference2Ideal := by
  intro m g m' g' _ hm
  refine ⟨fun c => refU (m (c, Proc.tc.devRef Cert.Kernel2Ideal.main_arg0)) (m (c, Proc.tc.devRef Cert.Kernel2Ideal.main_arg1)), ?_, ?_⟩
  · exact (θ_run Cert.Kernel2Ideal.defs _ _).mono (fun r h c => ⟨(h c).1.trans (arr_eq m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    exact congrArg₂ refU (hm c).1 (hm c).2

end Cert.Proof.FfnIn
end
-- ==== Proof.FfnOut.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Tactic

@[expose] public section
set_option maxRecDepth 16384
noncomputable section

/-! The second product of the feed-forward part, added to the residual stream: the kernel cuts the contraction in four and
adds up the parts in its block of results, which ends at the reference's. -/

namespace Cert.Proof.FfnOut
open Idealize.ShloMosaic Idealize.ShloMosaic.TcCoe Idealize.SL.Sem
open Finset (range)

section reference
open Cert.Reference3Ideal Cert.Reference3Ideal.Gen

/-- The reference's result. -/
def refY (u : FVec Ideal S2x16384x8192 .f32) (x : FVec Ideal S2x16384x2048 .f32) (w : FVec Ideal S8192x2048 .f32) : FVec Ideal S32768x2048 .f32 :=
  shapeCast _ (addf x (Host.dotGeneral dot_S2x16384x8192_S8192x2048_S2x16384x2048_2_0_01_1_n_n none u w)) shapeCasts_S2x16384x2048_S32768x2048

/-- The reference at a row and a column. -/
theorem refY_apply (u : FVec Ideal S2x16384x8192 .f32) (x : FVec Ideal S2x16384x2048 .f32) (w : FVec Ideal S8192x2048 .f32) (r : Fin 32768) (n : Fin 2048) :
    refY u x w (ix2 r n) = x (ix3 (⟨r.val / 16384, by omega⟩ : Fin 2) (⟨r.val % 16384, by omega⟩ : Fin 16384) n)
      + ∑ e : Fin 8192, u (ix3 (⟨r.val / 16384, by omega⟩ : Fin 2) (⟨r.val % 16384, by omega⟩ : Fin 16384) e) * w (ix2 e n) := by
  pointwise [refY]

end reference

section kernel
open Cert.Kernel3Ideal Cert.Kernel3Ideal.Gen

variable (m : (ℓ : Loc nD τ sig) → Buf (Elt Ideal) ℓ)

/-- The squares as the kernel is given them. -/
def hostU (u : FVec Ideal S2x16384x8192 .f32) : FVec Ideal S32768x8192 .bf16 :=
  truncf .bf16 (shapeCast S32768x8192 u shapeCasts_S2x16384x8192_S32768x8192) bitsLt_bf16_f32

/-- The residual stream as the kernel is given it. -/
def hostX (x : FVec Ideal S2x16384x2048 .f32) : FVec Ideal S32768x2048 .f32 :=
  shapeCast S32768x2048 x shapeCasts_S2x16384x2048_S32768x2048

theorem hostU_apply (u : FVec Ideal S2x16384x8192 .f32) (r : Fin 32768) (e : Fin 8192) :
    hostU u (ix2 r e) = u (ix3 (⟨r.val / 16384, by omega⟩ : Fin 2) (⟨r.val % 16384, by omega⟩ : Fin 16384) e) := by
  pointwise [hostU]

theorem hostX_apply (x : FVec Ideal S2x16384x2048 .f32) (r : Fin 32768) (e : Fin 2048) :
    hostX x (ix2 r e) = x (ix3 (⟨r.val / 16384, by omega⟩ : Fin 2) (⟨r.val % 16384, by omega⟩ : Fin 16384) e) := by
  pointwise [hostX]

theorem V_u (c : Dev nD) : V m c main_v1 = hostU (m (c, Proc.tc.devRef main_arg0)) := by
  unfold V
  after_results <;> rfl

theorem V_w (c : Dev nD) : V m c main_v2 = (truncf .bf16 (m (c, Proc.tc.devRef main_arg2) : FVec Ideal S8192x2048 .f32) bitsLt_bf16_f32 : FVec Ideal S8192x2048 .bf16) := by
  unfold V
  after_results <;> rfl

theorem V_x (c : Dev nD) : V m c main_v3 = hostX (m (c, Proc.tc.devRef main_arg1)) := by
  unfold V
  after_results <;> rfl

theorem idx0 : ∀ t : Fin grid0.N, win0_0.index t = ![t.val / 4, t.val % 4] := by decide +kernel
theorem idx1 : ∀ t : Fin grid0.N, win0_1.index t = ![t.val % 4, 0] := by decide +kernel
theorem idx2 : ∀ t : Fin grid0.N, win0_2.index t = ![t.val / 4, 0] := by decide +kernel
theorem idx3 : ∀ t : Fin grid0.N, win0_3.index t = ![t.val / 4, 0] := by decide +kernel
theorem covers : (cfg0.win 3).Covers := by decide +kernel

theorem lt_N (t : Fin cfg0.N) : t.val < 256 := t.isLt

/-- A grid point's block of the squares. -/
theorem blk_u (c : Dev nD) (t : Fin cfg0.N) (r : Fin 512) (e : Fin 2048) :
    (iblk m c 0 t : Vec Ideal S512x2048 .bf16) (ix2 r e)
      = hostU (m (c, Proc.tc.devRef main_arg0)) (ix2 ⟨t.val / 4 * 512 + r.val, by have := lt_N t; omega⟩ ⟨t.val % 4 * 2048 + e.val, by omega⟩) := by
  unfold iblk
  show V m c main_v1 ((win0_0.blk t).view.emb (ix2 r e)) = _
  rw [V_u]
  refine congrArg (hostU _) (funext fun a => Fin.ext ?_)
  fin_cases a <;> blk_simp [idx0] <;> rfl

/-- A grid point's block of the weights. -/
theorem blk_w (c : Dev nD) (t : Fin cfg0.N) (e : Fin 2048) (n : Fin 2048) :
    (iblk m c 1 t : Vec Ideal S2048x2048 .bf16) (ix2 e n)
      = (m (c, Proc.tc.devRef main_arg2) : FVec Ideal S8192x2048 .f32) (ix2 ⟨t.val % 4 * 2048 + e.val, by omega⟩ n) := by
  unfold iblk
  show V m c main_v2 ((win0_1.blk t).view.emb (ix2 e n)) = _
  rw [V_w]
  refine congrArg (m (c, Proc.tc.devRef main_arg2) : FVec Ideal S8192x2048 .f32) (funext fun a => Fin.ext ?_)
  fin_cases a <;> blk_simp [idx1] <;> rfl

/-- A grid point's block of the residual stream. -/
theorem blk_x (c : Dev nD) (t : Fin cfg0.N) (r : Fin 512) (n : Fin 2048) :
    (iblk m c 2 t : Vec Ideal S512x2048 .f32) (ix2 r n)
      = hostX (m (c, Proc.tc.devRef main_arg1)) (ix2 ⟨t.val / 4 * 512 + r.val, by have := lt_N t; omega⟩ n) := by
  unfold iblk
  show V m c main_v3 ((win0_2.blk t).view.emb (ix2 r n)) = _
  rw [V_x]
  refine congrArg (hostX _) (funext fun a => Fin.ext ?_)
  fin_cases a <;> blk_simp [idx2] <;> rfl

theorem pay1_apply (y : Vec Ideal S512x2048 .f32) (x : Vec Ideal S512x2048 .bf16) (w : Vec Ideal S2048x2048 .bf16) (r : Fin 512) (n : Fin 2048) :
    k0_pay1 y x w (ix2 r n) = y (ix2 r n) + ∑ e : Fin 2048, x (ix2 r e) * w (ix2 e n) := by
  pointwise [k0_pay1]

theorem pay2_apply (y : Vec Ideal S512x2048 .f32) (x : Vec Ideal S512x2048 .bf16) (w : Vec Ideal S2048x2048 .bf16) (r : Fin 512) (n : Fin 2048) :
    k0_pay2 y x w (ix2 r n) = y (ix2 r n) + ∑ e : Fin 2048, x (ix2 r e) * w (ix2 e n) := by
  pointwise [k0_pay2]

theorem hz : (![0, 0] : Fin 2 → Nat) = fun _ => 0 := funext fun a => by fin_cases a <;> rfl

/-- What a row's first point leaves: the residual and the first part of the product. -/
theorem out_A (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole) (hc0 : cond0_0 i) (hc1 : ¬cond0_1 i)
    (x0 : Vec Ideal S512x2048 .bf16) (x1 : Vec Ideal S2048x2048 .bf16) (x2 : Vec Ideal S512x2048 .f32) :
    out0_A_3 c i arg2 harg2 arg3 harg3 arg4 harg4 arg5 harg5 hc0 hc1 x0 x1 x2 = k0_pay1 x2 x0 x1 := by
  unfold out0_A_3
  rw [View.read_writes_eq_canon _ _ _ (cover0_A_3 c i arg2 harg2 arg3 harg3 arg4 harg4 arg5 harg5 hc0 hc1 x0 x1 x2)]
  unfold kernelRun0_A
  dsimp only
  rw [View.canon_unit_zero hz]
  simp only [View.readAt_eq_ld, harg2.read_unread, harg3.read_unread, harg4.read_unread, View.ld_unit_zero (S := S512x2048) hz, View.ld_unit_zero (S := S2048x2048) hz]

/-- What every other point leaves: one more part of the product. -/
theorem out_B (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole) (hc0 : ¬cond0_0 i) (hc1 : cond0_1 i)
    (x0 : Vec Ideal S512x2048 .bf16) (x1 : Vec Ideal S2048x2048 .bf16) (x2 xo : Vec Ideal S512x2048 .f32) :
    out0_B_3 c i arg2 harg2 arg3 harg3 arg4 harg4 arg5 harg5 hc0 hc1 x0 x1 x2 xo = k0_pay2 xo x0 x1 := by
  unfold out0_B_3
  rw [View.read_writes_eq_canon _ _ _ (cover0_B_3 c i arg2 harg2 arg3 harg3 arg4 harg4 arg5 harg5 hc0 hc1 x0 x1 x2 xo)]
  unfold kernelRun0_B
  dsimp only
  rw [View.canon_unit_zero hz]
  simp only [View.readAt_eq_ld, harg2.read_unread, harg3.read_unread, harg5.read_unread, View.ld_unit_zero (S := S512x2048) hz, View.ld_unit_zero (S := S2048x2048) hz]

/-- One product of the contraction, by its number. -/
def term (U : FVec Ideal S32768x8192 .bf16) (W : FVec Ideal S8192x2048 .f32) (r : Fin 32768) (n : Fin 2048) (e : ℕ) : EReal :=
  U (ix2 r ⟨e % 8192, Nat.mod_lt _ (by omega)⟩) * W (ix2 ⟨e % 8192, Nat.mod_lt _ (by omega)⟩ n)

/-- A point's part of the product, as terms of the whole contraction. -/
theorem part_eq (c : Dev nD) (t : Fin cfg0.N) (r : Fin 512) (n : Fin 2048) (x : Vec Ideal S512x2048 .bf16) (w : Vec Ideal S2048x2048 .bf16) (hx : x = iblk m c 0 t) (hw : w = iblk m c 1 t) :
    (∑ e : Fin 2048, x (ix2 r e) * w (ix2 e n))
      = ∑ e ∈ range 2048, term (hostU (m (c, Proc.tc.devRef main_arg0))) (m (c, Proc.tc.devRef main_arg2)) ⟨t.val / 4 * 512 + r.val, by have := lt_N t; omega⟩ n (t.val % 4 * 2048 + e) := by
  rw [Finset.sum_range]
  refine Finset.sum_congr rfl fun e _ => ?_
  have he : (⟨(t.val % 4 * 2048 + e.val) % 8192, Nat.mod_lt _ (by omega)⟩ : Fin 8192) = ⟨t.val % 4 * 2048 + e.val, by omega⟩ :=
    Fin.ext (Nat.mod_eq_of_lt (by omega))
  unfold term
  rw [he, hx, hw]
  exact congrArg₂ (fun a b : EReal => a * b) (blk_u m c t r e) (blk_w m c t e n)

/-- What the block of results holds after a point: the residual and the parts so far. -/
theorem outs_eq (c : Dev nD) (r : Fin 512) (n : Fin 2048) : ∀ (k : ℕ) (hk : k < cfg0.N),
    outsAt0 m c k hk (ix2 r n)
      = hostX (m (c, Proc.tc.devRef main_arg1)) (ix2 ⟨k / 4 * 512 + r.val, by have : k < 256 := hk; omega⟩ n)
        + ∑ e ∈ range ((k % 4 + 1) * 2048), term (hostU (m (c, Proc.tc.devRef main_arg0))) (m (c, Proc.tc.devRef main_arg2)) ⟨k / 4 * 512 + r.val, by have : k < 256 := hk; omega⟩ n e := by
  intro k
  induction k with
  | zero =>
    intro hk
    refine (congrFun ((outsAt0_A m c ⟨0, hk⟩ (Nat.zero_mod _) (by show ¬1 ≤ 0 % 4; omega)).trans (out_A ..)) _).trans ?_
    rw [pay1_apply, part_eq m c ⟨0, hk⟩ r n _ _ rfl rfl]
    refine congrArg₂ (fun a b : EReal => a + b) (blk_x m c ⟨0, hk⟩ r n) (Finset.sum_congr rfl fun e _ => ?_)
    simp only [Nat.zero_mod, Nat.zero_mul, Nat.zero_add]
  | succ k ih =>
    intro hk
    by_cases h0 : (k + 1) % 4 = 0
    · refine (congrFun ((outsAt0_A m c ⟨k + 1, hk⟩ h0 (by show ¬1 ≤ (k + 1) % 4; omega)).trans (out_A ..)) _).trans ?_
      rw [pay1_apply, part_eq m c ⟨k + 1, hk⟩ r n _ _ rfl rfl]
      simp only [h0, Nat.zero_mul, Nat.zero_add, Nat.one_mul]
      exact congrArg (fun a : EReal => a + _) (blk_x m c ⟨k + 1, hk⟩ r n)
    · refine (congrFun ((outsAt0_B m c ⟨k + 1, hk⟩ h0 (by show 1 ≤ (k + 1) % 4; omega)).trans (out_B ..)) _).trans ?_
      rw [pay2_apply, part_eq m c ⟨k + 1, hk⟩ r n _ _ rfl rfl]
      have hd : (k + 1) / 4 = k / 4 := by omega
      have hr : k % 4 + 1 = (k + 1) % 4 := by omega
      have hrow : (⟨(k + 1) / 4 * 512 + r.val, by have : k + 1 < 256 := hk; omega⟩ : Fin 32768) = ⟨k / 4 * 512 + r.val, by have : k + 1 < 256 := hk; omega⟩ :=
        Fin.ext (by show (k + 1) / 4 * 512 + r.val = _; rw [hd])
      refine (congrArg (fun a : EReal => a + _) (ih (Nat.lt_of_succ_lt hk))).trans ?_
      rw [hr, Nat.add_mul, Nat.one_mul, Finset.sum_range_add, ← add_assoc]
      rw [hrow]

/-- The kernel's array of results is the reference's. -/
theorem arr_eq (c : Dev nD) :
    (dats m 0 c).arrAt 3 cfg0.N = refY (m (c, Proc.tc.devRef main_arg0)) (m (c, Proc.tc.devRef main_arg1)) (m (c, Proc.tc.devRef main_arg2)) := by
  refine (dats m 0 c).arrAt_eq_of_covers 3 _ covers fun t hf y => ?_
  blk_simp
  rw [after0_3]
  obtain ⟨r, n, rfl⟩ : ∃ (r : Fin 512) (n : Fin 2048), y = ix2 r n := ⟨y 0, y 1, eq_ix2 y⟩
  have ht := lt_N t
  have h3 : t.val % 4 = 3 := (flush0_3 t).mp hf
  have hemb : (win0_3.blk t).view.emb (ix2 r n) = ix2 (⟨t.val / 4 * 512 + r.val, by omega⟩ : Fin 32768) n := by
    funext a
    refine Fin.ext ?_
    fin_cases a <;> blk_simp [idx3] <;> rfl
  rw [hemb, refY_apply]
  refine (outs_eq m c r n t.val t.isLt).trans ?_
  refine congrArg₂ (fun a b : EReal => a + b) (hostX_apply _ _ _) ?_
  rw [h3, Finset.sum_range]
  refine Finset.sum_congr rfl fun e _ => ?_
  have he : (⟨e.val % 8192, Nat.mod_lt _ (by omega)⟩ : Fin 8192) = e := Fin.ext (Nat.mod_eq_of_lt e.isLt)
  unfold term
  rw [he]
  exact congrArg (fun a : EReal => a * _) (hostU_apply _ _ _)

end kernel

/-- The kernel and the reference end with equal arrays of results. -/
theorem algebraic : Cert.algebraic_Kernel3Ideal_Reference3Ideal := by
  intro m g m' g' _ hm
  refine ⟨fun c => refY (m (c, Proc.tc.devRef Cert.Kernel3Ideal.main_arg0)) (m (c, Proc.tc.devRef Cert.Kernel3Ideal.main_arg1)) (m (c, Proc.tc.devRef Cert.Kernel3Ideal.main_arg2)), ?_, ?_⟩
  · exact (θ_run Cert.Kernel3Ideal.defs _ _).mono (fun r h c => ⟨(h c).1.trans (arr_eq m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    show refY (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [(hm c).1, (hm c).2.1, (hm c).2.2]

end Cert.Proof.FfnOut
end
-- ==== Proof.Rms.lean ====
module

public import proofs.«01_k».proof.Defs
public import Idealize.ShloMosaic.Lib.Pointwise

@[expose] public section
noncomputable section

/-! The root-mean-square norm of a row, over the extended reals. -/

namespace Cert.Proof
open Idealize.ShloMosaic

/-- A row over the root of its mean square (with the epsilon under the root), times the gain, at a column. -/
def rms (x g : Fin 2048 → EReal) (j : Fin 2048) : EReal :=
  x j * Ideal.rsqrt (Ideal.div (∑ k, x k * x k) (Ideal.ofBits .f32 0x45000000#32) + Ideal.ofBits .f32 0x358637BD#32) * g j

end Cert.Proof
end
-- ==== Proof.NormSample.lean ====
module

public import proofs.«01_k».proof.Defs
public import proofs.«01_k».proof.Proof.Rms
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section
set_option maxRecDepth 16384
noncomputable section

/-! The final norm of the sample batch: the kernel's tiles of rows put together are the reference's array. -/

namespace Cert.Proof.NormSample
open Idealize.ShloMosaic Idealize.ShloMosaic.TcCoe Idealize.SL.Sem

section reference
open Cert.Reference4Ideal Cert.Reference4Ideal.Gen

/-- The reference's result. -/
def refN (x : FVec Ideal S2x16384x2048 .f32) (g : FVec Ideal S2048 .f32) : FVec Ideal S32768x2048 .f32 :=
  shapeCast _ (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) shapeCasts_S2x16384x2048_S32768x2048

/-- The reference at a row and a column. -/
theorem refN_apply (x : FVec Ideal S2x16384x2048 .f32) (g : FVec Ideal S2048 .f32) (r : Fin 32768) (n : Fin 2048) :
    refN x g (ix2 r n) = rms (fun e => x (ix3 (⟨r.val / 16384, by omega⟩ : Fin 2) (⟨r.val % 16384, by omega⟩ : Fin 16384) e)) (fun e => g (ix1 e)) n := by
  pointwise [refN, rms]

end reference

section kernel
open Cert.Kernel4Ideal Cert.Kernel4Ideal.Gen

variable (m : (ℓ : Loc nD τ sig) → Buf (Elt Ideal) ℓ)

/-- The rows as the kernel is given them. -/
def hostX (x : FVec Ideal S2x16384x2048 .f32) : FVec Ideal S32768x2048 .f32 :=
  shapeCast S32768x2048 x shapeCasts_S2x16384x2048_S32768x2048

/-- The gain as the kernel is given it. -/
def hostG (g : FVec Ideal S2048 .f32) : FVec Ideal S1x2048 .f32 :=
  shapeCast S1x2048 g shapeCasts_S2048_S1x2048

theorem hostX_apply (x : FVec Ideal S2x16384x2048 .f32) (r : Fin 32768) (e : Fin 2048) :
    hostX x (ix2 r e) = x (ix3 (⟨r.val / 16384, by omega⟩ : Fin 2) (⟨r.val % 16384, by omega⟩ : Fin 16384) e) := by
  pointwise [hostX]

theorem hostG_apply (g : FVec Ideal S2048 .f32) (r : Fin 1) (e : Fin 2048) : hostG g (ix2 r e) = g (ix1 e) := by
  pointwise [hostG]

theorem V_x (c : Dev nD) : V m c main_v0 = hostX (m (c, Proc.tc.devRef main_arg0)) := by
  unfold V
  after_results <;> rfl

theorem V_g (c : Dev nD) : V m c main_v1 = hostG (m (c, Proc.tc.devRef main_arg1)) := by
  unfold V
  after_results <;> rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem covers : (cfg0.win 2).Covers := by decide +kernel

theorem lt_N (t : Fin cfg0.N) : t.val < 32 := t.isLt

/-- A grid point's block of the rows. -/
theorem blk_x (c : Dev nD) (t : Fin cfg0.N) (r : Fin 1024) (e : Fin 2048) :
    (iblk m c 0 t : Vec Ideal S1024x2048 .f32) (ix2 r e)
      = hostX (m (c, Proc.tc.devRef main_arg0)) (ix2 ⟨t.val * 1024 + r.val, by have := lt_N t; omega⟩ e) := by
  unfold iblk
  show V m c main_v0 ((win0_0.blk t).view.emb (ix2 r e)) = _
  rw [V_x]
  refine congrArg (hostX _) (funext fun a => Fin.ext ?_)
  fin_cases a <;> blk_simp [idx0] <;> rfl

/-- A grid point's block of the gain is the gain. -/
theorem blk_g (c : Dev nD) (t : Fin cfg0.N) (r : Fin 1) (e : Fin 2048) :
    (iblk m c 1 t : Vec Ideal S1x2048 .f32) (ix2 r e) = hostG (m (c, Proc.tc.devRef main_arg1)) (ix2 r e) := by
  unfold iblk
  show V m c main_v1 ((win0_1.blk t).view.emb (ix2 r e)) = _
  rw [V_g]
  refine congrArg (hostG _) (funext fun a => Fin.ext ?_)
  fin_cases a <;> blk_simp [idx1] <;> rfl

/-- What the body computes of its blocks, at an index. -/
theorem pay_apply (x : Vec Ideal S1024x2048 .f32) (g : Vec Ideal S1x2048 .f32) (r : Fin 1024) (n : Fin 2048) :
    k0_pay1 x g (ix2 r n) = rms (fun e => x (ix2 r e)) (fun e => g (ix2 0 e)) n := by
  pointwise [k0_pay1, rms]

/-- What the body leaves in its block of results. -/
theorem out_eq (x : Vec Ideal S1024x2048 .f32) (g : Vec Ideal S1x2048 .f32) : out0_2 x g = k0_pay1 x g := by
  have hz : (![0, 0] : Fin 2 → Nat) = fun _ => 0 := funext fun a => by fin_cases a <;> rfl
  unfold out0_2
  rw [View.canon_unit_zero hz]
  congr 1 <;> exact View.ld_unit_zero hz _ _

/-- The kernel's array of results is the reference's. -/
theorem arr_eq (c : Dev nD) :
    (dats m 0 c).arrAt 2 cfg0.N = refN (m (c, Proc.tc.devRef main_arg0)) (m (c, Proc.tc.devRef main_arg1)) := by
  refine (dats m 0 c).arrAt_eq_of_covers 2 _ covers fun t hf y => ?_
  blk_simp
  rw [after0_2, out_eq]
  obtain ⟨r, n, rfl⟩ : ∃ (r : Fin 1024) (n : Fin 2048), y = ix2 r n := ⟨y 0, y 1, eq_ix2 y⟩
  have ht := lt_N t
  have hemb : (win0_2.blk t).view.emb (ix2 r n) = ix2 (⟨t.val * 1024 + r.val, by omega⟩ : Fin 32768) n := by
    funext a
    refine Fin.ext ?_
    fin_cases a <;> blk_simp [idx2] <;> rfl
  rw [hemb, refN_apply]
  refine (pay_apply _ _ r n).trans ?_
  refine congr (congrArg₂ rms (funext fun e => ?_) (funext fun e => ?_)) rfl
  · exact (blk_x m c t r e).trans (hostX_apply _ _ _)
  · exact (blk_g m c t 0 e).trans (hostG_apply _ _ _)

end kernel

/-- The kernel and the reference end with equal arrays of results. -/
theorem algebraic : Cert.algebraic_Kernel4Ideal_Reference4Ideal := by
  intro m g m' g' _ hm
  refine ⟨fun c => refN (m (c, Proc.tc.devRef Cert.Kernel4Ideal.main_arg0)) (m (c, Proc.tc.devRef Cert.Kernel4Ideal.main_arg1)), ?_, ?_⟩
  · exact (θ_run Cert.Kernel4Ideal.defs _ _).mono (fun r h c => ⟨(h c).1.trans (arr_eq m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    exact congrArg₂ refN (hm c).1 (hm c).2

end Cert.Proof.NormSample
end
-- ==== Proof.NormPrompt.lean ====
module

public import proofs.«01_k».proof.Defs
public import proofs.«01_k».proof.Proof.Rms
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section
set_option maxRecDepth 16384
noncomputable section

/-! The final norm of the prompt batch: the kernel's tiles of rows put together are the reference's array. -/

namespace Cert.Proof.NormPrompt
open Idealize.ShloMosaic Idealize.ShloMosaic.TcCoe Idealize.SL.Sem

section reference
open Cert.Reference5Ideal Cert.Reference5Ideal.Gen

/-- The reference's result. -/
def refN (x : FVec Ideal S2x4096x2048 .f32) (g : FVec Ideal S2048 .f32) : FVec Ideal S8192x2048 .f32 :=
  shapeCast _ (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) shapeCasts_S2x4096x2048_S8192x2048

/-- The reference at a row and a column. -/
theorem refN_apply (x : FVec Ideal S2x4096x2048 .f32) (g : FVec Ideal S2048 .f32) (r : Fin 8192) (n : Fin 2048) :
    refN x g (ix2 r n) = rms (fun e => x (ix3 (⟨r.val / 4096, by omega⟩ : Fin 2) (⟨r.val % 4096, by omega⟩ : Fin 4096) e)) (fun e => g (ix1 e)) n := by
  pointwise [refN, rms]

end reference

section kernel
open Cert.Kernel5Ideal Cert.Kernel5Ideal.Gen

variable (m : (ℓ : Loc nD τ sig) → Buf (Elt Ideal) ℓ)

/-- The rows as the kernel is given them. -/
def hostX (x : FVec Ideal S2x4096x2048 .f32) : FVec Ideal S8192x2048 .f32 :=
  shapeCast S8192x2048 x shapeCasts_S2x4096x2048_S8192x2048

/-- The gain as the kernel is given it. -/
def hostG (g : FVec Ideal S2048 .f32) : FVec Ideal S1x2048 .f32 :=
  shapeCast S1x2048 g shapeCasts_S2048_S1x2048

theorem hostX_apply (x : FVec Ideal S2x4096x2048 .f32) (r : Fin 8192) (e : Fin 2048) :
    hostX x (ix2 r e) = x (ix3 (⟨r.val / 4096, by omega⟩ : Fin 2) (⟨r.val % 4096, by omega⟩ : Fin 4096) e) := by
  pointwise [hostX]

theorem hostG_apply (g : FVec Ideal S2048 .f32) (r : Fin 1) (e : Fin 2048) : hostG g (ix2 r e) = g (ix1 e) := by
  pointwise [hostG]

theorem V_x (c : Dev nD) : V m c main_v0 = hostX (m (c, Proc.tc.devRef main_arg0)) := by
  unfold V
  after_results <;> rfl

theorem V_g (c : Dev nD) : V m c main_v1 = hostG (m (c, Proc.tc.devRef main_arg1)) := by
  unfold V
  after_results <;> rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem covers : (cfg0.win 2).Covers := by decide +kernel

theorem lt_N (t : Fin cfg0.N) : t.val < 8 := t.isLt

/-- A grid point's block of the rows. -/
theorem blk_x (c : Dev nD) (t : Fin cfg0.N) (r : Fin 1024) (e : Fin 2048) :
    (iblk m c 0 t : Vec Ideal S1024x2048 .f32) (ix2 r e)
      = hostX (m (c, Proc.tc.devRef main_arg0)) (ix2 ⟨t.val * 1024 + r.val, by have := lt_N t; omega⟩ e) := by
  unfold iblk
  show V m c main_v0 ((win0_0.blk t).view.emb (ix2 r e)) = _
  rw [V_x]
  refine congrArg (hostX _) (funext fun a => Fin.ext ?_)
  fin_cases a <;> blk_simp [idx0] <;> rfl

/-- A grid point's block of the gain is the gain. -/
theorem blk_g (c : Dev nD) (t : Fin cfg0.N) (r : Fin 1) (e : Fin 2048) :
    (iblk m c 1 t : Vec Ideal S1x2048 .f32) (ix2 r e) = hostG (m (c, Proc.tc.devRef main_arg1)) (ix2 r e) := by
  unfold iblk
  show V m c main_v1 ((win0_1.blk t).view.emb (ix2 r e)) = _
  rw [V_g]
  refine congrArg (hostG _) (funext fun a => Fin.ext ?_)
  fin_cases a <;> blk_simp [idx1] <;> rfl

/-- What the body computes of its blocks, at an index. -/
theorem pay_apply (x : Vec Ideal S1024x2048 .f32) (g : Vec Ideal S1x2048 .f32) (r : Fin 1024) (n : Fin 2048) :
    k0_pay1 x g (ix2 r n) = rms (fun e => x (ix2 r e)) (fun e => g (ix2 0 e)) n := by
  pointwise [k0_pay1, rms]

/-- What the body leaves in its block of results. -/
theorem out_eq (x : Vec Ideal S1024x2048 .f32) (g : Vec Ideal S1x2048 .f32) : out0_2 x g = k0_pay1 x g := by
  have hz : (![0, 0] : Fin 2 → Nat) = fun _ => 0 := funext fun a => by fin_cases a <;> rfl
  unfold out0_2
  rw [View.canon_unit_zero hz]
  congr 1 <;> exact View.ld_unit_zero hz _ _

/-- The kernel's array of results is the reference's. -/
theorem arr_eq (c : Dev nD) :
    (dats m 0 c).arrAt 2 cfg0.N = refN (m (c, Proc.tc.devRef main_arg0)) (m (c, Proc.tc.devRef main_arg1)) := by
  refine (dats m 0 c).arrAt_eq_of_covers 2 _ covers fun t hf y => ?_
  blk_simp
  rw [after0_2, out_eq]
  obtain ⟨r, n, rfl⟩ : ∃ (r : Fin 1024) (n : Fin 2048), y = ix2 r n := ⟨y 0, y 1, eq_ix2 y⟩
  have ht := lt_N t
  have hemb : (win0_2.blk t).view.emb (ix2 r n) = ix2 (⟨t.val * 1024 + r.val, by omega⟩ : Fin 8192) n := by
    funext a
    refine Fin.ext ?_
    fin_cases a <;> blk_simp [idx2] <;> rfl
  rw [hemb, refN_apply]
  refine (pay_apply _ _ r n).trans ?_
  refine congr (congrArg₂ rms (funext fun e => ?_) (funext fun e => ?_)) rfl
  · exact (blk_x m c t r e).trans (hostX_apply _ _ _)
  · exact (blk_g m c t 0 e).trans (hostG_apply _ _ _)

end kernel

/-- The kernel and the reference end with equal arrays of results. -/
theorem algebraic : Cert.algebraic_Kernel5Ideal_Reference5Ideal := by
  intro m g m' g' _ hm
  refine ⟨fun c => refN (m (c, Proc.tc.devRef Cert.Kernel5Ideal.main_arg0)) (m (c, Proc.tc.devRef Cert.Kernel5Ideal.main_arg1)), ?_, ?_⟩
  · exact (θ_run Cert.Kernel5Ideal.defs _ _).mono (fun r h c => ⟨(h c).1.trans (arr_eq m c), (h c).2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    exact congrArg₂ refN (hm c).1 (hm c).2

end Cert.Proof.NormPrompt
end
-- ==== Proof.CrossOut.lean ====
module

public import proofs.«01_k».proof.Defs
public import proofs.«01_k».proof.Proof.Rms
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section
set_option maxRecDepth 16384
noncomputable section

/-! The cross-attention's output projection, added to the residual stream, and the norm before the feed-forward part: the
kernel's two halves of every tile of rows put together are the reference's two arrays. -/

namespace Cert.Proof.CrossOut
open Idealize.ShloMosaic Idealize.ShloMosaic.TcCoe Idealize.SL.Sem

section reference
open Cert.Reference6Ideal Cert.Reference6Ideal.Gen

/-- The reference's residual stream. -/
def refZ (o : FVec Ideal S2x16384x2048 .f32) (w : FVec Ideal S2048x2048 .f32) (x : FVec Ideal S2x16384x2048 .f32) : FVec Ideal S2x16384x2048 .f32 :=
  addf x (Host.dotGeneral dot_S2x16384x2048_S2048x2048_S2x16384x2048_2_0_01_1_n_n none o w)

/-- The reference's first result. -/
def refY (o : FVec Ideal S2x16384x2048 .f32) (w : FVec Ideal S2048x2048 .f32) (x : FVec Ideal S2x16384x2048 .f32) : FVec Ideal S32768x2048 .f32 :=
  shapeCast _ (refZ o w x) shapeCasts_S2x16384x2048_S32768x2048

/-- The norm of a residual stream, flattened. -/
def refN (z : FVec Ideal S2x16384x2048 .f32) (g : FVec Ideal S2048 .f32) : FVec Ideal S32768x2048 .bf16 :=
  truncf .bf16 (shapeCast _ (mulf (mulf z (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf z z) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) shapeCasts_S2x16384x2048_S32768x2048) bitsLt_bf16_f32

/-- The residual stream at a token and a column. -/
theorem refZ_apply (o : FVec Ideal S2x16384x2048 .f32) (w : FVec Ideal S2048x2048 .f32) (x : FVec Ideal S2x16384x2048 .f32) (b : Fin 2) (s : Fin 16384) (n : Fin 2048) :
    refZ o w x (ix3 b s n) = x (ix3 b s n) + ∑ e : Fin 2048, o (ix3 b s e) * w (ix2 e n) := by
  pointwise [refZ]

/-- The first result at a row and a column. -/
theorem refY_apply (o : FVec Ideal S2x16384x2048 .f32) (w : FVec Ideal S2048x2048 .f32) (x : FVec Ideal S2x16384x2048 .f32) (r : Fin 32768) (n : Fin 2048) :
    refY o w x (ix2 r n) = refZ o w x (ix3 (⟨r.val / 16384, by omega⟩ : Fin 2) (⟨r.val % 16384, by omega⟩ : Fin 16384) n) := by
  unfold refY
  generalize refZ o w x = z
  pointwise

/-- The norm at a row and a column. -/
theorem refN_apply (z : FVec Ideal S2x16384x2048 .f32) (g : FVec Ideal S2048 .f32) (r : Fin 32768) (n : Fin 2048) :
    refN z g (ix2 r n) = rms (fun e => z (ix3 (⟨r.val / 16384, by omega⟩ : Fin 2) (⟨r.val % 16384, by omega⟩ : Fin 16384) e)) (fun e => g (ix1 e)) n := by
  pointwise [refN, rms]

end reference

section kernel
open Cert.Kernel6Ideal Cert.Kernel6Ideal.Gen

variable (m : (ℓ : Loc nD τ sig) → Buf (Elt Ideal) ℓ)

/-- The cross-attention's output as the kernel is given it. -/
def hostO (o : FVec Ideal S2x16384x2048 .f32) : FVec Ideal S32768x2048 .bf16 :=
  truncf .bf16 (shapeCast S32768x2048 o shapeCasts_S2x16384x2048_S32768x2048) bitsLt_bf16_f32

/-- The residual stream as the kernel is given it. -/
def hostX (x : FVec Ideal S2x16384x2048 .f32) : FVec Ideal S32768x2048 .f32 :=
  shapeCast S32768x2048 x shapeCasts_S2x16384x2048_S32768x2048

/-- The gain as the kernel is given it. -/
def hostG (g : FVec Ideal S2048 .f32) : FVec Ideal S1x2048 .f32 :=
  shapeCast S1x2048 g shapeCasts_S2048_S1x2048

theorem hostO_apply (x : FVec Ideal S2x16384x2048 .f32) (r : Fin 32768) (e : Fin 2048) :
    hostO x (ix2 r e) = x (ix3 (⟨r.val / 16384, by omega⟩ : Fin 2) (⟨r.val % 16384, by omega⟩ : Fin 16384) e) := by
  pointwise [hostO]

theorem hostX_apply (x : FVec Ideal S2x16384x2048 .f32) (r : Fin 32768) (e : Fin 2048) :
    hostX x (ix2 r e) = x (ix3 (⟨r.val / 16384, by omega⟩ : Fin 2) (⟨r.val % 16384, by omega⟩ : Fin 16384) e) := by
  pointwise [hostX]

theorem hostG_apply (g : FVec Ideal S2048 .f32) (r : Fin 1) (e : Fin 2048) : hostG g (ix2 r e) = g (ix1 e) := by
  pointwise [hostG]

theorem V_o (c : Dev nD) : V m c main_v1 = hostO (m (c, Proc.tc.devRef main_arg0)) := by
  unfold V
  after_results <;> rfl

theorem V_w (c : Dev nD) : V m c main_v2 = (truncf .bf16 (m (c, Proc.tc.devRef main_arg1) : FVec Ideal S2048x2048 .f32) bitsLt_bf16_f32 : FVec Ideal S2048x2048 .bf16) := by
  unfold V
  after_results <;> rfl

theorem V_x (c : Dev nD) : V m c main_v3 = hostX (m (c, Proc.tc.devRef main_arg2)) := by
  unfold V
  after_results <;> rfl

theorem V_g (c : Dev nD) : V m c main_v4 = hostG (m (c, Proc.tc.devRef main_arg3)) := by
  unfold V
  after_results <;> rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem covers4 : (cfg0.win 4).Covers := by decide +kernel
theorem covers5 : (cfg0.win 5).Covers := by decide +kernel

theorem lt_N (t : Fin cfg0.N) : t.val < 64 := t.isLt

/-- A grid point's block of the cross-attention's output. -/
theorem blk_o (c : Dev nD) (t : Fin cfg0.N) (r : Fin 512) (e : Fin 2048) :
    (iblk m c 0 t : Vec Ideal S512x2048 .bf16) (ix2 r e)
      = hostO (m (c, Proc.tc.devRef main_arg0)) (ix2 ⟨t.val * 512 + r.val, by have := lt_N t; omega⟩ e) := by
  unfold iblk
  show V m c main_v1 ((win0_0.blk t).view.emb (ix2 r e)) = _
  rw [V_o]
  refine congrArg (hostO _) (funext fun a => Fin.ext ?_)
  fin_cases a <;> blk_simp [idx0] <;> rfl

/-- A grid point's block of the weights is the weights. -/
theorem blk_w (c : Dev nD) (t : Fin cfg0.N) (e : Fin 2048) (n : Fin 2048) :
    (iblk m c 1 t : Vec Ideal S2048x2048 .bf16) (ix2 e n) = (m (c, Proc.tc.devRef main_arg1) : FVec Ideal S2048x2048 .f32) (ix2 e n) := by
  unfold iblk
  show V m c main_v2 ((win0_1.blk t).view.emb (ix2 e n)) = _
  rw [V_w]
  refine congrArg (m (c, Proc.tc.devRef main_arg1) : FVec Ideal S2048x2048 .f32) (funext fun a => Fin.ext ?_)
  fin_cases a <;> blk_simp [idx1] <;> rfl

/-- A grid point's block of the residual stream. -/
theorem blk_x (c : Dev nD) (t : Fin cfg0.N) (r : Fin 512) (n : Fin 2048) :
    (iblk m c 2 t : Vec Ideal S512x2048 .f32) (ix2 r n)
      = hostX (m (c, Proc.tc.devRef main_arg2)) (ix2 ⟨t.val * 512 + r.val, by have := lt_N t; omega⟩ n) := by
  unfold iblk
  show V m c main_v3 ((win0_2.blk t).view.emb (ix2 r n)) = _
  rw [V_x]
  refine congrArg (hostX _) (funext fun a => Fin.ext ?_)
  fin_cases a <;> blk_simp [idx2] <;> rfl

/-- A grid point's block of the gain is the gain. -/
theorem blk_g (c : Dev nD) (t : Fin cfg0.N) (r : Fin 1) (e : Fin 2048) :
    (iblk m c 3 t : Vec Ideal S1x2048 .f32) (ix2 r e) = hostG (m (c, Proc.tc.devRef main_arg3)) (ix2 r e) := by
  unfold iblk
  show V m c main_v4 ((win0_3.blk t).view.emb (ix2 r e)) = _
  rw [V_g]
  refine congrArg (hostG _) (funext fun a => Fin.ext ?_)
  fin_cases a <;> blk_simp [idx3] <;> rfl

/-- A block's residual stream, at an index. -/
def yAt (x0 : Vec Ideal S512x2048 .bf16) (x1 : Vec Ideal S2048x2048 .bf16) (x2 : Vec Ideal S512x2048 .f32) (r : Fin 512) (n : Fin 2048) : EReal :=
  (∑ e : Fin 2048, x0 (ix2 r e) * x1 (ix2 e n)) + x2 (ix2 r n)

theorem pay2_apply (a : Vec Ideal S256x2048 .bf16) (w : Vec Ideal S2048x2048 .bf16) (x : Vec Ideal S256x2048 .f32) (r : Fin 256) (n : Fin 2048) :
    k0_pay2 a w x (ix2 r n) = (∑ e : Fin 2048, a (ix2 r e) * w (ix2 e n)) + x (ix2 r n) := by
  pointwise [k0_pay2]

theorem pay1_apply (y : FVec Ideal S256x2048 .f32) (g : Vec Ideal S1x2048 .f32) (r : Fin 256) (n : Fin 2048) :
    k0_pay1 y g (ix2 r n) = rms (fun e => y (ix2 r e)) (fun e => g (ix2 0 e)) n := by
  pointwise [k0_pay1, rms]

theorem hz : (![0, 0] : Fin 2 → Nat) = fun _ => 0 := funext fun a => by fin_cases a <;> rfl

/-- The first half of a block. -/
theorem low_apply (x0 : Vec Ideal S512x2048 .bf16) (x1 : Vec Ideal S2048x2048 .bf16) (x2 : Vec Ideal S512x2048 .f32) (r : Fin 256) (n : Fin 2048) :
    k0_pay2 (View.ld x0 r0_0) (View.ld x1 r0_1) (View.ld x2 r0_0) (ix2 r n) = yAt x0 x1 x2 ⟨r.val, by omega⟩ n := by
  rw [View.ld_unit_zero (S := S2048x2048) hz]
  refine (pay2_apply _ _ _ r n).trans ?_
  have h : ∀ e : Fin 2048, r0_0.idx (ix2 r e) = ix2 (⟨r.val, by omega⟩ : Fin 512) e := fun e => by
    funext a; refine Fin.ext ?_; fin_cases a
    · show 0 + 1 * r.val = r.val; omega
    · show 0 + 1 * e.val = e.val; omega
  unfold yAt
  exact congrArg₂ (fun a b : EReal => a + b) (Finset.sum_congr rfl fun e _ => congrArg (fun a : EReal => a * x1 (ix2 e n)) (congrArg x0 (h e))) (congrArg x2 (h n))

/-- The second half of a block. -/
theorem high_apply (x0 : Vec Ideal S512x2048 .bf16) (x1 : Vec Ideal S2048x2048 .bf16) (x2 : Vec Ideal S512x2048 .f32) (r : Fin 256) (n : Fin 2048) :
    k0_pay2 (View.ld x0 r0_3) (View.ld x1 r0_1) (View.ld x2 r0_3) (ix2 r n) = yAt x0 x1 x2 ⟨256 + r.val, by omega⟩ n := by
  rw [View.ld_unit_zero (S := S2048x2048) hz]
  refine (pay2_apply _ _ _ r n).trans ?_
  have h : ∀ e : Fin 2048, r0_3.idx (ix2 r e) = ix2 (⟨256 + r.val, by omega⟩ : Fin 512) e := fun e => by
    funext a; refine Fin.ext ?_; fin_cases a
    · show 256 + 1 * r.val = 256 + r.val; omega
    · show 0 + 1 * e.val = e.val; omega
  unfold yAt
  exact congrArg₂ (fun a b : EReal => a + b) (Finset.sum_congr rfl fun e _ => congrArg (fun a : EReal => a * x1 (ix2 e n)) (congrArg x0 (h e))) (congrArg x2 (h n))

/-- Where the first half lies. -/
theorem low_emb (r : Fin 256) (n : Fin 2048) : r0_0.emb (ix2 r n) = ix2 (⟨r.val, by omega⟩ : Fin 512) n := by
  funext a; refine Fin.ext ?_; fin_cases a
  · show 0 + 1 * r.val = r.val; omega
  · show 0 + 1 * n.val = n.val; omega

/-- Where the second half lies. -/
theorem high_emb (r : Fin 256) (n : Fin 2048) : r0_3.emb (ix2 r n) = ix2 (⟨256 + r.val, by omega⟩ : Fin 512) n := by
  funext a; refine Fin.ext ?_; fin_cases a
  · show 256 + 1 * r.val = 256 + r.val; omega
  · show 0 + 1 * n.val = n.val; omega

/-- What the body leaves in its block of the residual stream. -/
theorem out4_apply (x0 : Vec Ideal S512x2048 .bf16) (x1 : Vec Ideal S2048x2048 .bf16) (x2 : Vec Ideal S512x2048 .f32) (x3 : Vec Ideal S1x2048 .f32) (r : Fin 512) (n : Fin 2048) :
    out0_4 x0 x1 x2 x3 (ix2 r n) = yAt x0 x1 x2 r n := by
  unfold out0_4
  refine View.canon_apply_of_pieces (Val := Elt Ideal) (fun y : S512x2048.Idx => yAt x0 x1 x2 (y 0) (y 1)) _ ?_ _ (cover0_4 _ _ _)
  intro p hp x
  rcases List.mem_cons.mp hp with rfl | hp
  · obtain ⟨r, n, rfl⟩ : ∃ (r : Fin 256) (n : Fin 2048), x = ix2 r n := ⟨x 0, x 1, eq_ix2 x⟩
    rw [high_emb]
    exact high_apply x0 x1 x2 r n
  rcases List.mem_cons.mp hp with rfl | hp
  · obtain ⟨r, n, rfl⟩ : ∃ (r : Fin 256) (n : Fin 2048), x = ix2 r n := ⟨x 0, x 1, eq_ix2 x⟩
    rw [low_emb]
    exact low_apply x0 x1 x2 r n
  nomatch hp

/-- What the body leaves in its block of the normed stream. -/
theorem out5_apply (x0 : Vec Ideal S512x2048 .bf16) (x1 : Vec Ideal S2048x2048 .bf16) (x2 : Vec Ideal S512x2048 .f32) (x3 : Vec Ideal S1x2048 .f32) (r : Fin 512) (n : Fin 2048) :
    out0_5 x0 x1 x2 x3 (ix2 r n) = rms (fun e => yAt x0 x1 x2 r e) (fun e => x3 (ix2 0 e)) n := by
  unfold out0_5
  refine View.canon_apply_of_pieces (Val := Elt Ideal) (fun y : S512x2048.Idx => rms (fun e => yAt x0 x1 x2 (y 0) e) (fun e => x3 (ix2 0 e)) (y 1)) _ ?_ _ (cover0_5 _ _ _)
  intro p hp x
  rcases List.mem_cons.mp hp with rfl | hp
  · obtain ⟨r, n, rfl⟩ : ∃ (r : Fin 256) (n : Fin 2048), x = ix2 r n := ⟨x 0, x 1, eq_ix2 x⟩
    rw [high_emb, View.ld_unit_zero (S := S1x2048) hz]
    refine (pay1_apply _ _ r n).trans ?_
    exact congrArg (fun f : Fin 2048 → EReal => rms f _ n) (funext fun e => high_apply x0 x1 x2 r e)
  rcases List.mem_cons.mp hp with rfl | hp
  · obtain ⟨r, n, rfl⟩ : ∃ (r : Fin 256) (n : Fin 2048), x = ix2 r n := ⟨x 0, x 1, eq_ix2 x⟩
    rw [low_emb, View.ld_unit_zero (S := S1x2048) hz]
    refine (pay1_apply (k0_pay2 _ _ _) _ r n).trans ?_
    exact congrArg (fun f : Fin 2048 → EReal => rms f _ n) (funext fun e => low_apply x0 x1 x2 r e)
  nomatch hp

/-- A point's residual stream is the reference's. -/
theorem y_eq (c : Dev nD) (t : Fin cfg0.N) (r : Fin 512) (n : Fin 2048) (i : Nat) (hi : i = t.val * 512 + r.val) (h : i < 32768) :
    yAt (iblk m c 0 t) (iblk m c 1 t) (iblk m c 2 t) r n
      = refZ (m (c, Proc.tc.devRef main_arg0)) (m (c, Proc.tc.devRef main_arg1)) (m (c, Proc.tc.devRef main_arg2)) (ix3 (⟨i / 16384, by omega⟩ : Fin 2) (⟨i % 16384, by omega⟩ : Fin 16384) n) := by
  have ht := lt_N t
  subst hi
  rw [refZ_apply, add_comm]
  refine congrArg₂ (fun a b : EReal => a + b) (Finset.sum_congr rfl fun e _ => congrArg₂ (fun a b : EReal => a * b) ?_ ?_) ?_
  · exact (blk_o m c t r e).trans (hostO_apply _ _ _)
  · exact blk_w m c t e n
  · exact (blk_x m c t r n).trans (hostX_apply _ _ _)

/-- The kernel's residual stream is the reference's. -/
theorem arr4_eq (c : Dev nD) :
    (dats m 0 c).arrAt 4 cfg0.N = refY (m (c, Proc.tc.devRef main_arg0)) (m (c, Proc.tc.devRef main_arg1)) (m (c, Proc.tc.devRef main_arg2)) := by
  refine (dats m 0 c).arrAt_eq_of_covers 4 _ covers4 fun t hf y => ?_
  blk_simp
  rw [after0_4]
  obtain ⟨r, n, rfl⟩ : ∃ (r : Fin 512) (n : Fin 2048), y = ix2 r n := ⟨y 0, y 1, eq_ix2 y⟩
  have ht := lt_N t
  have hemb : (win0_4.blk t).view.emb (ix2 r n) = ix2 (⟨t.val * 512 + r.val, by omega⟩ : Fin 32768) n := by
    funext a
    refine Fin.ext ?_
    fin_cases a <;> blk_simp [idx4] <;> rfl
  rw [hemb, refY_apply]
  exact (out4_apply _ _ _ _ r n).trans (y_eq m c t r n _ rfl (by omega))

/-- The kernel's normed stream is the reference's. -/
theorem arr5_eq (c : Dev nD) :
    (dats m 0 c).arrAt 5 cfg0.N = refN (refZ (m (c, Proc.tc.devRef main_arg0)) (m (c, Proc.tc.devRef main_arg1)) (m (c, Proc.tc.devRef main_arg2))) (m (c, Proc.tc.devRef main_arg3)) := by
  refine (dats m 0 c).arrAt_eq_of_covers 5 _ covers5 fun t hf y => ?_
  blk_simp
  rw [after0_5]
  obtain ⟨r, n, rfl⟩ : ∃ (r : Fin 512) (n : Fin 2048), y = ix2 r n := ⟨y 0, y 1, eq_ix2 y⟩
  have ht := lt_N t
  have hemb : (win0_5.blk t).view.emb (ix2 r n) = ix2 (⟨t.val * 512 + r.val, by omega⟩ : Fin 32768) n := by
    funext a
    refine Fin.ext ?_
    fin_cases a <;> blk_simp [idx5] <;> rfl
  rw [hemb, refN_apply]
  refine (out5_apply _ _ _ _ r n).trans ?_
  refine congr (congrArg₂ rms (funext fun e => ?_) (funext fun e => ?_)) rfl
  · exact y_eq m c t r e _ rfl (by omega)
  · exact (blk_g m c t 0 e).trans (hostG_apply _ _ _)

end kernel

/-- The kernel and the reference end with equal arrays of results. -/
theorem algebraic : Cert.algebraic_Kernel6Ideal_Reference6Ideal := by
  intro m g m' g' _ hm
  refine ⟨fun c => refY (m (c, Proc.tc.devRef Cert.Kernel6Ideal.main_arg0)) (m (c, Proc.tc.devRef Cert.Kernel6Ideal.main_arg1)) (m (c, Proc.tc.devRef Cert.Kernel6Ideal.main_arg2)),
    fun c => refN (refZ (m (c, Proc.tc.devRef Cert.Kernel6Ideal.main_arg0)) (m (c, Proc.tc.devRef Cert.Kernel6Ideal.main_arg1)) (m (c, Proc.tc.devRef Cert.Kernel6Ideal.main_arg2))) (m (c, Proc.tc.devRef Cert.Kernel6Ideal.main_arg3)), ?_, ?_⟩
  · exact (θ_run Cert.Kernel6Ideal.defs _ _).mono (fun r h c => ⟨(h c).1.trans (arr4_eq m c), (h c).2.1.trans (arr5_eq m c), (h c).2.2⟩) (Cert.Kernel6Ideal.Value.run_blocks (F := Ideal) m g)
  · refine (θ_run Cert.Reference6Ideal.defs _ _).mono (fun r h c => ⟨(h c).1.trans ?_, (h c).2.1.trans ?_, (h c).2.2⟩) (Cert.Reference6Ideal.Value.run (F := Ideal) m' g')
    · show refY (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
      rw [(hm c).1, (hm c).2.1, (hm c).2.2.1]
    · show refN (refZ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg3)) = _
      rw [(hm c).1, (hm c).2.1, (hm c).2.2.1, (hm c).2.2.2]

end Cert.Proof.CrossOut
end
-- ==== Proof.MixOut.lean ====
module

public import proofs.«01_k».proof.Defs
public import proofs.«01_k».proof.Proof.Rms
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section
set_option maxRecDepth 16384
noncomputable section

/-! The mixer's output projection: the recurrence's two directions added, normed head by head and gated, put behind the
attention's columns, projected and added to the residual stream; then the norm before the cross-attention. The kernel takes
the two halves of the columns as two products, and the eight heads and the two halves of a tile's rows one by one. -/

namespace Cert.Proof.MixOut
open Idealize.ShloMosaic Idealize.ShloMosaic.TcCoe Idealize.SL.Sem

/-- A column of a head: the head's row normed and scaled, times the gate's value times its logistic. -/
def gated (z g : Fin 128 → EReal) (d : EReal) (j : Fin 128) : EReal :=
  z j * Ideal.rsqrt (Ideal.div (∑ k, z k * z k) (Ideal.ofBits .f32 0x43000000#32) + Ideal.ofBits .f32 0x358637BD#32) * g j
    * (d * Ideal.div (Ideal.ofBits .f32 0x3F800000#32) (Ideal.ofBits .f32 0x3F800000#32 + Ideal.exp (-d)))

section reference
open Cert.Reference7Ideal Cert.Reference7Ideal.Gen

/-- The recurrence's part of the mixer, its heads side by side. -/
def refH (p q g : FVec Ideal S2x16384x8x128 .f32) (w : FVec Ideal S128 .f32) : FVec Ideal S2x16384x1024 .f32 :=
  shapeCast _ (mulf (mulf (mulf (addf p q) (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf (addf p q) (addf p q)) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 w))) (mulf g (Host.divf (broadcastInDim S2x16384x8x128 ![] bcast_S_S2x16384x8x128 (constant S_ .f32 0x3F800000#32)) (addf (broadcastInDim S2x16384x8x128 ![] bcast_S_S2x16384x8x128 (constant S_ .f32 0x3F800000#32)) (Host.exp (Host.negf g)))))) shapeCasts_S2x16384x8x128_S2x16384x1024

/-- The reference's residual stream, from the two halves of the mixer's columns. -/
def refZ (a h : FVec Ideal S2x16384x1024 .f32) (w : FVec Ideal S2048x2048 .f32) (x : FVec Ideal S2x16384x2048 .f32) : FVec Ideal S2x16384x2048 .f32 :=
  addf x (Host.dotGeneral dot_S2x16384x2048_S2048x2048_S2x16384x2048_2_0_01_1_n_n none (concatenate S2x16384x2048 2 [⟨S2x16384x1024, a⟩, ⟨S2x16384x1024, h⟩] concatenates_S2x16384x1024_S2x16384x1024_S2x16384x2048_d2) w)

/-- The reference's first result. -/
def refY (z : FVec Ideal S2x16384x2048 .f32) : FVec Ideal S32768x2048 .f32 :=
  shapeCast _ z shapeCasts_S2x16384x2048_S32768x2048

/-- The norm of a residual stream, flattened. -/
def refN (z : FVec Ideal S2x16384x2048 .f32) (g : FVec Ideal S2048 .f32) : FVec Ideal S32768x2048 .bf16 :=
  truncf .bf16 (shapeCast _ (mulf (mulf z (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf z z) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) shapeCasts_S2x16384x2048_S32768x2048) bitsLt_bf16_f32

/-- The recurrence's part at a token, a head and a column of it. -/
theorem refH_apply (p q g : FVec Ideal S2x16384x8x128 .f32) (w : FVec Ideal S128 .f32) (b : Fin 2) (s : Fin 16384) (n : Fin 1024) :
    refH p q g w (ix3 b s n) = gated (fun e => p (ix4 b s (⟨n.val / 128, by omega⟩ : Fin 8) e) + q (ix4 b s (⟨n.val / 128, by omega⟩ : Fin 8) e)) (fun e => w (ix1 e))
      (g (ix4 b s (⟨n.val / 128, by omega⟩ : Fin 8) (⟨n.val % 128, by omega⟩ : Fin 128))) ⟨n.val % 128, by omega⟩ := by
  pointwise [refH, gated]

/-- The first half of the mixer's columns. -/
theorem cat_left (a h : FVec Ideal S2x16384x1024 .f32) (b : Fin 2) (s : Fin 16384) (e : Fin 1024) (he : e.val < 2048) :
    concatenate S2x16384x2048 2 [⟨S2x16384x1024, a⟩, ⟨S2x16384x1024, h⟩] concatenates_S2x16384x1024_S2x16384x1024_S2x16384x2048_d2 (ix3 b s (⟨e.val, he⟩ : Fin 2048)) = a (ix3 b s e) := by
  refine (concatenate_pair_apply _ _ _ _ _).trans ((dif_pos (show e.val < 1024 from e.isLt)).trans ?_)
  refine congrArg a (funext fun c => Fin.ext ?_)
  rw [Shape.Idx.norm_def]
  fin_cases c <;> rfl

/-- The second half of the mixer's columns. -/
theorem cat_right (a h : FVec Ideal S2x16384x1024 .f32) (b : Fin 2) (s : Fin 16384) (e : Fin 1024) (he : 1024 + e.val < 2048) :
    concatenate S2x16384x2048 2 [⟨S2x16384x1024, a⟩, ⟨S2x16384x1024, h⟩] concatenates_S2x16384x1024_S2x16384x1024_S2x16384x2048_d2 (ix3 b s (⟨1024 + e.val, he⟩ : Fin 2048)) = h (ix3 b s e) := by
  refine (concatenate_pair_apply _ _ _ _ _).trans ((dif_neg (show ¬1024 + e.val < 1024 by omega)).trans ?_)
  refine congrArg h (funext fun c => Fin.ext ?_)
  rw [Shape.Idx.norm_def]
  fin_cases c
  · rfl
  · rfl
  · show 1024 + e.val - 1024 = e.val; omega

/-- The residual stream at a token and a column: the two halves of the contraction apart. -/
theorem refZ_apply (a h : FVec Ideal S2x16384x1024 .f32) (w : FVec Ideal S2048x2048 .f32) (x : FVec Ideal S2x16384x2048 .f32) (b : Fin 2) (s : Fin 16384) (n : Fin 2048) :
    refZ a h w x (ix3 b s n) = x (ix3 b s n) + ((∑ e : Fin 1024, a (ix3 b s e) * w (ix2 (⟨e.val, by omega⟩ : Fin 2048) n))
      + ∑ e : Fin 1024, h (ix3 b s e) * w (ix2 (⟨1024 + e.val, by omega⟩ : Fin 2048) n)) := by
  have h0 : ∀ k : FVec Ideal S2x16384x2048 .f32, addf x (Host.dotGeneral dot_S2x16384x2048_S2048x2048_S2x16384x2048_2_0_01_1_n_n none k w) (ix3 b s n)
      = x (ix3 b s n) + ∑ e : Fin 2048, k (ix3 b s e) * w (ix2 e n) := fun k => by pointwise
  refine (h0 _).trans (congrArg (fun u : EReal => x (ix3 b s n) + u) ?_)
  refine (Fin.sum_univ_add (a := 1024) (b := 1024) fun e : Fin 2048 => _ * w (ix2 e n)).trans ?_
  refine congrArg₂ (fun u v : EReal => u + v) (Finset.sum_congr rfl fun e _ => ?_) (Finset.sum_congr rfl fun e _ => ?_)
  · exact congrArg (fun u : EReal => u * _) (cat_left a h b s e _)
  · exact congrArg (fun u : EReal => u * _) (cat_right a h b s e _)

/-- The first result at a row and a column. -/
theorem refY_apply (z : FVec Ideal S2x16384x2048 .f32) (r : Fin 32768) (n : Fin 2048) :
    refY z (ix2 r n) = z (ix3 (⟨r.val / 16384, by omega⟩ : Fin 2) (⟨r.val % 16384, by omega⟩ : Fin 16384) n) := by
  pointwise [refY]

/-- The norm at a row and a column. -/
theorem refN_apply (z : FVec Ideal S2x16384x2048 .f32) (g : FVec Ideal S2048 .f32) (r : Fin 32768) (n : Fin 2048) :
    refN z g (ix2 r n) = rms (fun e => z (ix3 (⟨r.val / 16384, by omega⟩ : Fin 2) (⟨r.val % 16384, by omega⟩ : Fin 16384) e)) (fun e => g (ix1 e)) n := by
  pointwise [refN, rms]

end reference

section kernel
open Cert.Kernel7Ideal Cert.Kernel7Ideal.Gen

/-- A head's block: the payload at an index. -/
theorem head_apply (p q : Vec Ideal S256x128 .f32) (w : Vec Ideal S1x128 .f32) (g : Vec Ideal S256x128 .f32) (r : Fin 256) (j : Fin 128) :
    k0_pay3 p q w g (ix2 r j) = gated (fun e => p (ix2 r e) + q (ix2 r e)) (fun e => w (ix2 0 e)) (g (ix2 r j)) j := by
  unfold gated
  rw [← zero_sub]
  pointwise [k0_pay3]

/-- Eight heads' blocks side by side. -/
def side (p0 p1 p2 p3 p4 p5 p6 p7 : FVec Ideal S256x128 .bf16) : FVec Ideal S256x1024 .bf16 :=
  concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩] concatenates_S256x128_S256x128_S256x128_S256x128_S256x128_S256x128_S256x128_S256x128_S256x1024_d1

/-- They at an index: the block of the column's head. -/
theorem side_apply (p0 p1 p2 p3 p4 p5 p6 p7 : FVec Ideal S256x128 .bf16) (Q : Fin 8 → Fin 128 → EReal) (r : Fin 256) (n : Fin 1024)
    (h0 : ∀ j, p0 (ix2 r j) = Q 0 j) (h1 : ∀ j, p1 (ix2 r j) = Q 1 j) (h2 : ∀ j, p2 (ix2 r j) = Q 2 j) (h3 : ∀ j, p3 (ix2 r j) = Q 3 j)
    (h4 : ∀ j, p4 (ix2 r j) = Q 4 j) (h5 : ∀ j, p5 (ix2 r j) = Q 5 j) (h6 : ∀ j, p6 (ix2 r j) = Q 6 j) (h7 : ∀ j, p7 (ix2 r j) = Q 7 j) :
    side p0 p1 p2 p3 p4 p5 p6 p7 (ix2 r n) = Q (⟨n.val / 128, by omega⟩ : Fin 8) (⟨n.val % 128, by omega⟩ : Fin 128) := by
  refine (concatenate_ofFn_apply (s₁ := S256x128) (t := S256x1024) 1 (![p0, p1, p2, p3, p4, p5, p6, p7] : Fin 8 → FVec Ideal S256x128 .bf16)
    concatenates_S256x128_S256x128_S256x128_S256x128_S256x128_S256x128_S256x128_S256x128_S256x1024_d1 rfl 128 rfl (ix2 r n) (⟨n.val / 128, by omega⟩ : Fin 8) rfl
    (ix2 r (⟨n.val % 128, by omega⟩ : Fin 128)) rfl (fun b hb => by fin_cases b <;> first | rfl | exact absurd rfl hb)).trans ?_
  generalize (⟨n.val / 128, by omega⟩ : Fin 8) = h
  fin_cases h
  · exact h0 _
  · exact h1 _
  · exact h2 _
  · exact h3 _
  · exact h4 _
  · exact h5 _
  · exact h6 _
  · exact h7 _

/-- The second half's payload at an index. -/
theorem pay1_apply (h a : FVec Ideal S256x1024 .bf16) (w1 w2 : Vec Ideal S1024x2048 .bf16) (x : Vec Ideal S256x2048 .f32) (r : Fin 256) (n : Fin 2048) :
    k0_pay1 h a w1 w2 x (ix2 r n) = (∑ e : Fin 1024, a (ix2 r e) * w1 (ix2 e n)) + (∑ e : Fin 1024, h (ix2 r e) * w2 (ix2 e n)) + x (ix2 r n) := by
  pointwise [k0_pay1]

/-- The second half's normed rows are the norm of its rows. -/
theorem pay2_apply (h a : FVec Ideal S256x1024 .bf16) (w1 w2 : Vec Ideal S1024x2048 .bf16) (x : Vec Ideal S256x2048 .f32) (g : Vec Ideal S1x2048 .f32) (r : Fin 256) (n : Fin 2048) :
    k0_pay2 h a w1 w2 x g (ix2 r n) = rms (fun e => k0_pay1 h a w1 w2 x (ix2 r e)) (fun e => g (ix2 0 e)) n := by
  unfold k0_pay2
  generalize k0_pay1 h a w1 w2 x = y
  pointwise [rms]

/-- The first half's payload is the second's, of its heads side by side. -/
theorem pay20_eq (p0 p1 p2 p3 p4 p5 p6 : FVec Ideal S256x128 .bf16) (p7 : FVec Ideal S256x128 .f32) (a : Vec Ideal S256x1024 .bf16) (w1 w2 : Vec Ideal S1024x2048 .bf16) (x : Vec Ideal S256x2048 .f32) :
    k0_pay20 p0 p1 p2 p3 p4 p5 p6 p7 a w1 w2 x = k0_pay1 (side p0 p1 p2 p3 p4 p5 p6 (truncf .bf16 p7 bitsLt_bf16_f32)) (k0_pay47 a) w1 w2 x := rfl

theorem pay21_eq (p0 p1 p2 p3 p4 p5 p6 : FVec Ideal S256x128 .bf16) (p7 : FVec Ideal S256x128 .f32) (a : Vec Ideal S256x1024 .bf16) (w1 w2 : Vec Ideal S1024x2048 .bf16) (x : Vec Ideal S256x2048 .f32) (g : Vec Ideal S1x2048 .f32) :
    k0_pay21 p0 p1 p2 p3 p4 p5 p6 p7 a w1 w2 x g = k0_pay2 (side p0 p1 p2 p3 p4 p5 p6 (truncf .bf16 p7 bitsLt_bf16_f32)) (k0_pay47 a) w1 w2 x g := rfl

section blocks
variable (x0 : Vec Ideal S512x1024 .bf16) (x1 x2 x3 : Vec Ideal S512x1024 .f32) (x4 : Vec Ideal S1x128 .f32) (x5 x6 : Vec Ideal S1024x2048 .bf16) (x7 : Vec Ideal S512x2048 .f32) (x8 : Vec Ideal S1x2048 .f32)

/-- The heads of the first half of the rows. -/
def lowH : FVec Ideal S256x1024 .bf16 :=
  side (k0_pay3 (View.ld x1 r0_0) (View.ld x2 r0_0) (View.ld x4 r0_1) (View.ld x3 r0_0)) (k0_pay3 (View.ld x1 r0_2) (View.ld x2 r0_2) (View.ld x4 r0_1) (View.ld x3 r0_2))
    (k0_pay3 (View.ld x1 r0_3) (View.ld x2 r0_3) (View.ld x4 r0_1) (View.ld x3 r0_3)) (k0_pay3 (View.ld x1 r0_4) (View.ld x2 r0_4) (View.ld x4 r0_1) (View.ld x3 r0_4))
    (k0_pay3 (View.ld x1 r0_5) (View.ld x2 r0_5) (View.ld x4 r0_1) (View.ld x3 r0_5)) (k0_pay3 (View.ld x1 r0_6) (View.ld x2 r0_6) (View.ld x4 r0_1) (View.ld x3 r0_6))
    (k0_pay3 (View.ld x1 r0_7) (View.ld x2 r0_7) (View.ld x4 r0_1) (View.ld x3 r0_7)) (k0_pay3 (View.ld x1 r0_8) (View.ld x2 r0_8) (View.ld x4 r0_1) (View.ld x3 r0_8))

/-- The heads of the second half of the rows. -/
def highH : FVec Ideal S256x1024 .bf16 :=
  side (k0_pay3 (View.ld x1 r0_13) (View.ld x2 r0_13) (View.ld x4 r0_1) (View.ld x3 r0_13)) (k0_pay3 (View.ld x1 r0_14) (View.ld x2 r0_14) (View.ld x4 r0_1) (View.ld x3 r0_14))
    (k0_pay3 (View.ld x1 r0_15) (View.ld x2 r0_15) (View.ld x4 r0_1) (View.ld x3 r0_15)) (k0_pay3 (View.ld x1 r0_16) (View.ld x2 r0_16) (View.ld x4 r0_1) (View.ld x3 r0_16))
    (k0_pay3 (View.ld x1 r0_17) (View.ld x2 r0_17) (View.ld x4 r0_1) (View.ld x3 r0_17)) (k0_pay3 (View.ld x1 r0_18) (View.ld x2 r0_18) (View.ld x4 r0_1) (View.ld x3 r0_18))
    (k0_pay3 (View.ld x1 r0_19) (View.ld x2 r0_19) (View.ld x4 r0_1) (View.ld x3 r0_19)) (k0_pay3 (View.ld x1 r0_20) (View.ld x2 r0_20) (View.ld x4 r0_1) (View.ld x3 r0_20))

/-- The values that the first half's heads are. -/
theorem low_heads : side (k0_pay48 x0 x1 x2 x3 x4 x5 x6 x7 x8) (k0_pay49 x0 x1 x2 x3 x4 x5 x6 x7 x8) (k0_pay50 x0 x1 x2 x3 x4 x5 x6 x7 x8) (k0_pay51 x0 x1 x2 x3 x4 x5 x6 x7 x8)
    (k0_pay52 x0 x1 x2 x3 x4 x5 x6 x7 x8) (k0_pay53 x0 x1 x2 x3 x4 x5 x6 x7 x8) (k0_pay54 x0 x1 x2 x3 x4 x5 x6 x7 x8) (truncf .bf16 (k0_pay55 x0 x1 x2 x3 x4 x5 x6 x7 x8) bitsLt_bf16_f32) = lowH x1 x2 x3 x4 := rfl

/-- The value that the second half's heads are. -/
theorem high_heads : k0_pay56 x0 x1 x2 x3 x4 x5 x6 x7 x8 = highH x1 x2 x3 x4 := rfl

/-- A head's row at a column, from a block of rows. -/
def hgAt (r : Fin 512) (h : Fin 8) (j : Fin 128) : EReal :=
  gated (fun e => x1 (ix2 r (⟨h.val * 128 + e.val, by omega⟩ : Fin 1024)) + x2 (ix2 r (⟨h.val * 128 + e.val, by omega⟩ : Fin 1024))) (fun e => x4 (ix2 0 e))
    (x3 (ix2 r (⟨h.val * 128 + j.val, by omega⟩ : Fin 1024))) j

/-- A block's residual stream, at an index. -/
def yAt (r : Fin 512) (n : Fin 2048) : EReal :=
  (∑ e : Fin 1024, x0 (ix2 r e) * x5 (ix2 e n))
    + (∑ e : Fin 1024, hgAt x1 x2 x3 x4 r (⟨e.val / 128, by omega⟩ : Fin 8) (⟨e.val % 128, by omega⟩ : Fin 128) * x6 (ix2 e n)) + x7 (ix2 r n)

theorem hz : (![0, 0] : Fin 2 → Nat) = fun _ => 0 := funext fun a => by fin_cases a <;> rfl

/-- A head's block taken out of a block of rows. -/
theorem head_ld (o c : Nat) (hi : ∀ a, (![o, c] : Fin 2 → Nat) a + S256x128.size a ≤ S512x1024.size a) (h : Fin 8) (hc : c = h.val * 128) (r : Fin 256) (ho : o + r.val < 512) (j : Fin 128) :
    k0_pay3 (View.ld x1 (Rect.unit (s := S512x1024) ![o, c] S256x128.size hi)) (View.ld x2 (Rect.unit (s := S512x1024) ![o, c] S256x128.size hi)) (View.ld x4 r0_1)
      (View.ld x3 (Rect.unit (s := S512x1024) ![o, c] S256x128.size hi)) (ix2 r j) = hgAt x1 x2 x3 x4 ⟨o + r.val, ho⟩ h j := by
  subst hc
  rw [View.ld_unit_zero (S := S1x128) hz]
  refine (head_apply _ _ _ _ r j).trans ?_
  have hx : ∀ e : Fin 128, (Rect.unit (s := S512x1024) ![o, h.val * 128] S256x128.size hi).idx (ix2 r e) = ix2 (⟨o + r.val, ho⟩ : Fin 512) (⟨h.val * 128 + e.val, by omega⟩ : Fin 1024) := fun e => by
    funext a; refine Fin.ext ?_; fin_cases a
    · show o + 1 * r.val = o + r.val; omega
    · show h.val * 128 + 1 * e.val = h.val * 128 + e.val; omega
  unfold hgAt
  exact congr (congrArg₂ (fun (z : Fin 128 → EReal) (d : EReal) => gated z (fun e => x4 (ix2 0 e)) d) (funext fun e => congrArg₂ (fun u v : EReal => u + v) (congrArg x1 (hx e)) (congrArg x2 (hx e))) (congrArg x3 (hx j))) rfl

theorem lowH_apply (r : Fin 256) (n : Fin 1024) :
    lowH x1 x2 x3 x4 (ix2 r n) = hgAt x1 x2 x3 x4 ⟨0 + r.val, by omega⟩ (⟨n.val / 128, by omega⟩ : Fin 8) (⟨n.val % 128, by omega⟩ : Fin 128) :=
  side_apply _ _ _ _ _ _ _ _ (hgAt x1 x2 x3 x4 ⟨0 + r.val, by omega⟩) r n
    (head_ld x1 x2 x3 x4 0 0 _ 0 rfl r _) (head_ld x1 x2 x3 x4 0 128 _ 1 rfl r _) (head_ld x1 x2 x3 x4 0 256 _ 2 rfl r _) (head_ld x1 x2 x3 x4 0 384 _ 3 rfl r _)
    (head_ld x1 x2 x3 x4 0 512 _ 4 rfl r _) (head_ld x1 x2 x3 x4 0 640 _ 5 rfl r _) (head_ld x1 x2 x3 x4 0 768 _ 6 rfl r _) (head_ld x1 x2 x3 x4 0 896 _ 7 rfl r _)

theorem highH_apply (r : Fin 256) (n : Fin 1024) :
    highH x1 x2 x3 x4 (ix2 r n) = hgAt x1 x2 x3 x4 ⟨256 + r.val, by omega⟩ (⟨n.val / 128, by omega⟩ : Fin 8) (⟨n.val % 128, by omega⟩ : Fin 128) :=
  side_apply _ _ _ _ _ _ _ _ (hgAt x1 x2 x3 x4 ⟨256 + r.val, by omega⟩) r n
    (head_ld x1 x2 x3 x4 256 0 _ 0 rfl r _) (head_ld x1 x2 x3 x4 256 128 _ 1 rfl r _) (head_ld x1 x2 x3 x4 256 256 _ 2 rfl r _) (head_ld x1 x2 x3 x4 256 384 _ 3 rfl r _)
    (head_ld x1 x2 x3 x4 256 512 _ 4 rfl r _) (head_ld x1 x2 x3 x4 256 640 _ 5 rfl r _) (head_ld x1 x2 x3 x4 256 768 _ 6 rfl r _) (head_ld x1 x2 x3 x4 256 896 _ 7 rfl r _)

/-- Half a block's residual stream. -/
theorem half_apply (o : Nat) (hr : ∀ a, (![o, 0] : Fin 2 → Nat) a + S256x1024.size a ≤ S512x1024.size a) (hr' : ∀ a, (![o, 0] : Fin 2 → Nat) a + S256x2048.size a ≤ S512x2048.size a)
    (H : FVec Ideal S256x1024 .bf16) (r : Fin 256) (ho : o + r.val < 512)
    (hH : ∀ e : Fin 1024, H (ix2 r e) = hgAt x1 x2 x3 x4 ⟨o + r.val, ho⟩ (⟨e.val / 128, by omega⟩ : Fin 8) (⟨e.val % 128, by omega⟩ : Fin 128)) (n : Fin 2048) :
    k0_pay1 H (k0_pay47 (View.ld x0 (Rect.unit (s := S512x1024) ![o, 0] S256x1024.size hr))) (View.ld x5 r0_10) (View.ld x6 r0_10)
      (View.ld x7 (Rect.unit (s := S512x2048) ![o, 0] S256x2048.size hr')) (ix2 r n) = yAt x0 x1 x2 x3 x4 x5 x6 x7 ⟨o + r.val, ho⟩ n := by
  rw [View.ld_unit_zero (S := S1024x2048) hz, View.ld_unit_zero (S := S1024x2048) hz]
  refine (pay1_apply _ _ _ _ _ r n).trans ?_
  have ha : ∀ e : Fin 1024, k0_pay47 (View.ld x0 (Rect.unit (s := S512x1024) ![o, 0] S256x1024.size hr)) (ix2 r e) = x0 (ix2 (⟨o + r.val, ho⟩ : Fin 512) e) := fun e => by
    refine (show k0_pay47 (View.ld x0 (Rect.unit (s := S512x1024) ![o, 0] S256x1024.size hr)) (ix2 r e) = View.ld x0 (Rect.unit (s := S512x1024) ![o, 0] S256x1024.size hr) (ix2 r e) by
      generalize View.ld x0 (Rect.unit (s := S512x1024) ![o, 0] S256x1024.size hr) = v
      exact congrFun (shapeCast_self v _) _).trans ?_
    refine congrArg x0 ?_
    funext a; refine Fin.ext ?_; fin_cases a
    · show o + 1 * r.val = o + r.val; omega
    · show 0 + 1 * e.val = e.val; omega
  have hx : (Rect.unit (s := S512x2048) ![o, 0] S256x2048.size hr').idx (ix2 r n) = ix2 (⟨o + r.val, ho⟩ : Fin 512) n := by
    funext a; refine Fin.ext ?_; fin_cases a
    · show o + 1 * r.val = o + r.val; omega
    · show 0 + 1 * n.val = n.val; omega
  unfold yAt
  exact congrArg₂ (fun u v : EReal => u + v) (congrArg₂ (fun u v : EReal => u + v)
    (Finset.sum_congr rfl fun e _ => congrArg (fun u : EReal => u * x5 (ix2 e n)) (ha e)) (Finset.sum_congr rfl fun e _ => congrArg (fun u : EReal => u * x6 (ix2 e n)) (hH e))) (congrArg x7 hx)

/-- Where the first half lies. -/
theorem low_emb (r : Fin 256) (n : Fin 2048) : r0_11.emb (ix2 r n) = ix2 (⟨0 + r.val, by omega⟩ : Fin 512) n := by
  funext a; refine Fin.ext ?_; fin_cases a
  · show 0 + 1 * r.val = 0 + r.val; omega
  · show 0 + 1 * n.val = n.val; omega

/-- Where the second half lies. -/
theorem high_emb (r : Fin 256) (n : Fin 2048) : r0_22.emb (ix2 r n) = ix2 (⟨256 + r.val, by omega⟩ : Fin 512) n := by
  funext a; refine Fin.ext ?_; fin_cases a
  · show 256 + 1 * r.val = 256 + r.val; omega
  · show 0 + 1 * n.val = n.val; omega

/-- What the body leaves in its block of the residual stream. -/
theorem out9_apply (r : Fin 512) (n : Fin 2048) :
    out0_9 x0 x1 x2 x3 x4 x5 x6 x7 x8 (ix2 r n) = yAt x0 x1 x2 x3 x4 x5 x6 x7 r n := by
  unfold out0_9
  refine View.canon_apply_of_pieces (Val := Elt Ideal) (fun y : S512x2048.Idx => yAt x0 x1 x2 x3 x4 x5 x6 x7 (y 0) (y 1)) _ ?_ _ (cover0_9 _ _ _)
  intro p hp x
  rcases List.mem_cons.mp hp with rfl | hp
  · obtain ⟨r, n, rfl⟩ : ∃ (r : Fin 256) (n : Fin 2048), x = ix2 r n := ⟨x 0, x 1, eq_ix2 x⟩
    rw [high_emb, high_heads]
    exact half_apply x0 x1 x2 x3 x4 x5 x6 x7 256 _ _ _ r _ (highH_apply x1 x2 x3 x4 r) n
  rcases List.mem_cons.mp hp with rfl | hp
  · obtain ⟨r, n, rfl⟩ : ∃ (r : Fin 256) (n : Fin 2048), x = ix2 r n := ⟨x 0, x 1, eq_ix2 x⟩
    rw [low_emb, pay20_eq, low_heads]
    exact half_apply x0 x1 x2 x3 x4 x5 x6 x7 0 _ _ _ r _ (lowH_apply x1 x2 x3 x4 r) n
  nomatch hp

/-- What the body leaves in its block of the normed stream. -/
theorem out10_apply (r : Fin 512) (n : Fin 2048) :
    out0_10 x0 x1 x2 x3 x4 x5 x6 x7 x8 (ix2 r n) = rms (fun e => yAt x0 x1 x2 x3 x4 x5 x6 x7 r e) (fun e => x8 (ix2 0 e)) n := by
  unfold out0_10
  refine View.canon_apply_of_pieces (Val := Elt Ideal) (fun y : S512x2048.Idx => rms (fun e => yAt x0 x1 x2 x3 x4 x5 x6 x7 (y 0) e) (fun e => x8 (ix2 0 e)) (y 1)) _ ?_ _ (cover0_10 _ _ _)
  intro p hp x
  rcases List.mem_cons.mp hp with rfl | hp
  · obtain ⟨r, n, rfl⟩ : ∃ (r : Fin 256) (n : Fin 2048), x = ix2 r n := ⟨x 0, x 1, eq_ix2 x⟩
    rw [high_emb, high_heads, View.ld_unit_zero (S := S1x2048) hz]
    refine (pay2_apply _ _ _ _ _ _ r n).trans ?_
    exact congrArg (fun f : Fin 2048 → EReal => rms f _ n) (funext fun e => half_apply x0 x1 x2 x3 x4 x5 x6 x7 256 _ _ _ r _ (highH_apply x1 x2 x3 x4 r) e)
  rcases List.mem_cons.mp hp with rfl | hp
  · obtain ⟨r, n, rfl⟩ : ∃ (r : Fin 256) (n : Fin 2048), x = ix2 r n := ⟨x 0, x 1, eq_ix2 x⟩
    rw [low_emb, View.ld_unit_zero (S := S1x2048) hz, pay21_eq, low_heads]
    refine (pay2_apply _ _ _ _ _ _ r n).trans ?_
    exact congrArg (fun f : Fin 2048 → EReal => rms f _ n) (funext fun e => half_apply x0 x1 x2 x3 x4 x5 x6 x7 0 _ _ _ r _ (lowH_apply x1 x2 x3 x4 r) e)
  nomatch hp

end blocks

variable (m : (ℓ : Loc nD τ sig) → Buf (Elt Ideal) ℓ)

/-- The attention's output as the kernel is given it. -/
def hostA (a : FVec Ideal S2x16384x1024 .f32) : FVec Ideal S32768x1024 .bf16 :=
  truncf .bf16 (shapeCast S32768x1024 a shapeCasts_S2x16384x1024_S32768x1024) bitsLt_bf16_f32

/-- The recurrence's arrays as the kernel is given them. -/
def hostH (x : FVec Ideal S2x16384x8x128 .f32) : FVec Ideal S32768x1024 .f32 :=
  shapeCast S32768x1024 x shapeCasts_S2x16384x8x128_S32768x1024

/-- The residual stream as the kernel is given it. -/
def hostX (x : FVec Ideal S2x16384x2048 .f32) : FVec Ideal S32768x2048 .f32 :=
  shapeCast S32768x2048 x shapeCasts_S2x16384x2048_S32768x2048

/-- The heads' gain as the kernel is given it. -/
def hostW (g : FVec Ideal S128 .f32) : FVec Ideal S1x128 .f32 :=
  shapeCast S1x128 g shapeCasts_S128_S1x128

/-- The gain as the kernel is given it. -/
def hostG (g : FVec Ideal S2048 .f32) : FVec Ideal S1x2048 .f32 :=
  shapeCast S1x2048 g shapeCasts_S2048_S1x2048

theorem hostA_apply (x : FVec Ideal S2x16384x1024 .f32) (r : Fin 32768) (e : Fin 1024) :
    hostA x (ix2 r e) = x (ix3 (⟨r.val / 16384, by omega⟩ : Fin 2) (⟨r.val % 16384, by omega⟩ : Fin 16384) e) := by
  pointwise [hostA]

theorem hostH_apply (x : FVec Ideal S2x16384x8x128 .f32) (r : Fin 32768) (n : Fin 1024) :
    hostH x (ix2 r n) = x (ix4 (⟨r.val / 16384, by omega⟩ : Fin 2) (⟨r.val % 16384, by omega⟩ : Fin 16384) (⟨n.val / 128, by omega⟩ : Fin 8) (⟨n.val % 128, by omega⟩ : Fin 128)) := by
  pointwise [hostH]

theorem hostX_apply (x : FVec Ideal S2x16384x2048 .f32) (r : Fin 32768) (e : Fin 2048) :
    hostX x (ix2 r e) = x (ix3 (⟨r.val / 16384, by omega⟩ : Fin 2) (⟨r.val % 16384, by omega⟩ : Fin 16384) e) := by
  pointwise [hostX]

theorem hostW_apply (g : FVec Ideal S128 .f32) (r : Fin 1) (e : Fin 128) : hostW g (ix2 r e) = g (ix1 e) := by
  pointwise [hostW]

theorem hostG_apply (g : FVec Ideal S2048 .f32) (r : Fin 1) (e : Fin 2048) : hostG g (ix2 r e) = g (ix1 e) := by
  pointwise [hostG]

theorem V_a (c : Dev nD) : V m c main_v1 = hostA (m (c, Proc.tc.devRef main_arg0)) := by
  unfold V
  after_results <;> rfl

theorem V_p (c : Dev nD) : V m c main_v2 = hostH (m (c, Proc.tc.devRef main_arg1)) := by
  unfold V
  after_results <;> rfl

theorem V_q (c : Dev nD) : V m c main_v3 = hostH (m (c, Proc.tc.devRef main_arg2)) := by
  unfold V
  after_results <;> rfl

theorem V_s (c : Dev nD) : V m c main_v4 = hostH (m (c, Proc.tc.devRef main_arg3)) := by
  unfold V
  after_results <;> rfl

theorem V_w (c : Dev nD) : V m c main_v5 = (truncf .bf16 (m (c, Proc.tc.devRef main_arg5) : FVec Ideal S2048x2048 .f32) bitsLt_bf16_f32 : FVec Ideal S2048x2048 .bf16) := by
  unfold V
  after_results <;> rfl

theorem V_x (c : Dev nD) : V m c main_v6 = hostX (m (c, Proc.tc.devRef main_arg6)) := by
  unfold V
  after_results <;> rfl

theorem V_n (c : Dev nD) : V m c main_v7 = hostW (m (c, Proc.tc.devRef main_arg4)) := by
  unfold V
  after_results <;> rfl

theorem V_g (c : Dev nD) : V m c main_v8 = hostG (m (c, Proc.tc.devRef main_arg7)) := by
  unfold V
  after_results <;> rfl

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![1, 0] := by decide +kernel
theorem idx7 : ∀ t : Fin grid0.N, win0_7.index t = ![t.val, 0] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![t.val, 0] := by decide +kernel
theorem covers9 : (cfg0.win 9).Covers := by decide +kernel
theorem covers10 : (cfg0.win 10).Covers := by decide +kernel

theorem lt_N (t : Fin cfg0.N) : t.val < 64 := t.isLt

/-- A grid point's block of the attention's output. -/
theorem blk_a (c : Dev nD) (t : Fin cfg0.N) (r : Fin 512) (e : Fin 1024) :
    (iblk m c 0 t : Vec Ideal S512x1024 .bf16) (ix2 r e) = hostA (m (c, Proc.tc.devRef main_arg0)) (ix2 ⟨t.val * 512 + r.val, by have := lt_N t; omega⟩ e) := by
  unfold iblk
  show V m c main_v1 ((win0_0.blk t).view.emb (ix2 r e)) = _
  rw [V_a]
  refine congrArg (hostA _) (funext fun a => Fin.ext ?_)
  fin_cases a <;> blk_simp [idx0] <;> rfl

/-- A grid point's block of the forward direction. -/
theorem blk_p (c : Dev nD) (t : Fin cfg0.N) (r : Fin 512) (e : Fin 1024) :
    (iblk m c 1 t : Vec Ideal S512x1024 .f32) (ix2 r e) = hostH (m (c, Proc.tc.devRef main_arg1)) (ix2 ⟨t.val * 512 + r.val, by have := lt_N t; omega⟩ e) := by
  unfold iblk
  show V m c main_v2 ((win0_1.blk t).view.emb (ix2 r e)) = _
  rw [V_p]
  refine congrArg (hostH _) (funext fun a => Fin.ext ?_)
  fin_cases a <;> blk_simp [idx1] <;> rfl

/-- A grid point's block of the backward direction. -/
theorem blk_q (c : Dev nD) (t : Fin cfg0.N) (r : Fin 512) (e : Fin 1024) :
    (iblk m c 2 t : Vec Ideal S512x1024 .f32) (ix2 r e) = hostH (m (c, Proc.tc.devRef main_arg2)) (ix2 ⟨t.val * 512 + r.val, by have := lt_N t; omega⟩ e) := by
  unfold iblk
  show V m c main_v3 ((win0_2.blk t).view.emb (ix2 r e)) = _
  rw [V_q]
  refine congrArg (hostH _) (funext fun a => Fin.ext ?_)
  fin_cases a <;> blk_simp [idx2] <;> rfl

/-- A grid point's block of the gate. -/
theorem blk_s (c : Dev nD) (t : Fin cfg0.N) (r : Fin 512) (e : Fin 1024) :
    (iblk m c 3 t : Vec Ideal S512x1024 .f32) (ix2 r e) = hostH (m (c, Proc.tc.devRef main_arg3)) (ix2 ⟨t.val * 512 + r.val, by have := lt_N t; omega⟩ e) := by
  unfold iblk
  show V m c main_v4 ((win0_3.blk t).view.emb (ix2 r e)) = _
  rw [V_s]
  refine congrArg (hostH _) (funext fun a => Fin.ext ?_)
  fin_cases a <;> blk_simp [idx3] <;> rfl

/-- A grid point's block of the residual stream. -/
theorem blk_x (c : Dev nD) (t : Fin cfg0.N) (r : Fin 512) (e : Fin 2048) :
    (iblk m c 7 t : Vec Ideal S512x2048 .f32) (ix2 r e) = hostX (m (c, Proc.tc.devRef main_arg6)) (ix2 ⟨t.val * 512 + r.val, by have := lt_N t; omega⟩ e) := by
  unfold iblk
  show V m c main_v6 ((win0_7.blk t).view.emb (ix2 r e)) = _
  rw [V_x]
  refine congrArg (hostX _) (funext fun a => Fin.ext ?_)
  fin_cases a <;> blk_simp [idx7] <;> rfl

/-- A grid point's block of the heads' gain is it whole. -/
theorem blk_n (c : Dev nD) (t : Fin cfg0.N) (r : Fin 1) (e : Fin 128) :
    (iblk m c 4 t : Vec Ideal S1x128 .f32) (ix2 r e) = hostW (m (c, Proc.tc.devRef main_arg4)) (ix2 r e) := by
  unfold iblk
  show V m c main_v7 ((win0_4.blk t).view.emb (ix2 r e)) = _
  rw [V_n]
  refine congrArg (hostW _) (funext fun a => Fin.ext ?_)
  fin_cases a <;> blk_simp [idx4] <;> rfl

/-- A grid point's block of the gain is it whole. -/
theorem blk_g (c : Dev nD) (t : Fin cfg0.N) (r : Fin 1) (e : Fin 2048) :
    (iblk m c 8 t : Vec Ideal S1x2048 .f32) (ix2 r e) = hostG (m (c, Proc.tc.devRef main_arg7)) (ix2 r e) := by
  unfold iblk
  show V m c main_v8 ((win0_8.blk t).view.emb (ix2 r e)) = _
  rw [V_g]
  refine congrArg (hostG _) (funext fun a => Fin.ext ?_)
  fin_cases a <;> blk_simp [idx8] <;> rfl

/-- A grid point's block of the weights' first half. -/
theorem blk_w1 (c : Dev nD) (t : Fin cfg0.N) (e : Fin 1024) (n : Fin 2048) :
    (iblk m c 5 t : Vec Ideal S1024x2048 .bf16) (ix2 e n) = (m (c, Proc.tc.devRef main_arg5) : FVec Ideal S2048x2048 .f32) (ix2 (⟨e.val, by omega⟩ : Fin 2048) n) := by
  unfold iblk
  show V m c main_v5 ((win0_5.blk t).view.emb (ix2 e n)) = _
  rw [V_w]
  refine congrArg (m (c, Proc.tc.devRef main_arg5) : FVec Ideal S2048x2048 .f32) (funext fun a => Fin.ext ?_)
  fin_cases a <;> blk_simp [idx5] <;> rfl

/-- A grid point's block of the weights' second half. -/
theorem blk_w2 (c : Dev nD) (t : Fin cfg0.N) (e : Fin 1024) (n : Fin 2048) :
    (iblk m c 6 t : Vec Ideal S1024x2048 .bf16) (ix2 e n) = (m (c, Proc.tc.devRef main_arg5) : FVec Ideal S2048x2048 .f32) (ix2 (⟨1024 + e.val, by omega⟩ : Fin 2048) n) := by
  unfold iblk
  show V m c main_v5 ((win0_6.blk t).view.emb (ix2 e n)) = _
  rw [V_w]
  refine congrArg (m (c, Proc.tc.devRef main_arg5) : FVec Ideal S2048x2048 .f32) (funext fun a => Fin.ext ?_)
  fin_cases a <;> blk_simp [idx6] <;> rfl

/-- The recurrence's part of the reference, from the launch's arrays. -/
def hOf (c : Dev nD) : FVec Ideal S2x16384x1024 .f32 :=
  refH (m (c, Proc.tc.devRef main_arg1)) (m (c, Proc.tc.devRef main_arg2)) (m (c, Proc.tc.devRef main_arg3)) (m (c, Proc.tc.devRef main_arg4))

/-- The reference's residual stream, from the launch's arrays. -/
def zOf (c : Dev nD) : FVec Ideal S2x16384x2048 .f32 :=
  refZ (m (c, Proc.tc.devRef main_arg0)) (hOf m c) (m (c, Proc.tc.devRef main_arg5)) (m (c, Proc.tc.devRef main_arg6))

/-- A row of the recurrence's arrays at a column of a head. -/
theorem hostH_col (x : FVec Ideal S2x16384x8x128 .f32) (r : Fin 32768) (h : Fin 8) (j : Fin 128) (hj : h.val * 128 + j.val < 1024) :
    hostH x (ix2 r (⟨h.val * 128 + j.val, hj⟩ : Fin 1024)) = x (ix4 (⟨r.val / 16384, by omega⟩ : Fin 2) (⟨r.val % 16384, by omega⟩ : Fin 16384) h j) := by
  rw [hostH_apply]
  have e1 : (⟨(h.val * 128 + j.val) / 128, by omega⟩ : Fin 8) = h := Fin.ext (by show (h.val * 128 + j.val) / 128 = h.val; omega)
  have e2 : (⟨(h.val * 128 + j.val) % 128, by omega⟩ : Fin 128) = j := Fin.ext (by show (h.val * 128 + j.val) % 128 = j.val; omega)
  exact congrArg₂ (fun (a : Fin 8) (b : Fin 128) => x (ix4 _ _ a b)) e1 e2

/-- A point's part of the recurrence is the reference's. -/
theorem h_eq (c : Dev nD) (t : Fin cfg0.N) (r : Fin 512) (e : Fin 1024) (h : t.val * 512 + r.val < 32768) :
    hgAt (iblk m c 1 t) (iblk m c 2 t) (iblk m c 3 t) (iblk m c 4 t) r (⟨e.val / 128, by omega⟩ : Fin 8) (⟨e.val % 128, by omega⟩ : Fin 128)
      = hOf m c (ix3 (⟨(t.val * 512 + r.val) / 16384, by omega⟩ : Fin 2) (⟨(t.val * 512 + r.val) % 16384, by omega⟩ : Fin 16384) e) := by
  unfold hOf hgAt
  rw [refH_apply]
  refine congr (congr (congrArg₂ gated (funext fun j => congrArg₂ (fun u v : EReal => u + v) ?_ ?_) (funext fun j => ?_)) ?_) rfl
  · exact (blk_p m c t r _).trans (hostH_col _ ⟨t.val * 512 + r.val, h⟩ _ j _)
  · exact (blk_q m c t r _).trans (hostH_col _ ⟨t.val * 512 + r.val, h⟩ _ j _)
  · exact (blk_n m c t 0 j).trans (hostW_apply _ _ _)
  · exact (blk_s m c t r _).trans (hostH_col _ ⟨t.val * 512 + r.val, h⟩ _ _ _)

/-- A point's residual stream is the reference's. -/
theorem y_eq (c : Dev nD) (t : Fin cfg0.N) (r : Fin 512) (n : Fin 2048) (h : t.val * 512 + r.val < 32768) :
    yAt (iblk m c 0 t) (iblk m c 1 t) (iblk m c 2 t) (iblk m c 3 t) (iblk m c 4 t) (iblk m c 5 t) (iblk m c 6 t) (iblk m c 7 t) r n
      = zOf m c (ix3 (⟨(t.val * 512 + r.val) / 16384, by omega⟩ : Fin 2) (⟨(t.val * 512 + r.val) % 16384, by omega⟩ : Fin 16384) n) := by
  unfold zOf
  rw [refZ_apply, add_comm]
  refine congrArg₂ (fun a b : EReal => a + b) (congrArg₂ (fun a b : EReal => a + b) (Finset.sum_congr rfl fun e _ => congrArg₂ (fun a b : EReal => a * b) ?_ ?_)
    (Finset.sum_congr rfl fun e _ => congrArg₂ (fun a b : EReal => a * b) ?_ ?_)) ?_
  · exact (blk_a m c t r e).trans (hostA_apply _ _ _)
  · exact blk_w1 m c t e n
  · exact h_eq m c t r e h
  · exact blk_w2 m c t e n
  · exact (blk_x m c t r n).trans (hostX_apply _ _ _)

/-- The kernel's residual stream is the reference's. -/
theorem arr9_eq (c : Dev nD) : (dats m 0 c).arrAt 9 cfg0.N = refY (zOf m c) := by
  refine (dats m 0 c).arrAt_eq_of_covers 9 _ covers9 fun t hf y => ?_
  blk_simp
  rw [after0_9]
  obtain ⟨r, n, rfl⟩ : ∃ (r : Fin 512) (n : Fin 2048), y = ix2 r n := ⟨y 0, y 1, eq_ix2 y⟩
  have ht := lt_N t
  have hemb : (win0_9.blk t).view.emb (ix2 r n) = ix2 (⟨t.val * 512 + r.val, by omega⟩ : Fin 32768) n := by
    funext a
    refine Fin.ext ?_
    fin_cases a <;> blk_simp [idx9] <;> rfl
  rw [hemb, refY_apply]
  exact (out9_apply _ _ _ _ _ _ _ _ _ r n).trans (y_eq m c t r n (by omega))

/-- The kernel's normed stream is the reference's. -/
theorem arr10_eq (c : Dev nD) : (dats m 0 c).arrAt 10 cfg0.N = refN (zOf m c) (m (c, Proc.tc.devRef main_arg7)) := by
  refine (dats m 0 c).arrAt_eq_of_covers 10 _ covers10 fun t hf y => ?_
  blk_simp
  rw [after0_10]
  obtain ⟨r, n, rfl⟩ : ∃ (r : Fin 512) (n : Fin 2048), y = ix2 r n := ⟨y 0, y 1, eq_ix2 y⟩
  have ht := lt_N t
  have hemb : (win0_10.blk t).view.emb (ix2 r n) = ix2 (⟨t.val * 512 + r.val, by omega⟩ : Fin 32768) n := by
    funext a
    refine Fin.ext ?_
    fin_cases a <;> blk_simp [idx10] <;> rfl
  rw [hemb, refN_apply]
  refine (out10_apply _ _ _ _ _ _ _ _ _ r n).trans ?_
  refine congr (congrArg₂ rms (funext fun e => ?_) (funext fun e => ?_)) rfl
  · exact y_eq m c t r e (by omega)
  · exact (blk_g m c t 0 e).trans (hostG_apply _ _ _)

end kernel

/-- The kernel and the reference end with equal arrays of results. -/
theorem algebraic : Cert.algebraic_Kernel7Ideal_Reference7Ideal := by
  intro m g m' g' _ hm
  refine ⟨fun c => refY (zOf m c), fun c => refN (zOf m c) (m (c, Proc.tc.devRef Cert.Kernel7Ideal.main_arg7)), ?_, ?_⟩
  · exact (θ_run Cert.Kernel7Ideal.defs _ _).mono (fun r h c => ⟨(h c).1.trans (arr9_eq m c), (h c).2.1.trans (arr10_eq m c), (h c).2.2⟩) (Cert.Kernel7Ideal.Value.run_blocks (F := Ideal) m g)
  · refine (θ_run Cert.Reference7Ideal.defs _ _).mono (fun r h c => ⟨(h c).1.trans ?_, (h c).2.1.trans ?_, (h c).2.2⟩) (Cert.Reference7Ideal.Value.run (F := Ideal) m' g')
    · show refY (refZ (m' ((c.tc : Thread Cert.Reference7Ideal.nD Cert.Reference7Ideal.τ).loc Cert.Reference7Ideal.main_arg0)) (refH (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4))) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6))) = _
      rw [(hm c).1, (hm c).2.1, (hm c).2.2.1, (hm c).2.2.2.1, (hm c).2.2.2.2.1, (hm c).2.2.2.2.2.1, (hm c).2.2.2.2.2.2.1]
      rfl
    · show refN (refZ (m' ((c.tc : Thread Cert.Reference7Ideal.nD Cert.Reference7Ideal.τ).loc Cert.Reference7Ideal.main_arg0)) (refH (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4))) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6))) (m' ((c.tc : Thread Cert.Reference7Ideal.nD Cert.Reference7Ideal.τ).loc Cert.Reference7Ideal.main_arg7)) = _
      rw [(hm c).1, (hm c).2.1, (hm c).2.2.1, (hm c).2.2.2.1, (hm c).2.2.2.2.1, (hm c).2.2.2.2.2.1, (hm c).2.2.2.2.2.2.1, (hm c).2.2.2.2.2.2.2]
      rfl

end Cert.Proof.MixOut
end
-- ==== Proof.CrossRef.lean ====
module

public import proofs.«01_k».proof.Proof.Gen.Reference8Ideal
public import proofs.«01_k».proof.Proof.AttMath
public import Idealize.ShloMosaic.Lib.Pointwise

@[expose] public section
set_option maxRecDepth 16384
noncomputable section

/-! The reference of the cross-attention read at an index over the extended reals: with finite rows, weights and keys, the
memory's values summed by the softmax weights. -/

namespace Cert.Proof.Cross
open Cert.Proof.Att (smx fold_max_coe plain_out ofBits_neg_inf)
open Cert.Reference8Ideal Cert.Reference8Ideal.Gen
open Idealize.ShloMosaic

/-- The score's scale, `512 ^ (-1/2)` as a 32-bit float. -/
def sclx : ℝ := 11863283 / 268435456

theorem ofBits_sclx : Ideal.ofBits .f32 0x3D3504F3#32 = (sclx : EReal) := by
  simp [Ideal.ofBits, Ideal.ieee, sclx]
  rw [← EReal.coe_mul]; norm_num

variable (h : FVec Ideal S2x16384x2048 .f32) (w : FVec Ideal S2048x2048 .f32) (k v : FVec Ideal S2x256x2048 .f32)

/-- The reference's scores. -/
def refS : FVec Ideal S2x4x16384x256 .f32 := mulf (Host.dotGeneral dot_S2x16384x4x512_S2x256x4x512_S2x4x16384x256_3_3_1_1_02_02 none (shapeCast _ (Host.dotGeneral dot_S2x16384x2048_S2048x2048_S2x16384x2048_2_0_01_1_n_n none h w) shapeCasts_S2x16384x2048_S2x16384x4x512) (shapeCast _ k shapeCasts_S2x256x2048_S2x256x4x512)) (broadcastInDim S2x4x16384x256 ![] bcast_S_S2x4x16384x256 (constant S_ .f32 0x3D3504F3#32))

/-- The reference's largest scores. -/
def refM : FVec Ideal S2x4x16384 .f32 := maximumf (broadcastInDim S2x4x16384 ![] bcast_S_S2x4x16384 (constant S_ .f32 0xFF800000#32)) (Host.reduce FloatOps.maximumf (refS h w k) (constant S_ .f32 0xFF800000#32) reducesTo_S2x4x16384x256_S2x4x16384_d3 h_S_)

/-- The reference's exponentials. -/
def refE : FVec Ideal S2x4x16384x256 .f32 := Host.exp (subf (refS h w k) (broadcastInDim S2x4x16384x256 ![0, 1, 2, 3] bcast_S2x4x16384x1_S2x4x16384x256_0_1_2_3 (broadcastInDim S2x4x16384x1 ![0, 1, 2] bcast_S2x4x16384_S2x4x16384x1_0_1_2 (refM h w k))))

/-- The reference's weights. -/
def refP : FVec Ideal S2x4x16384x256 .f32 := Host.divf (refE h w k) (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd (refE h w k) (constant S_ .f32 0x00000000#32) reducesTo_S2x4x16384x256_S2x4x16384_d3 h_S_)))

/-- The reference's result. -/
def refA : FVec Ideal S32768x2048 .bf16 := truncf .bf16 (shapeCast _ (shapeCast _ (transpose S2x16384x4x512 [0, 3, 1, 2] (Host.dotGeneral dot_S2x256x4x512_S2x4x16384x256_S2x4x512x16384_1_3_3_2_02_01 none (shapeCast _ v shapeCasts_S2x256x2048_S2x256x4x512) (refP h w k)) transposes_S2x4x512x16384_S2x16384x4x512_0_3_1_2) shapeCasts_S2x16384x4x512_S2x16384x2048) shapeCasts_S2x16384x2048_S32768x2048) bitsLt_bf16_f32

theorem refS_apply (b : Fin 2) (a : Fin 4) (y : Fin 16384) (i : Fin 256) :
    refS h w k (ix4 b a y i) = (∑ d : Fin 512, (∑ e : Fin 2048, h (ix3 b y e) * w (ix2 e (⟨a.val * 512 + d.val, by omega⟩ : Fin 2048))) * k (ix3 b i (⟨a.val * 512 + d.val, by omega⟩ : Fin 2048))) * (sclx : EReal) := by
  pointwise [refS]
  rw [ofBits_sclx]

/-- The host's largest over the last of four axes, at an index: the largest over that axis's coordinates. -/
theorem reduceMax_r4 {n0 n1 n2 n3 : ℕ} {u : Shape} (H : (⟨4, ![n0, n1, n2, n3]⟩ : Shape).ReducesTo [3] ⟨3, ![n0, n1, n2]⟩) (hu : 0 < u.numel)
    (x : FVec Ideal ⟨4, ![n0, n1, n2, n3]⟩ .f32) (init : FVec Ideal u .f32) (a : Fin n0) (b : Fin n1) (c : Fin n2) :
    Host.reduce (FloatOps.maximumf (F := Ideal) (φ := .f32)) x init H hu (ix3 a b c)
      = Finset.univ.fold max (init (Shape.Idx.first hu)) fun i : Fin n3 => x (ix4 a b c i) := by
  rw [Host.reduce_eq_fold]
  exact H.fold_fiber_r4_a3 (ix3 a b c) max _ x

/-- The larger of the least value, everywhere, and an array, at an index. -/
theorem max_bot_apply (X : FVec Ideal S2x4x16384 .f32) (j : S2x4x16384.Idx) :
    maximumf (broadcastInDim S2x4x16384 ![] bcast_S_S2x4x16384 (constant S_ .f32 0xFF800000#32)) X j = max ⊥ (X j) := by
  rw [← ofBits_neg_inf]
  rfl

/-- The least value, as the constant it is. -/
theorem const_bot (i : S_.Idx) : (constant S_ .f32 0xFF800000#32 : FVec Ideal S_ .f32) i = ⊥ := by
  rw [← ofBits_neg_inf]
  rfl

theorem refM_apply (b : Fin 2) (a : Fin 4) (y : Fin 16384) :
    refM h w k (ix3 b a y) = max ⊥ (Finset.univ.fold max ⊥ fun i : Fin 256 => refS h w k (ix4 b a y i)) := by
  unfold refM
  rw [max_bot_apply, reduceMax_r4, const_bot]

theorem refE_apply (b : Fin 2) (a : Fin 4) (y : Fin 16384) (i : Fin 256) :
    refE h w k (ix4 b a y i) = Ideal.exp (refS h w k (ix4 b a y i) - refM h w k (ix3 b a y)) := by
  pointwise [refE]

theorem refP_apply (b : Fin 2) (a : Fin 4) (y : Fin 16384) (i : Fin 256) :
    refP h w k (ix4 b a y i) = Ideal.div (refE h w k (ix4 b a y i)) (0 + ∑ j : Fin 256, refE h w k (ix4 b a y j)) := by
  pointwise [refP]

theorem refA_apply (r : Fin 32768) (n : Fin 2048) :
    refA h w k v (ix2 r n) = ∑ i : Fin 256, v (ix3 (⟨r.val / 16384, by omega⟩ : Fin 2) i n)
      * refP h w k (ix4 (⟨r.val / 16384, by omega⟩ : Fin 2) (⟨n.val / 512, by omega⟩ : Fin 4) (⟨r.val % 16384, by omega⟩ : Fin 16384) i) := by
  pointwise [refA]

/-- The score of a token's query and a slot of the memory, in one head, to the base two. -/
def score (hr : S2x16384x2048.Idx → ℝ) (wr : S2048x2048.Idx → ℝ) (kr : S2x256x2048.Idx → ℝ) (b : Fin 2) (a : Fin 4) (y : Fin 16384) (i : ℕ) : ℝ :=
  (∑ d : Fin 512, (∑ e : Fin 2048, hr (ix3 b y e) * wr (ix2 e (⟨a.val * 512 + d.val, by omega⟩ : Fin 2048)))
    * kr (ix3 b ⟨i % 256, Nat.mod_lt _ (by omega)⟩ (⟨a.val * 512 + d.val, by omega⟩ : Fin 2048))) * (sclx / Real.log 2)

/-- One column of the memory's values. -/
def valc (b : Fin 2) (n : Fin 2048) (i : ℕ) : EReal := v (ix3 b ⟨i % 256, Nat.mod_lt _ (by omega)⟩ n)

/-- A slot's number, reduced, is itself. -/
theorem slot (i : Fin 256) : (⟨i.val % 256, Nat.mod_lt _ (by omega)⟩ : Fin 256) = i := Fin.ext (Nat.mod_eq_of_lt i.isLt)

/-- With finite entries the sums of a score are real. -/
theorem dots_coe (hr : S2x16384x2048.Idx → ℝ) (wr : S2048x2048.Idx → ℝ) (kr : S2x256x2048.Idx → ℝ) (hh : ∀ i, h i = (hr i : EReal))
    (hw : ∀ i, w i = (wr i : EReal)) (hk : ∀ i, k i = (kr i : EReal)) (b : Fin 2) (a : Fin 4) (y : Fin 16384) (i : Fin 256) :
    ∑ d : Fin 512, (∑ e : Fin 2048, h (ix3 b y e) * w (ix2 e (⟨a.val * 512 + d.val, by omega⟩ : Fin 2048))) * k (ix3 b i (⟨a.val * 512 + d.val, by omega⟩ : Fin 2048))
      = ((∑ d : Fin 512, (∑ e : Fin 2048, hr (ix3 b y e) * wr (ix2 e (⟨a.val * 512 + d.val, by omega⟩ : Fin 2048))) * kr (ix3 b i (⟨a.val * 512 + d.val, by omega⟩ : Fin 2048)) : ℝ) : EReal) := by
  rw [← Att.dot_coe (fun d : Fin 512 => ∑ e : Fin 2048, hr (ix3 b y e) * wr (ix2 e (⟨a.val * 512 + d.val, by omega⟩ : Fin 2048)))]
  refine Finset.sum_congr rfl fun d _ => congrArg₂ (fun p q : EReal => p * q) ?_ (hk _)
  rw [← Att.dot_coe]
  exact Finset.sum_congr rfl fun e _ => congrArg₂ (fun p q : EReal => p * q) (hh _) (hw _)

/-- With finite rows, weights and keys the reference is the values summed by the softmax weights. -/
theorem refA_eq (hr : S2x16384x2048.Idx → ℝ) (wr : S2048x2048.Idx → ℝ) (kr : S2x256x2048.Idx → ℝ) (hh : ∀ i, h i = (hr i : EReal))
    (hw : ∀ i, w i = (wr i : EReal)) (hk : ∀ i, k i = (kr i : EReal)) (r : Fin 32768) (n : Fin 2048) :
    refA h w k v (ix2 r n)
      = ∑ i ∈ Finset.range 256, valc v ⟨r.val / 16384, by omega⟩ n i * (smx (score hr wr kr ⟨r.val / 16384, by omega⟩ ⟨n.val / 512, by omega⟩ ⟨r.val % 16384, by omega⟩) 256 i : EReal) := by
  rw [refA_apply]
  generalize (⟨r.val / 16384, by omega⟩ : Fin 2) = b
  generalize (⟨r.val % 16384, by omega⟩ : Fin 16384) = y
  generalize (⟨n.val / 512, by omega⟩ : Fin 4) = a
  have hl : Real.log 2 ≠ 0 := (Real.log_pos (by norm_num)).ne'
  have hs (i : Fin 256) : refS h w k (ix4 b a y i) = ((score hr wr kr b a y i.val * Real.log 2 : ℝ) : EReal) := by
    rw [refS_apply, dots_coe h w k hr wr kr hh hw hk, ← EReal.coe_mul]
    unfold score
    rw [slot i, mul_assoc _ (sclx / Real.log 2), div_mul_cancel₀ _ hl]
  obtain ⟨M, hM⟩ := fold_max_coe (Finset.univ : Finset (Fin 256)) ⟨0, Finset.mem_univ _⟩ fun i => score hr wr kr b a y i.val * Real.log 2
  have hm : refM h w k (ix3 b a y) = (M : EReal) := by
    rw [refM_apply, max_eq_right bot_le, ← hM]
    exact congrArg (fun f => Finset.univ.fold max ⊥ f) (funext hs)
  rw [← plain_out (score hr wr kr b a y) (valc v b n) (by omega) M, Finset.sum_range, Finset.sum_range]
  refine Finset.sum_congr rfl fun i _ => ?_
  rw [refP_apply]
  simp only [refE_apply, hs, hm]
  unfold valc
  rw [slot i]

end Cert.Proof.Cross
end
-- ==== Proof.Cross.lean ====
module

public import proofs.«01_k».proof.Defs
public import proofs.«01_k».proof.Proof.CrossRef
public import proofs.«01_k».proof.Proof.AttAlg
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section
set_option maxRecDepth 16384
noncomputable section

/-! The cross-attention: the queries' projection and the softmax over the memory's slots, head by head. From finite rows,
weights and keys the kernel and its reference end with equal arrays of results. -/

namespace Cert.Proof.Cross
open Idealize.ShloMosaic Idealize.ShloMosaic.TcCoe Idealize.SL.Sem
open Cert.Proof.Att (smx wt fold_max_coe ofBits_neg_inf)

/-- Scores' weights against their largest, summed with the values and divided by the weights' sum, as the kernel does it. -/
def xout (s v : Fin 256 → EReal) : EReal :=
  (∑ i : Fin 256, Ideal.exp2 (s i - Finset.univ.fold max ⊥ s) * v i) * Ideal.div 1 (∑ i : Fin 256, Ideal.exp2 (s i - Finset.univ.fold max ⊥ s))

/-- With real scores that is the values summed by the softmax weights. -/
theorem xout_eq (s v : Fin 256 → EReal) (σ : ℕ → ℝ) (u : ℕ → EReal) (hs : ∀ i, s i = (σ i.val : EReal)) (hv : ∀ i, v i = u i.val) :
    xout s v = ∑ i ∈ Finset.range 256, u i * (smx σ 256 i : EReal) := by
  obtain ⟨M, hM⟩ := fold_max_coe (Finset.univ : Finset (Fin 256)) ⟨0, Finset.mem_univ _⟩ fun i => σ i.val
  have hm : Finset.univ.fold max ⊥ s = (M : EReal) := by
    rw [← hM]
    exact congrArg (fun f => Finset.univ.fold max ⊥ f) (funext hs)
  have hi : Att.Inv σ (fun _ : Unit => u) 256 (M : EReal) ((∑ i ∈ Finset.range 256, wt σ M i : ℝ) : EReal) (fun _ => ∑ i ∈ Finset.range 256, u i * (wt σ M i : EReal)) :=
    ⟨M, rfl, rfl, fun _ => rfl⟩
  rw [← hi.out (by omega) (), Att.coe_sum, Finset.sum_range, Finset.sum_range]
  unfold xout
  rw [hm]
  refine congrArg₂ (fun a b : EReal => a * Ideal.div 1 b) (Finset.sum_congr rfl fun i _ => ?_) (Finset.sum_congr rfl fun i _ => ?_)
  · rw [hs i, hv i, Att.exp2_sub, mul_comm]
  · rw [hs i, Att.exp2_sub]

section kernel
open Cert.Kernel8Ideal Cert.Kernel8Ideal.Gen

variable (m : (ℓ : Loc nD τ sig) → Buf (Elt Ideal) ℓ)

/-- The rows as the kernel is given them. -/
def hostH (x : FVec Ideal S2x16384x2048 .f32) : FVec Ideal S32768x2048 .bf16 :=
  truncf .bf16 (shapeCast S32768x2048 x shapeCasts_S2x16384x2048_S32768x2048) bitsLt_bf16_f32

/-- The memory's keys and values as the kernel is given them, side by side. -/
def hostKV (k v : FVec Ideal S2x256x2048 .f32) : FVec Ideal S2x256x4096 .bf16 :=
  truncf .bf16 (concatenate S2x256x4096 2 [⟨S2x256x2048, k⟩, ⟨S2x256x2048, v⟩] concatenates_S2x256x2048_S2x256x2048_S2x256x4096_d2) bitsLt_bf16_f32

theorem hostH_apply (x : FVec Ideal S2x16384x2048 .f32) (r : Fin 32768) (e : Fin 2048) :
    hostH x (ix2 r e) = x (ix3 (⟨r.val / 16384, by omega⟩ : Fin 2) (⟨r.val % 16384, by omega⟩ : Fin 16384) e) := by
  pointwise [hostH]

/-- The first half of the columns is the keys. -/
theorem hostKV_k (k v : FVec Ideal S2x256x2048 .f32) (b : Fin 2) (i : Fin 256) (e : Fin 2048) (he : e.val < 4096) :
    hostKV k v (ix3 b i (⟨e.val, he⟩ : Fin 4096)) = k (ix3 b i e) := by
  show concatenate S2x256x4096 2 [⟨S2x256x2048, k⟩, ⟨S2x256x2048, v⟩] concatenates_S2x256x2048_S2x256x2048_S2x256x4096_d2 (ix3 b i (⟨e.val, he⟩ : Fin 4096)) = _
  refine (concatenate_pair_apply _ _ _ _ _).trans ((dif_pos (show e.val < 2048 from e.isLt)).trans ?_)
  refine congrArg k (funext fun c => Fin.ext ?_)
  rw [Shape.Idx.norm_def]
  fin_cases c <;> rfl

/-- The second half of the columns is the values. -/
theorem hostKV_v (k v : FVec Ideal S2x256x2048 .f32) (b : Fin 2) (i : Fin 256) (e : Fin 2048) (he : 2048 + e.val < 4096) :
    hostKV k v (ix3 b i (⟨2048 + e.val, he⟩ : Fin 4096)) = v (ix3 b i e) := by
  show concatenate S2x256x4096 2 [⟨S2x256x2048, k⟩, ⟨S2x256x2048, v⟩] concatenates_S2x256x2048_S2x256x2048_S2x256x4096_d2 (ix3 b i (⟨2048 + e.val, he⟩ : Fin 4096)) = _
  refine (concatenate_pair_apply _ _ _ _ _).trans ((dif_neg (show ¬2048 + e.val < 2048 by omega)).trans ?_)
  refine congrArg v (funext fun c => Fin.ext ?_)
  rw [Shape.Idx.norm_def]
  fin_cases c
  · rfl
  · rfl
  · show 2048 + e.val - 2048 = e.val; omega

theorem V_h (c : Dev nD) : V m c main_v3 = hostH (m (c, Proc.tc.devRef main_arg0)) := by
  unfold V
  after_results <;> rfl

theorem V_w (c : Dev nD) : V m c main_v4 = (truncf .bf16 (m (c, Proc.tc.devRef main_arg1) : FVec Ideal S2048x2048 .f32) bitsLt_bf16_f32 : FVec Ideal S2048x2048 .bf16) := by
  unfold V
  after_results <;> rfl

theorem V_kv (c : Dev nD) : V m c main_v1 = hostKV (m (c, Proc.tc.devRef main_arg2)) (m (c, Proc.tc.devRef main_arg3)) := by
  unfold V
  after_results <;> rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val / 32, 0, 0] := by decide +kernel
theorem idx3 : ∀ t : Fin grid0.N, win0_3.index t = ![t.val / 32, 0, 1] := by decide +kernel
theorem idx4 : ∀ t : Fin grid0.N, win0_4.index t = ![t.val, 0] := by decide +kernel
theorem covers4 : (cfg0.win 4).Covers := by decide +kernel

theorem lt_N (t : Fin cfg0.N) : t.val < 64 := t.isLt

/-- A grid point's block of rows. -/
theorem blk_h (c : Dev nD) (t : Fin cfg0.N) (r : Fin 512) (e : Fin 2048) :
    (iblk m c 0 t : Vec Ideal S512x2048 .bf16) (ix2 r e)
      = hostH (m (c, Proc.tc.devRef main_arg0)) (ix2 ⟨t.val * 512 + r.val, by have := lt_N t; omega⟩ e) := by
  unfold iblk
  show V m c main_v3 ((win0_0.blk t).view.emb (ix2 r e)) = _
  rw [V_h]
  refine congrArg (hostH _) (funext fun a => Fin.ext ?_)
  fin_cases a <;> blk_simp [idx0] <;> rfl

/-- A grid point's block of the weights is the weights. -/
theorem blk_w (c : Dev nD) (t : Fin cfg0.N) (e : Fin 2048) (n : Fin 2048) :
    (iblk m c 1 t : Vec Ideal S2048x2048 .bf16) (ix2 e n) = (m (c, Proc.tc.devRef main_arg1) : FVec Ideal S2048x2048 .f32) (ix2 e n) := by
  unfold iblk
  show V m c main_v4 ((win0_1.blk t).view.emb (ix2 e n)) = _
  rw [V_w]
  refine congrArg (m (c, Proc.tc.devRef main_arg1) : FVec Ideal S2048x2048 .f32) (funext fun a => Fin.ext ?_)
  fin_cases a <;> blk_simp [idx1] <;> rfl

/-- A grid point's block of the keys: its sequence's. -/
theorem blk_k (c : Dev nD) (t : Fin cfg0.N) (i : Fin 256) (n : Fin 2048) :
    (iblk m c 2 t : Vec Ideal S1x256x2048 .bf16) (ix3 0 i n)
      = (m (c, Proc.tc.devRef main_arg2) : FVec Ideal S2x256x2048 .f32) (ix3 (⟨t.val / 32, by have := lt_N t; omega⟩ : Fin 2) i n) := by
  unfold iblk
  show V m c main_v1 ((win0_2.blk t).view.emb (ix3 0 i n)) = _
  rw [V_kv]
  refine Eq.trans (congrArg (hostKV _ _) (funext fun a => Fin.ext ?_)) (hostKV_k _ _ (⟨t.val / 32, by have := lt_N t; omega⟩ : Fin 2) i n (by omega))
  fin_cases a <;> blk_simp [idx2] <;> rfl

/-- A grid point's block of the values: its sequence's. -/
theorem blk_v (c : Dev nD) (t : Fin cfg0.N) (i : Fin 256) (n : Fin 2048) :
    (iblk m c 3 t : Vec Ideal S1x256x2048 .bf16) (ix3 0 i n)
      = (m (c, Proc.tc.devRef main_arg3) : FVec Ideal S2x256x2048 .f32) (ix3 (⟨t.val / 32, by have := lt_N t; omega⟩ : Fin 2) i n) := by
  unfold iblk
  show V m c main_v1 ((win0_3.blk t).view.emb (ix3 0 i n)) = _
  rw [V_kv]
  refine Eq.trans (congrArg (hostKV _ _) (funext fun a => Fin.ext ?_)) (hostKV_v _ _ (⟨t.val / 32, by have := lt_N t; omega⟩ : Fin 2) i n (by omega))
  fin_cases a <;> blk_simp [idx3] <;> rfl

/-- The kernel's scale, over the extended reals. -/
theorem scale_val : (Named.named (F := Ideal) κ "xattn_scale" 0x3D8293EE#32 : Ideal .f32) = ((sclx * (Real.log 2)⁻¹ : ℝ) : EReal) :=
  IdealRules.named_const.ideal_named_scalar _ _ _ _ rfl

/-- One head's rows, from its columns of the weights, the keys and the values. -/
theorem pay2_apply (x : Vec Ideal S512x2048 .bf16) (w : Vec Ideal S2048x512 .bf16) (K V : Vec Ideal S1x256x512 .bf16) (r d : Fin 512) :
    k0_pay2 (F := Ideal) x w K V (ix2 r d)
      = xout (fun i => (∑ p : Fin 512, (∑ e : Fin 2048, x (ix2 r e) * w (ix2 e p)) * K (ix3 0 i p)) * ((sclx * (Real.log 2)⁻¹ : ℝ) : EReal)) (fun i => V (ix3 0 i d)) := by
  rw [← scale_val]
  unfold xout
  rw [← ofBits_neg_inf]
  pointwise [k0_pay2, k0_pay1]
  rfl

/-- A block's result at an index: the column's head. -/
def hAt (x0 : Vec Ideal S512x2048 .bf16) (x1 : Vec Ideal S2048x2048 .bf16) (x2 x3 : Vec Ideal S1x256x2048 .bf16) (r : Fin 512) (n : Fin 2048) : EReal :=
  xout (fun i => (∑ p : Fin 512, (∑ e : Fin 2048, x0 (ix2 r e) * x1 (ix2 e (⟨n.val / 512 * 512 + p.val, by omega⟩ : Fin 2048)))
    * x2 (ix3 0 i (⟨n.val / 512 * 512 + p.val, by omega⟩ : Fin 2048))) * ((sclx * (Real.log 2)⁻¹ : ℝ) : EReal)) (fun i => x3 (ix3 0 i n))

theorem hz : (![0, 0] : Fin 2 → Nat) = fun _ => 0 := funext fun a => by fin_cases a <;> rfl

/-- One head of a block: the columns from `o` on. -/
theorem head_apply (x0 : Vec Ideal S512x2048 .bf16) (x1 : Vec Ideal S2048x2048 .bf16) (x2 x3 : Vec Ideal S1x256x2048 .bf16) (o : ℕ) (ho : o / 512 * 512 = o)
    (h1 : ∀ a, (![0, o] : Fin 2 → ℕ) a + S2048x512.size a ≤ S2048x2048.size a) (h2 : ∀ a, (![0, 0, o] : Fin 3 → ℕ) a + S1x256x512.size a ≤ S1x256x2048.size a)
    (r d : Fin 512) (hn : o + d.val < 2048) :
    k0_pay2 (F := Ideal) (View.ld x0 r0_0) (View.ld x1 (Rect.unit (s := S2048x2048) ![0, o] S2048x512.size h1)) (View.ld x2 (Rect.unit (s := S1x256x2048) ![0, 0, o] S1x256x512.size h2))
        (View.ld x3 (Rect.unit (s := S1x256x2048) ![0, 0, o] S1x256x512.size h2)) (ix2 r d)
      = hAt x0 x1 x2 x3 r ⟨o + d.val, hn⟩ := by
  rw [View.ld_unit_zero (S := S512x2048) hz]
  refine (pay2_apply _ _ _ _ r d).trans ?_
  have hw : ∀ (e : Fin 2048) (p : Fin 512), (Rect.unit (s := S2048x2048) ![0, o] S2048x512.size h1).idx (ix2 e p) = ix2 e (⟨(o + d.val) / 512 * 512 + p.val, by omega⟩ : Fin 2048) := fun e p => by
    funext a; refine Fin.ext ?_; fin_cases a
    · show 0 + 1 * e.val = e.val; omega
    · show o + 1 * p.val = (o + d.val) / 512 * 512 + p.val; omega
  have hk : ∀ (i : Fin 256) (p : Fin 512), (Rect.unit (s := S1x256x2048) ![0, 0, o] S1x256x512.size h2).idx (ix3 0 i p) = ix3 0 i (⟨(o + d.val) / 512 * 512 + p.val, by omega⟩ : Fin 2048) := fun i p => by
    funext a; refine Fin.ext ?_; fin_cases a
    · rfl
    · show 0 + 1 * i.val = i.val; omega
    · show o + 1 * p.val = (o + d.val) / 512 * 512 + p.val; omega
  have hv : ∀ i : Fin 256, (Rect.unit (s := S1x256x2048) ![0, 0, o] S1x256x512.size h2).idx (ix3 0 i d) = ix3 0 i (⟨o + d.val, hn⟩ : Fin 2048) := fun i => by
    funext a; refine Fin.ext ?_; fin_cases a
    · rfl
    · show 0 + 1 * i.val = i.val; omega
    · show o + 1 * d.val = o + d.val; omega
  unfold hAt
  refine congrArg₂ xout (funext fun i => congrArg (fun a : EReal => a * _) (Finset.sum_congr rfl fun p _ => congrArg₂ (fun a b : EReal => a * b) ?_ (congrArg x2 (hk i p)))) (funext fun i => congrArg x3 (hv i))
  exact Finset.sum_congr rfl fun e _ => congrArg (fun a : EReal => x0 (ix2 r e) * a) (congrArg x1 (hw e p))

/-- Where a head's columns lie. -/
theorem head_emb (o : ℕ) (h : ∀ a, (![0, o] : Fin 2 → ℕ) a + S512x512.size a ≤ S512x2048.size a) (r d : Fin 512) (hn : o + d.val < 2048) :
    (Rect.unit (s := S512x2048) ![0, o] S512x512.size h).emb (ix2 r d) = ix2 r (⟨o + d.val, hn⟩ : Fin 2048) := by
  funext a; refine Fin.ext ?_; fin_cases a
  · show 0 + 1 * r.val = r.val; omega
  · show o + 1 * d.val = o + d.val; omega

/-- What the body leaves in its block. -/
theorem out4_apply (x0 : Vec Ideal S512x2048 .bf16) (x1 : Vec Ideal S2048x2048 .bf16) (x2 x3 : Vec Ideal S1x256x2048 .bf16) (r : Fin 512) (n : Fin 2048) :
    out0_4 x0 x1 x2 x3 (ix2 r n) = hAt x0 x1 x2 x3 r n := by
  unfold out0_4
  refine View.canon_apply_of_pieces (Val := Elt Ideal) (fun y : S512x2048.Idx => hAt x0 x1 x2 x3 (y 0) (y 1)) _ ?_ _ (cover0_4 _ _ _ _ _)
  intro p hp x
  rcases List.mem_cons.mp hp with rfl | hp
  · obtain ⟨r, d, rfl⟩ : ∃ (r d : Fin 512), x = ix2 r d := ⟨x 0, x 1, eq_ix2 x⟩
    rw [head_emb 1536 _ r d (by omega)]
    exact head_apply x0 x1 x2 x3 1536 rfl _ _ r d (by omega)
  rcases List.mem_cons.mp hp with rfl | hp
  · obtain ⟨r, d, rfl⟩ : ∃ (r d : Fin 512), x = ix2 r d := ⟨x 0, x 1, eq_ix2 x⟩
    rw [head_emb 1024 _ r d (by omega)]
    exact head_apply x0 x1 x2 x3 1024 rfl _ _ r d (by omega)
  rcases List.mem_cons.mp hp with rfl | hp
  · obtain ⟨r, d, rfl⟩ : ∃ (r d : Fin 512), x = ix2 r d := ⟨x 0, x 1, eq_ix2 x⟩
    rw [head_emb 512 _ r d (by omega)]
    exact head_apply x0 x1 x2 x3 512 rfl _ _ r d (by omega)
  rcases List.mem_cons.mp hp with rfl | hp
  · obtain ⟨r, d, rfl⟩ : ∃ (r d : Fin 512), x = ix2 r d := ⟨x 0, x 1, eq_ix2 x⟩
    rw [head_emb 0 _ r d (by omega)]
    exact head_apply x0 x1 x2 x3 0 rfl _ _ r d (by omega)
  nomatch hp

/-- A point's result is the reference's. -/
theorem h_eq (c : Dev nD) (hr : S2x16384x2048.Idx → ℝ) (wr : S2048x2048.Idx → ℝ) (kr : S2x256x2048.Idx → ℝ)
    (hh : ∀ i, (m (c, Proc.tc.devRef main_arg0) : FVec Ideal S2x16384x2048 .f32) i = (hr i : EReal)) (hw : ∀ i, (m (c, Proc.tc.devRef main_arg1) : FVec Ideal S2048x2048 .f32) i = (wr i : EReal))
    (hk : ∀ i, (m (c, Proc.tc.devRef main_arg2) : FVec Ideal S2x256x2048 .f32) i = (kr i : EReal)) (t : Fin cfg0.N) (r : Fin 512) (n : Fin 2048) (h : t.val * 512 + r.val < 32768) :
    hAt (iblk m c 0 t) (iblk m c 1 t) (iblk m c 2 t) (iblk m c 3 t) r n
      = refA (m (c, Proc.tc.devRef main_arg0)) (m (c, Proc.tc.devRef main_arg1)) (m (c, Proc.tc.devRef main_arg2)) (m (c, Proc.tc.devRef main_arg3)) (ix2 (⟨t.val * 512 + r.val, h⟩ : Fin 32768) n) := by
  have ht := lt_N t
  have hb : (⟨t.val / 32, by omega⟩ : Fin 2) = ⟨(t.val * 512 + r.val) / 16384, by omega⟩ := Fin.ext (by show t.val / 32 = (t.val * 512 + r.val) / 16384; omega)
  rw [refA_eq _ _ _ _ hr wr kr hh hw hk]
  unfold hAt
  refine xout_eq _ _ _ _ (fun i => ?_) fun i => ?_
  · unfold score
    rw [slot i, div_eq_mul_inv]
    refine Eq.trans ?_ (EReal.coe_mul _ _).symm
    rw [← dots_coe _ _ _ hr wr kr hh hw hk]
    refine congrArg (fun a : EReal => a * _) (Finset.sum_congr rfl fun p _ => congrArg₂ (fun a b : EReal => a * b) (Finset.sum_congr rfl fun e _ => congrArg₂ (fun a b : EReal => a * b) ?_ ?_) ?_)
    · exact (blk_h m c t r e).trans (hostH_apply _ _ _)
    · exact blk_w m c t e _
    · exact (blk_k m c t i _).trans (congrArg (fun b => (m (c, Proc.tc.devRef main_arg2) : FVec Ideal S2x256x2048 .f32) (ix3 b i _)) hb)
  · unfold valc
    rw [slot i]
    exact (blk_v m c t i n).trans (congrArg (fun b => (m (c, Proc.tc.devRef main_arg3) : FVec Ideal S2x256x2048 .f32) (ix3 b i n)) hb)

/-- The kernel's array of results is the reference's. -/
theorem arr4_eq (c : Dev nD) (hr : S2x16384x2048.Idx → ℝ) (wr : S2048x2048.Idx → ℝ) (kr : S2x256x2048.Idx → ℝ)
    (hh : ∀ i, (m (c, Proc.tc.devRef main_arg0) : FVec Ideal S2x16384x2048 .f32) i = (hr i : EReal)) (hw : ∀ i, (m (c, Proc.tc.devRef main_arg1) : FVec Ideal S2048x2048 .f32) i = (wr i : EReal))
    (hk : ∀ i, (m (c, Proc.tc.devRef main_arg2) : FVec Ideal S2x256x2048 .f32) i = (kr i : EReal)) :
    (dats m 0 c).arrAt 4 cfg0.N = refA (m (c, Proc.tc.devRef main_arg0)) (m (c, Proc.tc.devRef main_arg1)) (m (c, Proc.tc.devRef main_arg2)) (m (c, Proc.tc.devRef main_arg3)) := by
  refine (dats m 0 c).arrAt_eq_of_covers 4 _ covers4 fun t hf y => ?_
  blk_simp
  rw [after0_4]
  obtain ⟨r, n, rfl⟩ : ∃ (r : Fin 512) (n : Fin 2048), y = ix2 r n := ⟨y 0, y 1, eq_ix2 y⟩
  have ht := lt_N t
  have hemb : (win0_4.blk t).view.emb (ix2 r n) = ix2 (⟨t.val * 512 + r.val, by omega⟩ : Fin 32768) n := by
    funext a
    refine Fin.ext ?_
    fin_cases a <;> blk_simp [idx4] <;> rfl
  rw [hemb]
  exact (out4_apply _ _ _ _ r n).trans (h_eq m c hr wr kr hh hw hk t r n (by omega))

end kernel

/-- The shape relations the precondition states. -/
theorem preFacts : Cert.Pre_hwk_finite.Facts := ⟨by decide, by decide, by decide, by decide, by decide, by decide, by decide⟩

/-- Where a conjunction over a finite set is set, every flag is. -/
theorem and_all {ι : Type} (f : ι → BitVec 1) (z : BitVec 1) (t : Finset ι) : t.fold IntOp.andi z f = 1#1 → ∀ i ∈ t, f i = 1#1 := by
  classical
  induction t using Finset.induction_on with
  | empty => intro _ i hi; exact absurd hi (Finset.notMem_empty i)
  | insert a t ha ih =>
    intro h i hi
    rw [Finset.fold_insert ha] at h
    obtain ⟨h1, h2⟩ := Att.and_one _ _ h
    rcases Finset.mem_insert.1 hi with rfl | hi
    · exact h1
    · exact ih h2 i hi

/-- An array whose magnitudes all compare below the largest holds reals. -/
theorem real_all {s : Shape} {axes : List (Fin s.rank)} (x : FVec Ideal s .f32) (B : Shape.BroadcastsInDim Cert.Pre_hwk_finite.S_ s ![])
    (init : IVec Cert.Pre_hwk_finite.S_ 1) (H : s.ReducesTo axes Cert.Pre_hwk_finite.S_) (hu : 0 < Cert.Pre_hwk_finite.S_.numel) (j : Cert.Pre_hwk_finite.S_.Idx)
    (h : Host.reduce IntOp.andi (cmpf .olt (Host.absf x) (broadcastInDim s ![] B (constant Cert.Pre_hwk_finite.S_ .f32 0x7F800000#32))) init H hu j = 1#1) (i : s.Idx) :
    x i = (((x i : EReal).toReal : ℝ) : EReal) := by
  rw [Host.reduce_eq_fold] at h
  have hi := Att.lt_of_cmp _ _ i (and_all _ _ _ h i (Finset.mem_filter.2 ⟨Finset.mem_univ _, funext fun a => a.elim0⟩))
  exact Att.real_of_abs _ (lt_of_lt_of_eq hi Att.ofBits_inf)

/-- The precondition: the rows, the weights and the keys are reals. -/
theorem real_of_pre [Cert.Pre_hwk_finite.Facts] (h : FVec Ideal Cert.Pre_hwk_finite.S2x16384x2048 .f32) (w : FVec Ideal Cert.Pre_hwk_finite.S2048x2048 .f32)
    (k v : FVec Ideal Cert.Pre_hwk_finite.S2x256x2048 .f32) (hp : Cert.Pre_hwk_finite.fn (F := Ideal) h w k v = fun _ => 1#1) :
    (∀ i, h i = (((h i : EReal).toReal : ℝ) : EReal)) ∧ (∀ i, w i = (((w i : EReal).toReal : ℝ) : EReal)) ∧ ∀ i, k i = (((k i : EReal).toReal : ℝ) : EReal) := by
  have j : Cert.Pre_hwk_finite.S_.Idx := fun a => a.elim0
  obtain ⟨h1, h2⟩ := Att.and_one _ _ (congrFun hp j)
  obtain ⟨h0, h1⟩ := Att.and_one _ _ h1
  exact ⟨real_all h _ _ _ _ j h0, real_all w _ _ _ _ j h1, real_all k _ _ _ _ j h2⟩

/-- The kernel's scale is the word the version has, named. -/
theorem preserves : Cert.preserves_Kernel8_Kernel8Ideal :=
  IdealRules.named_const.statement Cert.Kernel8Ideal.κ "xattn_scale" .f32 0x3D8293EE#32 (((11863283 / 268435456) * (Real.log 2)⁻¹ : ℝ) : EReal) rfl

/-- The reference's run: its array of results is `refA` of its arguments. -/
theorem run_ref (m : (ℓ : Loc Cert.Reference8Ideal.nD Cert.Reference8Ideal.τ Cert.Reference8Ideal.sig) → Buf (Elt Ideal) ℓ) (ρ : Dev Cert.Reference8Ideal.nD → PrngReg) :
    θ_run Cert.Reference8Ideal.defs (onTc (τ := Cert.Reference8Ideal.τ) (Cert.Reference8Ideal.main (F := Ideal))) ⟨m, fun _ => 0, ρ⟩ fun r => ∀ c : Dev Cert.Reference8Ideal.nD,
      r.2.mem ((c.tc : Thread Cert.Reference8Ideal.nD Cert.Reference8Ideal.τ).loc Cert.Reference8Ideal.main_v22)
        = refA (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3) := by
  unfold refA refP refE refM refS
  exact Cert.Reference8Ideal.Value.run (F := Ideal) m ρ

/-- With finite rows, weights and keys the kernel and the reference end with equal arrays of results. -/
theorem algebraic [Cert.Pre_hwk_finite.Facts] : Cert.algebraic_Kernel8Ideal_Reference8Ideal_pre_hwk_finite := by
  intro m g m' g' hp hm
  refine ⟨fun c => refA (m (c, Proc.tc.devRef Cert.Kernel8Ideal.main_arg0)) (m (c, Proc.tc.devRef Cert.Kernel8Ideal.main_arg1)) (m (c, Proc.tc.devRef Cert.Kernel8Ideal.main_arg2)) (m (c, Proc.tc.devRef Cert.Kernel8Ideal.main_arg3)), ?_, ?_⟩
  · refine (θ_run Cert.Kernel8Ideal.defs _ _).mono (fun r h c => ?_) (Cert.Kernel8Ideal.Value.run_blocks (F := Ideal) m g)
    obtain ⟨h0, h1, h2⟩ := real_of_pre _ _ _ _ (hp c)
    exact ⟨(h c).1.trans (arr4_eq m c _ _ _ h0 h1 h2), (h c).2⟩
  · refine (θ_run Cert.Reference8Ideal.defs _ _).mono (fun r h c => ⟨(h c).1.trans ?_, (h c).2⟩) (run_ref m' g')
    rw [(hm c).1, (hm c).2.1, (hm c).2.2.1, (hm c).2.2.2]

end Cert.Proof.Cross
end
-- ==== Proof.HgIBody.lean ====
module

public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import Idealize.ShloMosaic.Lib.VecWindow

@[expose] public section
set_option maxRecDepth 16384
noncomputable section

/-! One grid point of the gates' projections, case by case: what each of its stores leaves. -/

namespace Cert.Proof.HgI
open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

/-- A row of the bounds' block. -/
def lbRow (g : Fin 3) (b : Vec F S1x3x512 .f32) : Vec F S1x1x512 .f32 :=
  VecWindow.window (s := S1x3x512) b ![0, g.val, 0] S1x1x512.size (by
    have := g.isLt
    intro a; fin_cases a <;> simp [S1x3x512, S1x1x512] <;> omega)

/-- The point's buffers, each at its contents. -/
def held (c : Dev nD) (arg2 : Memref sig .tc .vmem S1024x2048 .f32) (arg3 : Memref sig .tc .vmem S1x2048 .f32) (arg4 : Memref sig .tc .vmem S2048x512 .bf16) (arg5 : Memref sig .tc .vmem S1x3x512 .f32) (arg6 : Memref sig .tc .vmem S1024x512 .f32) (arg7 : Memref sig .tc .vmem S1024x512 .f32) (arg8 : Memref sig .tc .vmem S1024x512 .f32) (arg9 : Memref sig .tc .vmem S1024x512 .f32) (arg10 : Memref sig .tc .vmem S1024x512 .f32) (arg11 : Memref sig .tc .vmem S1024x512 .bf16) (arg12 : Memref sig .tc .vmem S1024x512 .f32) (arg13 : Memref sig .tc .vmem S1024x2048 .bf16) (arg14 : Memref sig .tc .vmem S1024x512 .f32) (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14)

/-- The load of this row of the bounds. -/
theorem rd_lb0 {sg : RefSig} {κ : Kind} {sp : Space} (v : View sg κ sp S1x3x512 .f32) (f : v.ty.Contents (Elt F)) :
    v.readAt (Elt F) (Rect.unit (s := S1x3x512) ![0, 0, 0] S1x1x512.size inb_S1x3x512_S1x1x512_0_0_0).toLoadRect f = lbRow 0 (v.read (Elt F) f) := by
  refine (View.readAt_unit v f inb_S1x3x512_S1x1x512_0_0_0 rfl inb_S1x3x512_S1x1x512_0_0_0).trans ?_
  exact rfl
/-- The load of this row of the bounds. -/
theorem rd_lb1 {sg : RefSig} {κ : Kind} {sp : Space} (v : View sg κ sp S1x3x512 .f32) (f : v.ty.Contents (Elt F)) :
    v.readAt (Elt F) (Rect.unit (s := S1x3x512) ![0, 1, 0] S1x1x512.size inb_S1x3x512_S1x1x512_0_1_0).toLoadRect f = lbRow 1 (v.read (Elt F) f) := by
  refine (View.readAt_unit v f inb_S1x3x512_S1x1x512_0_1_0 rfl inb_S1x3x512_S1x1x512_0_1_0).trans ?_
  exact rfl
/-- The load of this row of the bounds. -/
theorem rd_lb2 {sg : RefSig} {κ : Kind} {sp : Space} (v : View sg κ sp S1x3x512 .f32) (f : v.ty.Contents (Elt F)) :
    v.readAt (Elt F) (Rect.unit (s := S1x3x512) ![0, 2, 0] S1x1x512.size inb_S1x3x512_S1x1x512_0_2_0).toLoadRect f = lbRow 2 (v.read (Elt F) f) := by
  refine (View.readAt_unit v f inb_S1x3x512_S1x1x512_0_2_0 rfl inb_S1x3x512_S1x1x512_0_2_0).trans ?_
  exact rfl

set_option maxHeartbeats 4000000 in
/-- A point of the kind: first point of a row: normalise, and the first product. -/
theorem bodyA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : Scalar.cmpi .ne (Scalar.extui (Scalar.cmpi .eq (BitVec.ofNat 32 (i 1).val) 0#32) : BitVec 32) 0#32 = 1#1) (hc2 : ¬ k0_cond2 i = 1#1) (hc3 : ¬ k0_cond3 i = 1#1) (hc4 : ¬ k0_cond4 i = 1#1) (hc5 : ¬ k0_cond5 i = 1#1) (hc6 : ¬ k0_cond6 i = 1#1) (hc7 : ¬ k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (x6) (x7) (x8) (x9) (x10) (x11) (x12) (k0_pay11 x2 x3) (k0_pay12 (k0_pay11 x2 x3) x4) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      exact h6
  isplitl [H7]
  · iexists _; isplitr [H7]; rotate_left
    · iexact H7
    · ipureintro
      exact h7
  isplitl [H8]
  · iexists _; isplitr [H8]; rotate_left
    · iexact H8
    · ipureintro
      exact h8
  isplitl [H9]
  · iexists _; isplitr [H9]; rotate_left
    · iexact H9
    · ipureintro
      exact h9
  isplitl [H10]
  · iexists _; isplitr [H10]; rotate_left
    · iexact H10
    · ipureintro
      exact h10
  isplitl [H11]
  · iexists _; isplitr [H11]; rotate_left
    · iexact H11
    · ipureintro
      exact h11
  isplitl [H12]
  · iexists _; isplitr [H12]; rotate_left
    · iexact H12
    · ipureintro
      exact h12
  isplitl [H13]
  · iexists _; isplitr [H13]; rotate_left
    · iexact H13
    · ipureintro
      refine (View.read_writes_full _ _ _ _ []).trans ?_
      simp only [e2, e3, e4, e13, e14, l0, l1, l2]
  · iexists _; isplitr [H14]; rotate_left
    · iexact H14
    · ipureintro
      refine (View.read_writes_full _ _ _ _ []).trans ?_
      delta bodyA.sl.v52
      delta bodyA.sl.H13_1
      refine (congrArg (fun h => k0_pay12 h _) (View.readCov_full _ _ _ _ _)).trans ?_
      simp only [e2, e3, e4, e13, e14, l0, l1, l2]

set_option maxHeartbeats 4000000 in
/-- A point of the kind: queries. -/
theorem bodyB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : ¬ Scalar.cmpi .ne (Scalar.extui (Scalar.cmpi .eq (BitVec.ofNat 32 (i 1).val) 0#32) : BitVec 32) 0#32 = 1#1) (hc2 : k0_cond2 i = 1#1) (hc3 : ¬ k0_cond3 i = 1#1) (hc4 : ¬ k0_cond4 i = 1#1) (hc5 : ¬ k0_cond5 i = 1#1) (hc6 : ¬ k0_cond6 i = 1#1) (hc7 : ¬ k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (k0_pay13 x14) (x7) (x8) (x9) (x10) (x11) (x12) (x13) (k0_pay14 x13 x4) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      refine (View.read_writes_full _ _ _ _ []).trans ?_
      simp only [e2, e3, e4, e13, e14, l0, l1, l2]
  isplitl [H7]
  · iexists _; isplitr [H7]; rotate_left
    · iexact H7
    · ipureintro
      exact h7
  isplitl [H8]
  · iexists _; isplitr [H8]; rotate_left
    · iexact H8
    · ipureintro
      exact h8
  isplitl [H9]
  · iexists _; isplitr [H9]; rotate_left
    · iexact H9
    · ipureintro
      exact h9
  isplitl [H10]
  · iexists _; isplitr [H10]; rotate_left
    · iexact H10
    · ipureintro
      exact h10
  isplitl [H11]
  · iexists _; isplitr [H11]; rotate_left
    · iexact H11
    · ipureintro
      exact h11
  isplitl [H12]
  · iexists _; isplitr [H12]; rotate_left
    · iexact H12
    · ipureintro
      exact h12
  isplitl [H13]
  · iexists _; isplitr [H13]; rotate_left
    · iexact H13
    · ipureintro
      exact h13
  · iexists _; isplitr [H14]; rotate_left
    · iexact H14
    · ipureintro
      refine (View.read_writes_full _ _ _ _ []).trans ?_
      simp only [e2, e3, e4, e13, e14, l0, l1, l2]

set_option maxHeartbeats 4000000 in
/-- A point of the kind: forward gate. -/
theorem bodyC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : ¬ Scalar.cmpi .ne (Scalar.extui (Scalar.cmpi .eq (BitVec.ofNat 32 (i 1).val) 0#32) : BitVec 32) 0#32 = 1#1) (hc2 : ¬ k0_cond2 i = 1#1) (hc3 : k0_cond3 i = 1#1) (hc4 : ¬ k0_cond4 i = 1#1) (hc5 : ¬ k0_cond5 i = 1#1) (hc6 : ¬ k0_cond6 i = 1#1) (hc7 : ¬ k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (x6) (k0_pay16 (k0_pay3 x14 (lbRow 0 x5) (lbRow 1 x5))) (k0_pay15 (k0_pay2 x14) (k0_pay4 x14) (k0_pay5 (lbRow 2 x5))) (x9) (x10) (x11) (x12) (x13) (k0_pay17 x13 x4) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      exact h6
  isplitl [H7]
  · iexists _; isplitr [H7]; rotate_left
    · iexact H7
    · ipureintro
      refine (View.read_writes_full _ _ _ _ []).trans ?_
      simp only [e2, e3, e4, e13, e14, l0, l1, l2]
  isplitl [H8]
  · iexists _; isplitr [H8]; rotate_left
    · iexact H8
    · ipureintro
      refine (View.read_writes_full _ _ _ _ []).trans ?_
      simp only [e2, e3, e4, e13, e14, l0, l1, l2]
  isplitl [H9]
  · iexists _; isplitr [H9]; rotate_left
    · iexact H9
    · ipureintro
      exact h9
  isplitl [H10]
  · iexists _; isplitr [H10]; rotate_left
    · iexact H10
    · ipureintro
      exact h10
  isplitl [H11]
  · iexists _; isplitr [H11]; rotate_left
    · iexact H11
    · ipureintro
      exact h11
  isplitl [H12]
  · iexists _; isplitr [H12]; rotate_left
    · iexact H12
    · ipureintro
      exact h12
  isplitl [H13]
  · iexists _; isplitr [H13]; rotate_left
    · iexact H13
    · ipureintro
      exact h13
  · iexists _; isplitr [H14]; rotate_left
    · iexact H14
    · ipureintro
      refine (View.read_writes_full _ _ _ _ []).trans ?_
      simp only [e2, e3, e4, e13, e14, l0, l1, l2]

set_option maxHeartbeats 4000000 in
/-- A point of the kind: backward gate. -/
theorem bodyD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : ¬ Scalar.cmpi .ne (Scalar.extui (Scalar.cmpi .eq (BitVec.ofNat 32 (i 1).val) 0#32) : BitVec 32) 0#32 = 1#1) (hc2 : ¬ k0_cond2 i = 1#1) (hc3 : ¬ k0_cond3 i = 1#1) (hc4 : k0_cond4 i = 1#1) (hc5 : ¬ k0_cond5 i = 1#1) (hc6 : ¬ k0_cond6 i = 1#1) (hc7 : ¬ k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (x6) (x7) (x8) (k0_pay19 (k0_pay8 x14 (lbRow 0 x5) (lbRow 1 x5))) (k0_pay18 (k0_pay7 x14) (k0_pay9 x14) (k0_pay10 (lbRow 2 x5))) (x11) (x12) (x13) (k0_pay20 x13 x4) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      exact h6
  isplitl [H7]
  · iexists _; isplitr [H7]; rotate_left
    · iexact H7
    · ipureintro
      exact h7
  isplitl [H8]
  · iexists _; isplitr [H8]; rotate_left
    · iexact H8
    · ipureintro
      exact h8
  isplitl [H9]
  · iexists _; isplitr [H9]; rotate_left
    · iexact H9
    · ipureintro
      refine (View.read_writes_full _ _ _ _ []).trans ?_
      simp only [e2, e3, e4, e13, e14, l0, l1, l2]
  isplitl [H10]
  · iexists _; isplitr [H10]; rotate_left
    · iexact H10
    · ipureintro
      refine (View.read_writes_full _ _ _ _ []).trans ?_
      simp only [e2, e3, e4, e13, e14, l0, l1, l2]
  isplitl [H11]
  · iexists _; isplitr [H11]; rotate_left
    · iexact H11
    · ipureintro
      exact h11
  isplitl [H12]
  · iexists _; isplitr [H12]; rotate_left
    · iexact H12
    · ipureintro
      exact h12
  isplitl [H13]
  · iexists _; isplitr [H13]; rotate_left
    · iexact H13
    · ipureintro
      exact h13
  · iexists _; isplitr [H14]; rotate_left
    · iexact H14
    · ipureintro
      refine (View.read_writes_full _ _ _ _ []).trans ?_
      simp only [e2, e3, e4, e13, e14, l0, l1, l2]

set_option maxHeartbeats 4000000 in
/-- A point of the kind: values. -/
theorem bodyE (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : ¬ Scalar.cmpi .ne (Scalar.extui (Scalar.cmpi .eq (BitVec.ofNat 32 (i 1).val) 0#32) : BitVec 32) 0#32 = 1#1) (hc2 : ¬ k0_cond2 i = 1#1) (hc3 : ¬ k0_cond3 i = 1#1) (hc4 : ¬ k0_cond4 i = 1#1) (hc5 : k0_cond5 i = 1#1) (hc6 : ¬ k0_cond6 i = 1#1) (hc7 : ¬ k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (x6) (x7) (x8) (x9) (x10) (k0_pay21 x14) (x12) (x13) (k0_pay22 x13 x4) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      exact h6
  isplitl [H7]
  · iexists _; isplitr [H7]; rotate_left
    · iexact H7
    · ipureintro
      exact h7
  isplitl [H8]
  · iexists _; isplitr [H8]; rotate_left
    · iexact H8
    · ipureintro
      exact h8
  isplitl [H9]
  · iexists _; isplitr [H9]; rotate_left
    · iexact H9
    · ipureintro
      exact h9
  isplitl [H10]
  · iexists _; isplitr [H10]; rotate_left
    · iexact H10
    · ipureintro
      exact h10
  isplitl [H11]
  · iexists _; isplitr [H11]; rotate_left
    · iexact H11
    · ipureintro
      refine (View.read_writes_full _ _ _ _ []).trans ?_
      simp only [e2, e3, e4, e13, e14, l0, l1, l2]
  isplitl [H12]
  · iexists _; isplitr [H12]; rotate_left
    · iexact H12
    · ipureintro
      exact h12
  isplitl [H13]
  · iexists _; isplitr [H13]; rotate_left
    · iexact H13
    · ipureintro
      exact h13
  · iexists _; isplitr [H14]; rotate_left
    · iexact H14
    · ipureintro
      refine (View.read_writes_full _ _ _ _ []).trans ?_
      simp only [e2, e3, e4, e13, e14, l0, l1, l2]

set_option maxHeartbeats 4000000 in
/-- A point of the kind: output gate, first half. -/
theorem bodyF (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : ¬ Scalar.cmpi .ne (Scalar.extui (Scalar.cmpi .eq (BitVec.ofNat 32 (i 1).val) 0#32) : BitVec 32) 0#32 = 1#1) (hc2 : ¬ k0_cond2 i = 1#1) (hc3 : ¬ k0_cond3 i = 1#1) (hc4 : ¬ k0_cond4 i = 1#1) (hc5 : ¬ k0_cond5 i = 1#1) (hc6 : k0_cond6 i = 1#1) (hc7 : ¬ k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (x6) (x7) (x8) (x9) (x10) (x11) (x14) (x13) (k0_pay23 x13 x4) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      exact h6
  isplitl [H7]
  · iexists _; isplitr [H7]; rotate_left
    · iexact H7
    · ipureintro
      exact h7
  isplitl [H8]
  · iexists _; isplitr [H8]; rotate_left
    · iexact H8
    · ipureintro
      exact h8
  isplitl [H9]
  · iexists _; isplitr [H9]; rotate_left
    · iexact H9
    · ipureintro
      exact h9
  isplitl [H10]
  · iexists _; isplitr [H10]; rotate_left
    · iexact H10
    · ipureintro
      exact h10
  isplitl [H11]
  · iexists _; isplitr [H11]; rotate_left
    · iexact H11
    · ipureintro
      exact h11
  isplitl [H12]
  · iexists _; isplitr [H12]; rotate_left
    · iexact H12
    · ipureintro
      refine (View.read_writes_full _ _ _ _ []).trans ?_
      simp only [e2, e3, e4, e13, e14, l0, l1, l2]
  isplitl [H13]
  · iexists _; isplitr [H13]; rotate_left
    · iexact H13
    · ipureintro
      exact h13
  · iexists _; isplitr [H14]; rotate_left
    · iexact H14
    · ipureintro
      refine (View.read_writes_full _ _ _ _ []).trans ?_
      simp only [e2, e3, e4, e13, e14, l0, l1, l2]

set_option maxHeartbeats 4000000 in
/-- A point of the kind: output gate, second half. -/
theorem bodyG (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x3x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x512 .f32) (harg14 : arg14.IsWhole) (hc1 : ¬ Scalar.cmpi .ne (Scalar.extui (Scalar.cmpi .eq (BitVec.ofNat 32 (i 1).val) 0#32) : BitVec 32) 0#32 = 1#1) (hc2 : ¬ k0_cond2 i = 1#1) (hc3 : ¬ k0_cond3 i = 1#1) (hc4 : ¬ k0_cond4 i = 1#1) (hc5 : ¬ k0_cond5 i = 1#1) (hc6 : ¬ k0_cond6 i = 1#1) (hc7 : k0_cond7 i = 1#1)
    (x2 : Vec F S1024x2048 .f32) (x3 : Vec F S1x2048 .f32) (x4 : Vec F S2048x512 .bf16) (x5 : Vec F S1x3x512 .f32) (x6 : Vec F S1024x512 .f32) (x7 : Vec F S1024x512 .f32) (x8 : Vec F S1024x512 .f32) (x9 : Vec F S1024x512 .f32) (x10 : Vec F S1024x512 .f32) (x11 : Vec F S1024x512 .bf16) (x12 : Vec F S1024x512 .f32) (x13 : Vec F S1024x2048 .bf16) (x14 : Vec F S1024x512 .f32) (Kont : PUnit → sProp 𝕄) :
    (iprop(held c arg2 arg3 arg4 arg5 arg6 arg7 arg8 arg9 arg10 arg11 arg12 arg13 arg14 x2 x3 x4 x5 x6 x7 x8 x9 x10 x11 x12 x13 x14 ∗ (held c arg2 arg3 arg4 arg5 arg6 arg7 arg8 arg9 arg10 arg11 arg12 arg13 arg14 (x2) (x3) (x4) (x5) (x6) (x7) (x8) (x9) (x10) (x11) (x14) (x13) (x14) -∗ Kont ⟨⟩)) : sProp 𝕄) ⊢
      wp frame (wpE defs₀ Variants.none (c : Thread nD τ) none) Set.univ (cc0_hgrn_inproj (F := F) i arg2 harg2 arg3 harg3 arg4 harg4 arg5 harg5 arg6 harg6 arg7 harg7 arg8 harg8 arg9 harg9 arg10 harg10 arg11 harg11 arg12 harg12 arg13 harg13 arg14 harg14) Kont := by
  simp only [cc0_hgrn_inproj_eq_skeleton, k0_part1_eq_skeleton, k0_part2_eq_skeleton, k0_part3_eq_skeleton]
  unfold cc0_hgrn_inproj_skel held owns
  simp only [k0_part3_eq_skeleton]
  unfold k0_part3_skel
  simp only [k0_part1_eq_skeleton, k0_part2_eq_skeleton]
  unfold k0_part1_skel k0_part2_skel
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  sl_exec (disch := first | sl_exact hc1 | exact hc1 | sl_exact hc2 | sl_exact hc3 | sl_exact hc4 | sl_exact hc5 | sl_exact hc6 | sl_exact hc7)
  have e2 : View.readAt (Elt F) arg2.view (Rect.unit (s := S1024x2048) ![0, 0] S1024x2048.size inb_S1024x2048_S1024x2048_0_0).toLoadRect (harg2.unread x2) = x2 :=
    (View.readAt_full arg2.view _ _).trans h2
  have e3 : View.readAt (Elt F) arg3.view (Rect.unit (s := S1x2048) ![0, 0] S1x2048.size inb_S1x2048_S1x2048_0_0).toLoadRect (harg3.unread x3) = x3 :=
    (View.readAt_full arg3.view _ _).trans h3
  have e4 : View.readAt (Elt F) arg4.view (Rect.unit (s := S2048x512) ![0, 0] S2048x512.size inb_S2048x512_S2048x512_0_0).toLoadRect (harg4.unread x4) = x4 :=
    (View.readAt_full arg4.view _ _).trans h4
  have e13 : View.readAt (Elt F) arg13.view (Rect.unit (s := S1024x2048) ![0, 0] S1024x2048.size inb_S1024x2048_S1024x2048_0_0).toLoadRect (harg13.unread x13) = x13 :=
    (View.readAt_full arg13.view _ _).trans h13
  have e14 : View.readAt (Elt F) arg14.view (Rect.unit (s := S1024x512) ![0, 0] S1024x512.size inb_S1024x512_S1024x512_0_0).toLoadRect (harg14.unread x14) = x14 :=
    (View.readAt_full arg14.view _ _).trans h14
  have l0 := (rd_lb0 arg5.view (harg5.unread x5)).trans (congrArg (lbRow 0) h5)
  have l1 := (rd_lb1 arg5.view (harg5.unread x5)).trans (congrArg (lbRow 1) h5)
  have l2 := (rd_lb2 arg5.view (harg5.unread x5)).trans (congrArg (lbRow 2) h5)
  sl_step
  iapply Hk
  isplitl [H2]
  · iexists _; isplitr [H2]; rotate_left
    · iexact H2
    · ipureintro
      exact h2
  isplitl [H3]
  · iexists _; isplitr [H3]; rotate_left
    · iexact H3
    · ipureintro
      exact h3
  isplitl [H4]
  · iexists _; isplitr [H4]; rotate_left
    · iexact H4
    · ipureintro
      exact h4
  isplitl [H5]
  · iexists _; isplitr [H5]; rotate_left
    · iexact H5
    · ipureintro
      exact h5
  isplitl [H6]
  · iexists _; isplitr [H6]; rotate_left
    · iexact H6
    · ipureintro
      exact h6
  isplitl [H7]
  · iexists _; isplitr [H7]; rotate_left
    · iexact H7
    · ipureintro
      exact h7
  isplitl [H8]
  · iexists _; isplitr [H8]; rotate_left
    · iexact H8
    · ipureintro
      exact h8
  isplitl [H9]
  · iexists _; isplitr [H9]; rotate_left
    · iexact H9
    · ipureintro
      exact h9
  isplitl [H10]
  · iexists _; isplitr [H10]; rotate_left
    · iexact H10
    · ipureintro
      exact h10
  isplitl [H11]
  · iexists _; isplitr [H11]; rotate_left
    · iexact H11
    · ipureintro
      exact h11
  isplitl [H12]
  · iexists _; isplitr [H12]; rotate_left
    · iexact H12
    · ipureintro
      refine (View.read_writes_full _ _ _ _ []).trans ?_
      simp only [e2, e3, e4, e13, e14, l0, l1, l2]
  isplitl [H13]
  · iexists _; isplitr [H13]; rotate_left
    · iexact H13
    · ipureintro
      exact h13
  · iexists _; isplitr [H14]; rotate_left
    · iexact H14
    · ipureintro
      exact h14

end Cert.Proof.HgI
-- ==== Proof.HgIRun.lean ====
module

public import proofs.«01_k».proof.Proof.HgIBody
public import Idealize.ShloMosaic.Lib.Pipeline.TableIdle

@[expose] public section
set_option maxRecDepth 16384
noncomputable section

/-! The launch: what every grid point leaves, the scratch carried along a row of points. -/

namespace Cert.Proof.HgI
open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-! ## The points' branches -/

/-- The grid points at which this branch of the body runs. -/
theorem br1 : ∀ t : Fin grid0.N, (Scalar.cmpi .ne (Scalar.extui (Scalar.cmpi .eq (BitVec.ofNat 32 (grid0.coords t 1).val) 0#32) : BitVec 32) 0#32 = 1#1) ↔ t.val % 11 = 0 := by decide +kernel
/-- The grid points at which this branch of the body runs. -/
theorem br2 : ∀ t : Fin grid0.N, k0_cond2 (grid0.coords t) = 1#1 ↔ (t.val % 11 = 1 ∨ t.val % 11 = 2) := by decide +kernel
/-- The grid points at which this branch of the body runs. -/
theorem br3 : ∀ t : Fin grid0.N, k0_cond3 (grid0.coords t) = 1#1 ↔ (t.val % 11 = 3 ∨ t.val % 11 = 4) := by decide +kernel
/-- The grid points at which this branch of the body runs. -/
theorem br4 : ∀ t : Fin grid0.N, k0_cond4 (grid0.coords t) = 1#1 ↔ (t.val % 11 = 5 ∨ t.val % 11 = 6) := by decide +kernel
/-- The grid points at which this branch of the body runs. -/
theorem br5 : ∀ t : Fin grid0.N, k0_cond5 (grid0.coords t) = 1#1 ↔ (t.val % 11 = 7 ∨ t.val % 11 = 8) := by decide +kernel
/-- The grid points at which this branch of the body runs. -/
theorem br6 : ∀ t : Fin grid0.N, k0_cond6 (grid0.coords t) = 1#1 ↔ t.val % 11 = 9 := by decide +kernel
/-- The grid points at which this branch of the body runs. -/
theorem br7 : ∀ t : Fin grid0.N, k0_cond7 (grid0.coords t) = 1#1 ↔ t.val % 11 = 10 := by decide +kernel

/-! ## When a window's block is written back -/

/-- The grid points at which this window's block may be written back. -/
theorem fl4 : ∀ t : Fin grid0.N, win0_4.flush t = true → (t.val % 11 = 1 ∨ t.val % 11 = 2 ∨ t.val = 351) := by decide +kernel
/-- The grid points that leave this window's block alone. -/
theorem lv4 : ∀ t : Fin grid0.N, idle0 4 (grid0.coords t) = true ↔ ¬ (t.val % 11 = 1 ∨ t.val % 11 = 2) := by decide +kernel
/-- The block is not yet written back at the last point that writes it. -/
theorem nf4 : win0_4.flush (⟨343, by decide⟩ : Fin grid0.N) = false := by decide +kernel
/-- The grid points at which this window's block may be written back. -/
theorem fl5 : ∀ t : Fin grid0.N, win0_5.flush t = true → (t.val % 11 = 3 ∨ t.val % 11 = 4 ∨ t.val = 351) := by decide +kernel
/-- The grid points that leave this window's block alone. -/
theorem lv5 : ∀ t : Fin grid0.N, idle0 5 (grid0.coords t) = true ↔ ¬ (t.val % 11 = 3 ∨ t.val % 11 = 4) := by decide +kernel
/-- The block is not yet written back at the last point that writes it. -/
theorem nf5 : win0_5.flush (⟨345, by decide⟩ : Fin grid0.N) = false := by decide +kernel
/-- The grid points at which this window's block may be written back. -/
theorem fl6 : ∀ t : Fin grid0.N, win0_6.flush t = true → (t.val % 11 = 3 ∨ t.val % 11 = 4 ∨ t.val = 351) := by decide +kernel
/-- The grid points that leave this window's block alone. -/
theorem lv6 : ∀ t : Fin grid0.N, idle0 6 (grid0.coords t) = true ↔ ¬ (t.val % 11 = 3 ∨ t.val % 11 = 4) := by decide +kernel
/-- The block is not yet written back at the last point that writes it. -/
theorem nf6 : win0_6.flush (⟨345, by decide⟩ : Fin grid0.N) = false := by decide +kernel
/-- The grid points at which this window's block may be written back. -/
theorem fl7 : ∀ t : Fin grid0.N, win0_7.flush t = true → (t.val % 11 = 5 ∨ t.val % 11 = 6 ∨ t.val = 351) := by decide +kernel
/-- The grid points that leave this window's block alone. -/
theorem lv7 : ∀ t : Fin grid0.N, idle0 7 (grid0.coords t) = true ↔ ¬ (t.val % 11 = 5 ∨ t.val % 11 = 6) := by decide +kernel
/-- The block is not yet written back at the last point that writes it. -/
theorem nf7 : win0_7.flush (⟨347, by decide⟩ : Fin grid0.N) = false := by decide +kernel
/-- The grid points at which this window's block may be written back. -/
theorem fl8 : ∀ t : Fin grid0.N, win0_8.flush t = true → (t.val % 11 = 5 ∨ t.val % 11 = 6 ∨ t.val = 351) := by decide +kernel
/-- The grid points that leave this window's block alone. -/
theorem lv8 : ∀ t : Fin grid0.N, idle0 8 (grid0.coords t) = true ↔ ¬ (t.val % 11 = 5 ∨ t.val % 11 = 6) := by decide +kernel
/-- The block is not yet written back at the last point that writes it. -/
theorem nf8 : win0_8.flush (⟨347, by decide⟩ : Fin grid0.N) = false := by decide +kernel
/-- The grid points at which this window's block may be written back. -/
theorem fl9 : ∀ t : Fin grid0.N, win0_9.flush t = true → (t.val % 11 = 7 ∨ t.val % 11 = 8 ∨ t.val = 351) := by decide +kernel
/-- The grid points that leave this window's block alone. -/
theorem lv9 : ∀ t : Fin grid0.N, idle0 9 (grid0.coords t) = true ↔ ¬ (t.val % 11 = 7 ∨ t.val % 11 = 8) := by decide +kernel
/-- The block is not yet written back at the last point that writes it. -/
theorem nf9 : win0_9.flush (⟨349, by decide⟩ : Fin grid0.N) = false := by decide +kernel
/-- The grid points at which this window's block may be written back. -/
theorem fl10 : ∀ t : Fin grid0.N, win0_10.flush t = true → (t.val % 11 = 9 ∨ t.val % 11 = 10) := by decide +kernel
/-- The grid points that leave this window's block alone. -/
theorem lv10 : ∀ t : Fin grid0.N, idle0 10 (grid0.coords t) = true ↔ ¬ (t.val % 11 = 9 ∨ t.val % 11 = 10) := by decide +kernel

/-! ## What the scratch and the results' blocks hold -/

/-- The point of a number. -/
def pt (n : ℕ) : Fin cfg0.N := ⟨min n 351, by have h : cfg0.N = 352 := N_0; omega⟩
/-- The grid point of a number below 352. -/
theorem pt_val (t : Fin cfg0.N) : pt t.val = t := by
  apply Fin.ext; have h := t.isLt; have h' : cfg0.N = 352 := N_0; simp only [pt]; omega

/-- The normalised rows of point `n`'s row of points. -/
def hS (c : Dev nD) (n : ℕ) : Vec F S1024x2048 .bf16 := k0_pay11 (iblk m c 0 (pt (n - n % 11))) (iblk m c 1 (pt (n - n % 11)))
/-- The product made at point `n`. -/
def zS (c : Dev nD) (n : ℕ) : Vec F S1024x512 .f32 := k0_pay12 (hS m c n) (iblk m c 2 (pt n))

/-- The normed rows stay along a row of points. -/
theorem hS_prev (c : Dev nD) (n : ℕ) (h : n % 11 ≠ 0) : hS m c (n - 1) = hS m c n := by
  unfold hS; rw [show n - 1 - (n - 1) % 11 = n - n % 11 by omega]
/-- The first point of a row of points makes the normed rows. -/
theorem hS_first (c : Dev nD) (t : Fin cfg0.N) (h : t.val % 11 = 0) : hS m c t.val = k0_pay11 (iblk m c 0 t) (iblk m c 1 t) := by
  unfold hS; rw [h, Nat.sub_zero, pt_val]
/-- The product held after a grid point. -/
theorem zS_at (c : Dev nD) (t : Fin cfg0.N) : zS m c t.val = k0_pay12 (hS m c t.val) (iblk m c 2 t) := by
  unfold zS; rw [pt_val]

/-- The block each results' window is left with at point `n`. -/
def out4 (c : Dev nD) (n : ℕ) : Vec F S1024x512 .f32 := k0_pay13 (zS m c (n - 1))
def out5 (c : Dev nD) (n : ℕ) : Vec F S1024x512 .f32 := k0_pay16 (k0_pay3 (zS m c (n - 1)) (lbRow 0 (iblk m c 3 (pt n))) (lbRow 1 (iblk m c 3 (pt n))))
def out6 (c : Dev nD) (n : ℕ) : Vec F S1024x512 .f32 := k0_pay15 (k0_pay2 (zS m c (n - 1))) (k0_pay4 (zS m c (n - 1))) (k0_pay5 (lbRow 2 (iblk m c 3 (pt n))))
def out7 (c : Dev nD) (n : ℕ) : Vec F S1024x512 .f32 := k0_pay19 (k0_pay8 (zS m c (n - 1)) (lbRow 0 (iblk m c 3 (pt n))) (lbRow 1 (iblk m c 3 (pt n))))
def out8 (c : Dev nD) (n : ℕ) : Vec F S1024x512 .f32 := k0_pay18 (k0_pay7 (zS m c (n - 1))) (k0_pay9 (zS m c (n - 1))) (k0_pay10 (lbRow 2 (iblk m c 3 (pt n))))
def out9 (c : Dev nD) (n : ℕ) : Vec F S1024x512 .bf16 := k0_pay21 (zS m c (n - 1))
def out10 (c : Dev nD) (n : ℕ) : Vec F S1024x512 .f32 := zS m c (n - 1)

/-- The point whose block a window holds at `n`: the last point writes back a block stored before it. -/
def wr (k n : ℕ) : ℕ := if n = 351 then k else n
/-- But for the last point, a block is the one of its own point. -/
theorem wr_of (k n : ℕ) (h : n ≠ 351) : wr k n = n := if_neg h

/-- The scratch before point `n`: within a row of points, the row's normalised rows and the product made last. -/
def inv (c : Dev nD) (n : ℕ) : sProp 𝕄 :=
  iprop((∃ X Z, ⌜n % 11 ≠ 0 → X = hS m c (n - 1) ∧ Z = zS m c (n - 1)⌝ ∗ owns (c : Thread nD τ) (Memref.whole cc0_scratch0) fullShare X ∗ owns (c : Thread nD τ) (Memref.whole cc0_scratch1) fullShare Z) ∗ (∃ r, prngReg c r))

/-- The scratch, whatever it holds. -/
theorem phi_eq (c : Dev nD) :
    (Pipeline.ΦA spec0 c : sProp 𝕄)
      = iprop(((∃ X, owns (c : Thread nD τ) (Memref.whole cc0_scratch0) fullShare X) ∗ (∃ X, owns (c : Thread nD τ) (Memref.whole cc0_scratch1) fullShare X)) ∗ (∃ r, prngReg c r)) := by
  unfold Pipeline.ΦA; rw [scopedRest0_eq]; simp only [owns_whole]; try rfl

/-- The scratch as launched is the first point's. -/
theorem inv_in (c : Dev nD) : (Pipeline.ΦA spec0 c : sProp 𝕄) ⊢ inv m c 0 := by
  rw [phi_eq]; unfold inv
  iintro ⟨⟨⟨%X, HX⟩, ⟨%Z, HZ⟩⟩, Hg⟩
  isplitl [HX HZ]
  · iexists X; iexists Z
    isplitr; · ipureintro; exact fun h => absurd rfl h
    isplitl [HX]; · iexact HX
    iexact HZ
  iexact Hg

/-- After the last point the scratch is given back. -/
theorem inv_out (c : Dev nD) (n : ℕ) : inv m c n ⊢ (Pipeline.ΦA spec0 c : sProp 𝕄) := by
  rw [phi_eq]; unfold inv
  iintro ⟨⟨%X, %Z, -, HX, HZ⟩, Hg⟩
  isplitl [HX HZ]
  · isplitl [HX]; · iexists X; iexact HX
    iexists Z; iexact HZ
  iexact Hg

/-- The launch's data. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => out4 m c (wr 343 t.val)
    | 5 => out5 m c (wr 345 t.val)
    | 6 => out6 m c (wr 345 t.val)
    | 7 => out7 m c (wr 347 t.val)
    | 8 => out8 m c (wr 347 t.val)
    | 9 => out9 m c (wr 349 t.val)
    | 10 => out10 m c t.val
  Φ t := inv m c t.val
  q _ := fullShare
  owed _ := 0

/-- The arrays start as launched. -/
theorem A_eq (c : Dev nD) (w : Fin cfg0.W) : (dats m 0 c).A w = V m c (Pipeline.arrRef spec0 w) := by dsimp only [dats]
/-- What a grid point leaves in this window's buffer. -/
theorem after0 (c : Dev nD) (t : Fin cfg0.N) : (dats m 0 c).after 0 t = iblk m c 0 t := by dsimp only [dats]
/-- What a grid point finds in this window's buffer. -/
theorem before0 (c : Dev nD) (t : Fin cfg0.N) (d) : (dats m 0 c).before 0 t d = iblk m c 0 t := before0_0_of m (dats m 0 c) (A_eq m c 0) (after0 m c) t d
/-- What a grid point leaves in this window's buffer. -/
theorem after1 (c : Dev nD) (t : Fin cfg0.N) : (dats m 0 c).after 1 t = iblk m c 1 t := by dsimp only [dats]
/-- What a grid point finds in this window's buffer. -/
theorem before1 (c : Dev nD) (t : Fin cfg0.N) (d) : (dats m 0 c).before 1 t d = iblk m c 1 t := before0_1_of m (dats m 0 c) (A_eq m c 1) (after1 m c) t d
/-- What a grid point leaves in this window's buffer. -/
theorem after2 (c : Dev nD) (t : Fin cfg0.N) : (dats m 0 c).after 2 t = iblk m c 2 t := by dsimp only [dats]
/-- What a grid point finds in this window's buffer. -/
theorem before2 (c : Dev nD) (t : Fin cfg0.N) (d) : (dats m 0 c).before 2 t d = iblk m c 2 t := before0_2_of m (dats m 0 c) (A_eq m c 2) (after2 m c) t d
/-- What a grid point leaves in this window's buffer. -/
theorem after3 (c : Dev nD) (t : Fin cfg0.N) : (dats m 0 c).after 3 t = iblk m c 3 t := by dsimp only [dats]
/-- What a grid point finds in this window's buffer. -/
theorem before3 (c : Dev nD) (t : Fin cfg0.N) (d) : (dats m 0 c).before 3 t d = iblk m c 3 t := before0_3_of m (dats m 0 c) (A_eq m c 3) (after3 m c) t d
/-- What a grid point leaves in this window's buffer. -/
theorem after4 (c : Dev nD) (t : Fin cfg0.N) : (dats m 0 c).after 4 t = out4 m c (wr 343 t.val) := by dsimp only [dats]
/-- What a grid point leaves in this window's buffer. -/
theorem after5 (c : Dev nD) (t : Fin cfg0.N) : (dats m 0 c).after 5 t = out5 m c (wr 345 t.val) := by dsimp only [dats]
/-- What a grid point leaves in this window's buffer. -/
theorem after6 (c : Dev nD) (t : Fin cfg0.N) : (dats m 0 c).after 6 t = out6 m c (wr 345 t.val) := by dsimp only [dats]
/-- What a grid point leaves in this window's buffer. -/
theorem after7 (c : Dev nD) (t : Fin cfg0.N) : (dats m 0 c).after 7 t = out7 m c (wr 347 t.val) := by dsimp only [dats]
/-- What a grid point leaves in this window's buffer. -/
theorem after8 (c : Dev nD) (t : Fin cfg0.N) : (dats m 0 c).after 8 t = out8 m c (wr 347 t.val) := by dsimp only [dats]
/-- What a grid point leaves in this window's buffer. -/
theorem after9 (c : Dev nD) (t : Fin cfg0.N) : (dats m 0 c).after 9 t = out9 m c (wr 349 t.val) := by dsimp only [dats]
/-- What a grid point leaves in this window's buffer. -/
theorem after10 (c : Dev nD) (t : Fin cfg0.N) : (dats m 0 c).after 10 t = out10 m c (t.val) := by dsimp only [dats]

/-- The last point finds the block stored at point 343 in window 4's buffer. -/
theorem found4 (c : Dev nD) (t : Fin cfg0.N) (ht : t.val = 351) (d) : (dats m 0 c).before 4 t d = (dats m 0 c).after 4 t := by
  have hN : cfg0.N = 352 := N_0
  have hi := (dats m 0 c).before_idle_run 4 (fun _ => rfl) d 7 t (by omega) (fun j h₁ h₂ => by
    have hl := (lv4 j).mpr (by omega)
    refine ⟨hl, ?_⟩
    by_contra hc
    have := fl4 j (by simpa using hc)
    omega)
  refine hi.trans ?_
  rw [Dat.before_of_pos _ _ _ (show t.val - 7 ≠ 0 by omega) rfl]
  have e : (⟨(⟨t.val - 7, by omega⟩ : Fin cfg0.N).val - 1, by simp only; omega⟩ : Fin cfg0.N) = ⟨343, by decide⟩ := Fin.ext (by simp only; omega)
  rw [e, show (cfg0.win 4).flush ⟨343, by decide⟩ = false from nf4]
  unfold Dat.left
  rw [show cfg0.idle 4 (cfg0.grid.coords ⟨343, by decide⟩) = false from by
    have := (lv4 ⟨343, by decide⟩).not.mpr (by simp)
    exact Bool.eq_false_iff.mpr this]
  refine Eq.trans (b := (dats m 0 c).after 4 ⟨343, by decide⟩) rfl ?_
  rw [after4, after4, ht]; rfl

/-- The last point finds the block stored at point 345 in window 5's buffer. -/
theorem found5 (c : Dev nD) (t : Fin cfg0.N) (ht : t.val = 351) (d) : (dats m 0 c).before 5 t d = (dats m 0 c).after 5 t := by
  have hN : cfg0.N = 352 := N_0
  have hi := (dats m 0 c).before_idle_run 5 (fun _ => rfl) d 5 t (by omega) (fun j h₁ h₂ => by
    have hl := (lv5 j).mpr (by omega)
    refine ⟨hl, ?_⟩
    by_contra hc
    have := fl5 j (by simpa using hc)
    omega)
  refine hi.trans ?_
  rw [Dat.before_of_pos _ _ _ (show t.val - 5 ≠ 0 by omega) rfl]
  have e : (⟨(⟨t.val - 5, by omega⟩ : Fin cfg0.N).val - 1, by simp only; omega⟩ : Fin cfg0.N) = ⟨345, by decide⟩ := Fin.ext (by simp only; omega)
  rw [e, show (cfg0.win 5).flush ⟨345, by decide⟩ = false from nf5]
  unfold Dat.left
  rw [show cfg0.idle 5 (cfg0.grid.coords ⟨345, by decide⟩) = false from by
    have := (lv5 ⟨345, by decide⟩).not.mpr (by simp)
    exact Bool.eq_false_iff.mpr this]
  refine Eq.trans (b := (dats m 0 c).after 5 ⟨345, by decide⟩) rfl ?_
  rw [after5, after5, ht]; rfl

/-- The last point finds the block stored at point 345 in window 6's buffer. -/
theorem found6 (c : Dev nD) (t : Fin cfg0.N) (ht : t.val = 351) (d) : (dats m 0 c).before 6 t d = (dats m 0 c).after 6 t := by
  have hN : cfg0.N = 352 := N_0
  have hi := (dats m 0 c).before_idle_run 6 (fun _ => rfl) d 5 t (by omega) (fun j h₁ h₂ => by
    have hl := (lv6 j).mpr (by omega)
    refine ⟨hl, ?_⟩
    by_contra hc
    have := fl6 j (by simpa using hc)
    omega)
  refine hi.trans ?_
  rw [Dat.before_of_pos _ _ _ (show t.val - 5 ≠ 0 by omega) rfl]
  have e : (⟨(⟨t.val - 5, by omega⟩ : Fin cfg0.N).val - 1, by simp only; omega⟩ : Fin cfg0.N) = ⟨345, by decide⟩ := Fin.ext (by simp only; omega)
  rw [e, show (cfg0.win 6).flush ⟨345, by decide⟩ = false from nf6]
  unfold Dat.left
  rw [show cfg0.idle 6 (cfg0.grid.coords ⟨345, by decide⟩) = false from by
    have := (lv6 ⟨345, by decide⟩).not.mpr (by simp)
    exact Bool.eq_false_iff.mpr this]
  refine Eq.trans (b := (dats m 0 c).after 6 ⟨345, by decide⟩) rfl ?_
  rw [after6, after6, ht]; rfl

/-- The last point finds the block stored at point 347 in window 7's buffer. -/
theorem found7 (c : Dev nD) (t : Fin cfg0.N) (ht : t.val = 351) (d) : (dats m 0 c).before 7 t d = (dats m 0 c).after 7 t := by
  have hN : cfg0.N = 352 := N_0
  have hi := (dats m 0 c).before_idle_run 7 (fun _ => rfl) d 3 t (by omega) (fun j h₁ h₂ => by
    have hl := (lv7 j).mpr (by omega)
    refine ⟨hl, ?_⟩
    by_contra hc
    have := fl7 j (by simpa using hc)
    omega)
  refine hi.trans ?_
  rw [Dat.before_of_pos _ _ _ (show t.val - 3 ≠ 0 by omega) rfl]
  have e : (⟨(⟨t.val - 3, by omega⟩ : Fin cfg0.N).val - 1, by simp only; omega⟩ : Fin cfg0.N) = ⟨347, by decide⟩ := Fin.ext (by simp only; omega)
  rw [e, show (cfg0.win 7).flush ⟨347, by decide⟩ = false from nf7]
  unfold Dat.left
  rw [show cfg0.idle 7 (cfg0.grid.coords ⟨347, by decide⟩) = false from by
    have := (lv7 ⟨347, by decide⟩).not.mpr (by simp)
    exact Bool.eq_false_iff.mpr this]
  refine Eq.trans (b := (dats m 0 c).after 7 ⟨347, by decide⟩) rfl ?_
  rw [after7, after7, ht]; rfl

/-- The last point finds the block stored at point 347 in window 8's buffer. -/
theorem found8 (c : Dev nD) (t : Fin cfg0.N) (ht : t.val = 351) (d) : (dats m 0 c).before 8 t d = (dats m 0 c).after 8 t := by
  have hN : cfg0.N = 352 := N_0
  have hi := (dats m 0 c).before_idle_run 8 (fun _ => rfl) d 3 t (by omega) (fun j h₁ h₂ => by
    have hl := (lv8 j).mpr (by omega)
    refine ⟨hl, ?_⟩
    by_contra hc
    have := fl8 j (by simpa using hc)
    omega)
  refine hi.trans ?_
  rw [Dat.before_of_pos _ _ _ (show t.val - 3 ≠ 0 by omega) rfl]
  have e : (⟨(⟨t.val - 3, by omega⟩ : Fin cfg0.N).val - 1, by simp only; omega⟩ : Fin cfg0.N) = ⟨347, by decide⟩ := Fin.ext (by simp only; omega)
  rw [e, show (cfg0.win 8).flush ⟨347, by decide⟩ = false from nf8]
  unfold Dat.left
  rw [show cfg0.idle 8 (cfg0.grid.coords ⟨347, by decide⟩) = false from by
    have := (lv8 ⟨347, by decide⟩).not.mpr (by simp)
    exact Bool.eq_false_iff.mpr this]
  refine Eq.trans (b := (dats m 0 c).after 8 ⟨347, by decide⟩) rfl ?_
  rw [after8, after8, ht]; rfl

/-- The last point finds the block stored at point 349 in window 9's buffer. -/
theorem found9 (c : Dev nD) (t : Fin cfg0.N) (ht : t.val = 351) (d) : (dats m 0 c).before 9 t d = (dats m 0 c).after 9 t := by
  have hN : cfg0.N = 352 := N_0
  have hi := (dats m 0 c).before_idle_run 9 (fun _ => rfl) d 1 t (by omega) (fun j h₁ h₂ => by
    have hl := (lv9 j).mpr (by omega)
    refine ⟨hl, ?_⟩
    by_contra hc
    have := fl9 j (by simpa using hc)
    omega)
  refine hi.trans ?_
  rw [Dat.before_of_pos _ _ _ (show t.val - 1 ≠ 0 by omega) rfl]
  have e : (⟨(⟨t.val - 1, by omega⟩ : Fin cfg0.N).val - 1, by simp only; omega⟩ : Fin cfg0.N) = ⟨349, by decide⟩ := Fin.ext (by simp only; omega)
  rw [e, show (cfg0.win 9).flush ⟨349, by decide⟩ = false from nf9]
  unfold Dat.left
  rw [show cfg0.idle 9 (cfg0.grid.coords ⟨349, by decide⟩) = false from by
    have := (lv9 ⟨349, by decide⟩).not.mpr (by simp)
    exact Bool.eq_false_iff.mpr this]
  refine Eq.trans (b := (dats m 0 c).after 9 ⟨349, by decide⟩) rfl ?_
  rw [after9, after9, ht]; rfl

/-- A point that does not store window 4's block leaves its buffer. -/
theorem keep4 (c : Dev nD) (t : Fin cfg0.N) (h : ¬ (t.val % 11 = 1 ∨ t.val % 11 = 2)) (d) :
    (owns (c : Thread nD τ) ((cfg0.win 4).stage (cfg0.slots t 4)) fullShare ((dats m 0 c).before 4 t d) : sProp 𝕄) ⊢ (dats m 0 c).leavesExact 4 t := by
  have hi : cfg0.idle 4 (cfg0.grid.coords t) = true := (lv4 t).mpr h
  by_cases hf : (cfg0.win 4).flush t = true
  · have h2 := fl4 t hf
    have ht : t.val = 351 := by omega
    unfold Dat.leavesExact; rw [hi, hf, found4 m c t ht]
  · rw [(dats m 0 c).leavesExact_idle 4 t hi (by simpa using hf)]
    iintro H; iexists d; iexact H
/-- What a grid point has stored in this window's block. -/
theorem stored4 (c : Dev nD) (t : Fin cfg0.N) (h : t.val % 11 = 1 ∨ t.val % 11 = 2) :
    (dats m 0 c).leavesExact 4 t = (owns (c : Thread nD τ) ((cfg0.win 4).stage (cfg0.slots t 4)) fullShare (out4 m c t.val) : sProp 𝕄) := by
  have hi : cfg0.idle 4 (cfg0.grid.coords t) = false := Bool.eq_false_iff.mpr ((lv4 t).not.mpr (not_not.mpr h))
  unfold Dat.leavesExact; rw [hi, after4, wr_of _ _ (by omega)]

/-- A point that does not store window 5's block leaves its buffer. -/
theorem keep5 (c : Dev nD) (t : Fin cfg0.N) (h : ¬ (t.val % 11 = 3 ∨ t.val % 11 = 4)) (d) :
    (owns (c : Thread nD τ) ((cfg0.win 5).stage (cfg0.slots t 5)) fullShare ((dats m 0 c).before 5 t d) : sProp 𝕄) ⊢ (dats m 0 c).leavesExact 5 t := by
  have hi : cfg0.idle 5 (cfg0.grid.coords t) = true := (lv5 t).mpr h
  by_cases hf : (cfg0.win 5).flush t = true
  · have h2 := fl5 t hf
    have ht : t.val = 351 := by omega
    unfold Dat.leavesExact; rw [hi, hf, found5 m c t ht]
  · rw [(dats m 0 c).leavesExact_idle 5 t hi (by simpa using hf)]
    iintro H; iexists d; iexact H
/-- What a grid point has stored in this window's block. -/
theorem stored5 (c : Dev nD) (t : Fin cfg0.N) (h : t.val % 11 = 3 ∨ t.val % 11 = 4) :
    (dats m 0 c).leavesExact 5 t = (owns (c : Thread nD τ) ((cfg0.win 5).stage (cfg0.slots t 5)) fullShare (out5 m c t.val) : sProp 𝕄) := by
  have hi : cfg0.idle 5 (cfg0.grid.coords t) = false := Bool.eq_false_iff.mpr ((lv5 t).not.mpr (not_not.mpr h))
  unfold Dat.leavesExact; rw [hi, after5, wr_of _ _ (by omega)]

/-- A point that does not store window 6's block leaves its buffer. -/
theorem keep6 (c : Dev nD) (t : Fin cfg0.N) (h : ¬ (t.val % 11 = 3 ∨ t.val % 11 = 4)) (d) :
    (owns (c : Thread nD τ) ((cfg0.win 6).stage (cfg0.slots t 6)) fullShare ((dats m 0 c).before 6 t d) : sProp 𝕄) ⊢ (dats m 0 c).leavesExact 6 t := by
  have hi : cfg0.idle 6 (cfg0.grid.coords t) = true := (lv6 t).mpr h
  by_cases hf : (cfg0.win 6).flush t = true
  · have h2 := fl6 t hf
    have ht : t.val = 351 := by omega
    unfold Dat.leavesExact; rw [hi, hf, found6 m c t ht]
  · rw [(dats m 0 c).leavesExact_idle 6 t hi (by simpa using hf)]
    iintro H; iexists d; iexact H
/-- What a grid point has stored in this window's block. -/
theorem stored6 (c : Dev nD) (t : Fin cfg0.N) (h : t.val % 11 = 3 ∨ t.val % 11 = 4) :
    (dats m 0 c).leavesExact 6 t = (owns (c : Thread nD τ) ((cfg0.win 6).stage (cfg0.slots t 6)) fullShare (out6 m c t.val) : sProp 𝕄) := by
  have hi : cfg0.idle 6 (cfg0.grid.coords t) = false := Bool.eq_false_iff.mpr ((lv6 t).not.mpr (not_not.mpr h))
  unfold Dat.leavesExact; rw [hi, after6, wr_of _ _ (by omega)]

/-- A point that does not store window 7's block leaves its buffer. -/
theorem keep7 (c : Dev nD) (t : Fin cfg0.N) (h : ¬ (t.val % 11 = 5 ∨ t.val % 11 = 6)) (d) :
    (owns (c : Thread nD τ) ((cfg0.win 7).stage (cfg0.slots t 7)) fullShare ((dats m 0 c).before 7 t d) : sProp 𝕄) ⊢ (dats m 0 c).leavesExact 7 t := by
  have hi : cfg0.idle 7 (cfg0.grid.coords t) = true := (lv7 t).mpr h
  by_cases hf : (cfg0.win 7).flush t = true
  · have h2 := fl7 t hf
    have ht : t.val = 351 := by omega
    unfold Dat.leavesExact; rw [hi, hf, found7 m c t ht]
  · rw [(dats m 0 c).leavesExact_idle 7 t hi (by simpa using hf)]
    iintro H; iexists d; iexact H
/-- What a grid point has stored in this window's block. -/
theorem stored7 (c : Dev nD) (t : Fin cfg0.N) (h : t.val % 11 = 5 ∨ t.val % 11 = 6) :
    (dats m 0 c).leavesExact 7 t = (owns (c : Thread nD τ) ((cfg0.win 7).stage (cfg0.slots t 7)) fullShare (out7 m c t.val) : sProp 𝕄) := by
  have hi : cfg0.idle 7 (cfg0.grid.coords t) = false := Bool.eq_false_iff.mpr ((lv7 t).not.mpr (not_not.mpr h))
  unfold Dat.leavesExact; rw [hi, after7, wr_of _ _ (by omega)]

/-- A point that does not store window 8's block leaves its buffer. -/
theorem keep8 (c : Dev nD) (t : Fin cfg0.N) (h : ¬ (t.val % 11 = 5 ∨ t.val % 11 = 6)) (d) :
    (owns (c : Thread nD τ) ((cfg0.win 8).stage (cfg0.slots t 8)) fullShare ((dats m 0 c).before 8 t d) : sProp 𝕄) ⊢ (dats m 0 c).leavesExact 8 t := by
  have hi : cfg0.idle 8 (cfg0.grid.coords t) = true := (lv8 t).mpr h
  by_cases hf : (cfg0.win 8).flush t = true
  · have h2 := fl8 t hf
    have ht : t.val = 351 := by omega
    unfold Dat.leavesExact; rw [hi, hf, found8 m c t ht]
  · rw [(dats m 0 c).leavesExact_idle 8 t hi (by simpa using hf)]
    iintro H; iexists d; iexact H
/-- What a grid point has stored in this window's block. -/
theorem stored8 (c : Dev nD) (t : Fin cfg0.N) (h : t.val % 11 = 5 ∨ t.val % 11 = 6) :
    (dats m 0 c).leavesExact 8 t = (owns (c : Thread nD τ) ((cfg0.win 8).stage (cfg0.slots t 8)) fullShare (out8 m c t.val) : sProp 𝕄) := by
  have hi : cfg0.idle 8 (cfg0.grid.coords t) = false := Bool.eq_false_iff.mpr ((lv8 t).not.mpr (not_not.mpr h))
  unfold Dat.leavesExact; rw [hi, after8, wr_of _ _ (by omega)]

/-- A point that does not store window 9's block leaves its buffer. -/
theorem keep9 (c : Dev nD) (t : Fin cfg0.N) (h : ¬ (t.val % 11 = 7 ∨ t.val % 11 = 8)) (d) :
    (owns (c : Thread nD τ) ((cfg0.win 9).stage (cfg0.slots t 9)) fullShare ((dats m 0 c).before 9 t d) : sProp 𝕄) ⊢ (dats m 0 c).leavesExact 9 t := by
  have hi : cfg0.idle 9 (cfg0.grid.coords t) = true := (lv9 t).mpr h
  by_cases hf : (cfg0.win 9).flush t = true
  · have h2 := fl9 t hf
    have ht : t.val = 351 := by omega
    unfold Dat.leavesExact; rw [hi, hf, found9 m c t ht]
  · rw [(dats m 0 c).leavesExact_idle 9 t hi (by simpa using hf)]
    iintro H; iexists d; iexact H
/-- What a grid point has stored in this window's block. -/
theorem stored9 (c : Dev nD) (t : Fin cfg0.N) (h : t.val % 11 = 7 ∨ t.val % 11 = 8) :
    (dats m 0 c).leavesExact 9 t = (owns (c : Thread nD τ) ((cfg0.win 9).stage (cfg0.slots t 9)) fullShare (out9 m c t.val) : sProp 𝕄) := by
  have hi : cfg0.idle 9 (cfg0.grid.coords t) = false := Bool.eq_false_iff.mpr ((lv9 t).not.mpr (not_not.mpr h))
  unfold Dat.leavesExact; rw [hi, after9, wr_of _ _ (by omega)]

/-- A point that does not store window 10's block leaves its buffer. -/
theorem keep10 (c : Dev nD) (t : Fin cfg0.N) (h : ¬ (t.val % 11 = 9 ∨ t.val % 11 = 10)) (d) :
    (owns (c : Thread nD τ) ((cfg0.win 10).stage (cfg0.slots t 10)) fullShare ((dats m 0 c).before 10 t d) : sProp 𝕄) ⊢ (dats m 0 c).leavesExact 10 t := by
  have hi : cfg0.idle 10 (cfg0.grid.coords t) = true := (lv10 t).mpr h
  by_cases hf : (cfg0.win 10).flush t = true
  · have h2 := fl10 t hf
    exact absurd h2 h
  · rw [(dats m 0 c).leavesExact_idle 10 t hi (by simpa using hf)]
    iintro H; iexists d; iexact H
/-- What a grid point has stored in this window's block. -/
theorem stored10 (c : Dev nD) (t : Fin cfg0.N) (h : t.val % 11 = 9 ∨ t.val % 11 = 10) :
    (dats m 0 c).leavesExact 10 t = (owns (c : Thread nD τ) ((cfg0.win 10).stage (cfg0.slots t 10)) fullShare (out10 m c t.val) : sProp 𝕄) := by
  have hi : cfg0.idle 10 (cfg0.grid.coords t) = false := Bool.eq_false_iff.mpr ((lv10 t).not.mpr (not_not.mpr h))
  unfold Dat.leavesExact; rw [hi, after10]
/-- This window's block is left as found. -/
theorem stays0 (c : Dev nD) (t : Fin cfg0.N) :
    (dats m 0 c).leavesExact 0 t = (owns (c : Thread nD τ) ((cfg0.win 0).stage (cfg0.slots t 0)) fullShare (iblk m c 0 t) : sProp 𝕄) := by
  unfold Dat.leavesExact; rw [show cfg0.idle 0 (cfg0.grid.coords t) = false from rfl, after0]
/-- This window's block is left as found. -/
theorem stays1 (c : Dev nD) (t : Fin cfg0.N) :
    (dats m 0 c).leavesExact 1 t = (owns (c : Thread nD τ) ((cfg0.win 1).stage (cfg0.slots t 1)) fullShare (iblk m c 1 t) : sProp 𝕄) := by
  unfold Dat.leavesExact; rw [show cfg0.idle 1 (cfg0.grid.coords t) = false from rfl, after1]
/-- This window's block is left as found. -/
theorem stays2 (c : Dev nD) (t : Fin cfg0.N) :
    (dats m 0 c).leavesExact 2 t = (owns (c : Thread nD τ) ((cfg0.win 2).stage (cfg0.slots t 2)) fullShare (iblk m c 2 t) : sProp 𝕄) := by
  unfold Dat.leavesExact; rw [show cfg0.idle 2 (cfg0.grid.coords t) = false from rfl, after2]
/-- This window's block is left as found. -/
theorem stays3 (c : Dev nD) (t : Fin cfg0.N) :
    (dats m 0 c).leavesExact 3 t = (owns (c : Thread nD τ) ((cfg0.win 3).stage (cfg0.slots t 3)) fullShare (iblk m c 3 t) : sProp 𝕄) := by
  unfold Dat.leavesExact; rw [show cfg0.idle 3 (cfg0.grid.coords t) = false from rfl, after3]

/-- What the body is called with at point `t`, -/
def bodyPre (c : Dev nD) (t : Fin cfg0.N) : sProp 𝕄 :=
  iprop(inv m c t.val ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d)))

/-- and what it returns. -/
def bodyPost (c : Dev nD) (t : Fin cfg0.N) : sProp 𝕄 :=
  iprop(inv m c (t.val + 1) ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
theorem soundA (c : Dev nD) (t : Fin cfg0.N) (h0 : t.val % 11 = 0) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyA c (grid0.coords t) _ _ _ _ _ _ _ _ _ _ _ _ _ _ _ _ _ _ _ _ _ _ _ _ _ _ ((br1 t).mpr h0) (fun h => absurd ((br2 t).mp h) (by omega)) (fun h => absurd ((br3 t).mp h) (by omega)) (fun h => absurd ((br4 t).mp h) (by omega)) (fun h => absurd ((br5 t).mp h) (by omega)) (fun h => absurd ((br6 t).mp h) (by omega)) (fun h => absurd ((br7 t).mp h) (by omega)) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      rw [zS_at, hS_first m c t h0]; exact ⟨rfl, rfl⟩
    iexact Hg
  isplitl [HO]; · iexact HO
  isplitl [H0]; · iexact H0
  isplitl [H1]; · iexact H1
  isplitl [H2]; · iexact H2
  isplitl [H3]; · iexact H3
  isplitl [H4]; · iapply (keep4 m c t (by omega) d4); iexact H4
  isplitl [H5]; · iapply (keep5 m c t (by omega) d5); iexact H5
  isplitl [H6]; · iapply (keep6 m c t (by omega) d6); iexact H6
  isplitl [H7]; · iapply (keep7 m c t (by omega) d7); iexact H7
  isplitl [H8]; · iapply (keep8 m c t (by omega) d8); iexact H8
  isplitl [H9]; · iapply (keep9 m c t (by omega) d9); iexact H9
  iapply (keep10 m c t (by omega) d10); iexact H10

set_option maxHeartbeats 1600000 in
theorem soundB (c : Dev nD) (t : Fin cfg0.N) (h0 : t.val % 11 = 1 ∨ t.val % 11 = 2) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3, stored4 m c t (by omega)]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hXZ (by omega)
  iapply (bodyB c (grid0.coords t) _ _ _ _ _ _ _ _ _ _ _ _ _ _ _ _ _ _ _ _ _ _ _ _ _ _ (fun h => absurd ((br1 t).mp h) (by omega)) ((br2 t).mpr h0) (fun h => absurd ((br3 t).mp h) (by omega)) (fun h => absurd ((br4 t).mp h) (by omega)) (fun h => absurd ((br5 t).mp h) (by omega)) (fun h => absurd ((br6 t).mp h) (by omega)) (fun h => absurd ((br7 t).mp h) (by omega)) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      rw [zS_at, hS_prev m c t.val (by omega)]; exact ⟨rfl, rfl⟩
    iexact Hg
  isplitl [HO]; · iexact HO
  isplitl [H0]; · iexact H0
  isplitl [H1]; · iexact H1
  isplitl [H2]; · iexact H2
  isplitl [H3]; · iexact H3
  isplitl [H4]; · unfold out4; iexact H4
  isplitl [H5]; · iapply (keep5 m c t (by omega) d5); iexact H5
  isplitl [H6]; · iapply (keep6 m c t (by omega) d6); iexact H6
  isplitl [H7]; · iapply (keep7 m c t (by omega) d7); iexact H7
  isplitl [H8]; · iapply (keep8 m c t (by omega) d8); iexact H8
  isplitl [H9]; · iapply (keep9 m c t (by omega) d9); iexact H9
  iapply (keep10 m c t (by omega) d10); iexact H10

set_option maxHeartbeats 1600000 in
theorem soundC (c : Dev nD) (t : Fin cfg0.N) (h0 : t.val % 11 = 3 ∨ t.val % 11 = 4) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3, stored5 m c t (by omega), stored6 m c t (by omega)]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hXZ (by omega)
  iapply (bodyC c (grid0.coords t) _ _ _ _ _ _ _ _ _ _ _ _ _ _ _ _ _ _ _ _ _ _ _ _ _ _ (fun h => absurd ((br1 t).mp h) (by omega)) (fun h => absurd ((br2 t).mp h) (by omega)) ((br3 t).mpr h0) (fun h => absurd ((br4 t).mp h) (by omega)) (fun h => absurd ((br5 t).mp h) (by omega)) (fun h => absurd ((br6 t).mp h) (by omega)) (fun h => absurd ((br7 t).mp h) (by omega)) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      rw [zS_at, hS_prev m c t.val (by omega)]; exact ⟨rfl, rfl⟩
    iexact Hg
  isplitl [HO]; · iexact HO
  isplitl [H0]; · iexact H0
  isplitl [H1]; · iexact H1
  isplitl [H2]; · iexact H2
  isplitl [H3]; · iexact H3
  isplitl [H4]; · iapply (keep4 m c t (by omega) d4); iexact H4
  isplitl [H5]; · unfold out5; rw [pt_val]; iexact H5
  isplitl [H6]; · unfold out6; rw [pt_val]; iexact H6
  isplitl [H7]; · iapply (keep7 m c t (by omega) d7); iexact H7
  isplitl [H8]; · iapply (keep8 m c t (by omega) d8); iexact H8
  isplitl [H9]; · iapply (keep9 m c t (by omega) d9); iexact H9
  iapply (keep10 m c t (by omega) d10); iexact H10

set_option maxHeartbeats 1600000 in
theorem soundD (c : Dev nD) (t : Fin cfg0.N) (h0 : t.val % 11 = 5 ∨ t.val % 11 = 6) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3, stored7 m c t (by omega), stored8 m c t (by omega)]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hXZ (by omega)
  iapply (bodyD c (grid0.coords t) _ _ _ _ _ _ _ _ _ _ _ _ _ _ _ _ _ _ _ _ _ _ _ _ _ _ (fun h => absurd ((br1 t).mp h) (by omega)) (fun h => absurd ((br2 t).mp h) (by omega)) (fun h => absurd ((br3 t).mp h) (by omega)) ((br4 t).mpr h0) (fun h => absurd ((br5 t).mp h) (by omega)) (fun h => absurd ((br6 t).mp h) (by omega)) (fun h => absurd ((br7 t).mp h) (by omega)) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      rw [zS_at, hS_prev m c t.val (by omega)]; exact ⟨rfl, rfl⟩
    iexact Hg
  isplitl [HO]; · iexact HO
  isplitl [H0]; · iexact H0
  isplitl [H1]; · iexact H1
  isplitl [H2]; · iexact H2
  isplitl [H3]; · iexact H3
  isplitl [H4]; · iapply (keep4 m c t (by omega) d4); iexact H4
  isplitl [H5]; · iapply (keep5 m c t (by omega) d5); iexact H5
  isplitl [H6]; · iapply (keep6 m c t (by omega) d6); iexact H6
  isplitl [H7]; · unfold out7; rw [pt_val]; iexact H7
  isplitl [H8]; · unfold out8; rw [pt_val]; iexact H8
  isplitl [H9]; · iapply (keep9 m c t (by omega) d9); iexact H9
  iapply (keep10 m c t (by omega) d10); iexact H10

set_option maxHeartbeats 1600000 in
theorem soundE (c : Dev nD) (t : Fin cfg0.N) (h0 : t.val % 11 = 7 ∨ t.val % 11 = 8) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3, stored9 m c t (by omega)]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hXZ (by omega)
  iapply (bodyE c (grid0.coords t) _ _ _ _ _ _ _ _ _ _ _ _ _ _ _ _ _ _ _ _ _ _ _ _ _ _ (fun h => absurd ((br1 t).mp h) (by omega)) (fun h => absurd ((br2 t).mp h) (by omega)) (fun h => absurd ((br3 t).mp h) (by omega)) (fun h => absurd ((br4 t).mp h) (by omega)) ((br5 t).mpr h0) (fun h => absurd ((br6 t).mp h) (by omega)) (fun h => absurd ((br7 t).mp h) (by omega)) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      rw [zS_at, hS_prev m c t.val (by omega)]; exact ⟨rfl, rfl⟩
    iexact Hg
  isplitl [HO]; · iexact HO
  isplitl [H0]; · iexact H0
  isplitl [H1]; · iexact H1
  isplitl [H2]; · iexact H2
  isplitl [H3]; · iexact H3
  isplitl [H4]; · iapply (keep4 m c t (by omega) d4); iexact H4
  isplitl [H5]; · iapply (keep5 m c t (by omega) d5); iexact H5
  isplitl [H6]; · iapply (keep6 m c t (by omega) d6); iexact H6
  isplitl [H7]; · iapply (keep7 m c t (by omega) d7); iexact H7
  isplitl [H8]; · iapply (keep8 m c t (by omega) d8); iexact H8
  isplitl [H9]; · unfold out9; iexact H9
  iapply (keep10 m c t (by omega) d10); iexact H10

set_option maxHeartbeats 1600000 in
theorem soundF (c : Dev nD) (t : Fin cfg0.N) (h0 : t.val % 11 = 9) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3, stored10 m c t (by omega)]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hXZ (by omega)
  iapply (bodyF c (grid0.coords t) _ _ _ _ _ _ _ _ _ _ _ _ _ _ _ _ _ _ _ _ _ _ _ _ _ _ (fun h => absurd ((br1 t).mp h) (by omega)) (fun h => absurd ((br2 t).mp h) (by omega)) (fun h => absurd ((br3 t).mp h) (by omega)) (fun h => absurd ((br4 t).mp h) (by omega)) (fun h => absurd ((br5 t).mp h) (by omega)) ((br6 t).mpr h0) (fun h => absurd ((br7 t).mp h) (by omega)) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      rw [zS_at, hS_prev m c t.val (by omega)]; exact ⟨rfl, rfl⟩
    iexact Hg
  isplitl [HO]; · iexact HO
  isplitl [H0]; · iexact H0
  isplitl [H1]; · iexact H1
  isplitl [H2]; · iexact H2
  isplitl [H3]; · iexact H3
  isplitl [H4]; · iapply (keep4 m c t (by omega) d4); iexact H4
  isplitl [H5]; · iapply (keep5 m c t (by omega) d5); iexact H5
  isplitl [H6]; · iapply (keep6 m c t (by omega) d6); iexact H6
  isplitl [H7]; · iapply (keep7 m c t (by omega) d7); iexact H7
  isplitl [H8]; · iapply (keep8 m c t (by omega) d8); iexact H8
  isplitl [H9]; · iapply (keep9 m c t (by omega) d9); iexact H9
  unfold out10; iexact H10

set_option maxHeartbeats 1600000 in
theorem soundG (c : Dev nD) (t : Fin cfg0.N) (h0 : t.val % 11 = 10) :
    bodyPre m c t ⊢ wp frame (wpE (defs₀ (F := F)) Variants.none (c : Thread nD τ) none) Set.univ (bodyAt0 t) (fun _ => bodyPost m c t) := by
  unfold bodyPre bodyPost bodyAt0 inv
  simp only [before0, before1, before2, before3, stays0, stays1, stays2, stays3, stored10 m c t (by omega)]
  iintro ⟨⟨⟨%X, %Z, %hXZ, HX, HZ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hXZ (by omega)
  iapply (bodyG c (grid0.coords t) _ _ _ _ _ _ _ _ _ _ _ _ _ _ _ _ _ _ _ _ _ _ _ _ _ _ (fun h => absurd ((br1 t).mp h) (by omega)) (fun h => absurd ((br2 t).mp h) (by omega)) (fun h => absurd ((br3 t).mp h) (by omega)) (fun h => absurd ((br4 t).mp h) (by omega)) (fun h => absurd ((br5 t).mp h) (by omega)) (fun h => absurd ((br6 t).mp h) (by omega)) ((br7 t).mpr h0) _ _ _ _ _ _ _ _ _ _ _ _ _ _)
  isplitl [H0 H1 H2 H3 H4 H5 H6 H7 H8 H9 H10 HX HZ]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HX]; · iexact HX
    iexact HZ
  unfold held
  iintro ⟨H0, H1, H2, H3, H4, H5, H6, H7, H8, H9, H10, HX, HZ⟩
  isplitl [Hg HX HZ]
  · isplitl [HX HZ]
    · iexists _; iexists _
      isplitr [HX HZ]; rotate_left
      · isplitl [HX]; · iexact HX
        iexact HZ
      ipureintro
      intro hn
      rw [Nat.add_sub_cancel]
      exact absurd hn (by omega)
    iexact Hg
  isplitl [HO]; · iexact HO
  isplitl [H0]; · iexact H0
  isplitl [H1]; · iexact H1
  isplitl [H2]; · iexact H2
  isplitl [H3]; · iexact H3
  isplitl [H4]; · iapply (keep4 m c t (by omega) d4); iexact H4
  isplitl [H5]; · iapply (keep5 m c t (by omega) d5); iexact H5
  isplitl [H6]; · iapply (keep6 m c t (by omega) d6); iexact H6
  isplitl [H7]; · iapply (keep7 m c t (by omega) d7); iexact H7
  isplitl [H8]; · iapply (keep8 m c t (by omega) d8); iexact H8
  isplitl [H9]; · iapply (keep9 m c t (by omega) d9); iexact H9
  unfold out10; iexact H10

/-- The region's call of the kernel is the kernel on the point's buffers. -/
theorem defs₀_row (t : Fin cfg0.N) : defs₀ (F := F) .tc cfg0.body (cfg0.bodyArgs t (cfg0.slots t)) = bodyAt0 t := by
  unfold defs₀; rw [Defs.onTc_tc]

/-- Every grid point does what the launch's data say. -/
theorem body_obligation (c : Dev nD) : BodyObligation (dats (F := F) m 0 c) (defs₀ (F := F)) Variants.none () Set.univ := fun t => by
  rw [bigSep_W0, bigSep_W0, defs₀_row]
  have h : bodyPre m c t ⊢ wp frame (wpE (defs₀ (F := F)) Variants.none (c : Thread nD τ) none) Set.univ (bodyAt0 t) (fun _ => bodyPost m c t) := by
    have := Nat.mod_lt t.val (show 0 < 11 by omega)
    by_cases hA : t.val % 11 = 0
    · exact soundA m c t hA
    by_cases hB : t.val % 11 = 1 ∨ t.val % 11 = 2
    · exact soundB m c t hB
    by_cases hC : t.val % 11 = 3 ∨ t.val % 11 = 4
    · exact soundC m c t hC
    by_cases hD : t.val % 11 = 5 ∨ t.val % 11 = 6
    · exact soundD m c t hD
    by_cases hE : t.val % 11 = 7 ∨ t.val % 11 = 8
    · exact soundE m c t hE
    by_cases hF : t.val % 11 = 9
    · exact soundF m c t hF
    · exact soundG m c t (by omega)
  exact triple_restated h rfl .rfl fun _ => .rfl

set_option backward.isDefEq.respectTransparency.types false in
/-- Every run of @main ends, the arrays of results at the blocks the launch's data say, the rest as launched, every counter
at zero. -/
theorem run_main :
    θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)
    (Q' := fun r => Pipeline.FramePost cfgs (dats m) 0 (V m) r ∧ r.2.sem = fun _ => 0) (hQ' := fun _ h => h)

end Cert.Proof.HgI
-- ==== Proof.HgMath.lean ====
module

public import Idealize.ShloMosaic.Lib.Pointwise

@[expose] public section
noncomputable section

/-! The gates of the recurrence over the extended reals: the kernel's forms of the logistic function's logarithm, of the
complementary logistic function and of the silu are the plain ones, at the infinities too. -/

namespace Cert.Proof.HgIn
open Idealize.ShloMosaic

/-- The magnitude of an extended real. -/
abbrev mag (z : EReal) : EReal := FloatOps.absf (F := Ideal) (φ := .f32) z

/-- The kernel's query: the silu with the scale taken inside. -/
def qry (z : EReal) : EReal := z * (Ideal.ofBits .f32 0x3DB504F3#32 * Ideal.div 1 (1 + Ideal.exp (0 - z)))

/-- The kernel's logarithm of the logistic function. -/
def lsg (z : EReal) : EReal := min z 0 - Ideal.log (1 + Ideal.exp (0 - mag z))

/-- The kernel's logarithm of the sum of two exponentials. -/
def lse (a b : EReal) : EReal := max a b + Ideal.log (1 + Ideal.exp (0 - mag (a - b)))

/-- The kernel's key, with the rest of one given. -/
def kee (l z : EReal) : EReal := (l * if 0 ≤ z then Ideal.exp (0 - mag z) else 1) * Ideal.div 1 (1 + Ideal.exp (0 - mag z))

/-- The magnitude as a maximum. -/
theorem mag_eq (z : EReal) : mag z = max z (-z) := rfl

/-- A number and its negative have one magnitude. -/
theorem mag_neg (z : EReal) : mag (-z) = mag z := by
  rw [mag_eq, mag_eq, neg_neg, max_comm]

/-- The magnitude of a real. -/
theorem mag_coe (r : ℝ) : mag (r : EReal) = ((|r| : ℝ) : EReal) := by
  rw [mag_eq, ← EReal.coe_neg, ← EReal.coe_strictMono.monotone.map_max]; rfl

/-- The magnitude of the top. -/
theorem mag_top : mag ⊤ = ⊤ := by rw [mag_eq]; simp
/-- The magnitude of the bottom. -/
theorem mag_bot : mag ⊥ = ⊤ := by rw [mag_eq]; simp

/-- The plain query is the kernel's. -/
theorem qry_eq (z : EReal) : z * Ideal.div 1 (1 + Ideal.exp (-z)) * Ideal.ofBits .f32 0x3DB504F3#32 = qry z := by
  unfold qry
  rw [zero_sub, mul_assoc, mul_comm (Ideal.div _ _)]

/-- Over the extended reals the logarithm of a sum is the kernel's whatever its two terms. -/
theorem lse_eq (a b : EReal) : (if a - b ≠ a - b then a + b else max a b + Ideal.log1p (Ideal.exp (-mag (a - b)))) = lse a b := by
  rw [if_neg (not_not.mpr rfl)]
  unfold lse Ideal.log1p
  rw [zero_sub]

/-- The logarithm of one and an exponential. -/
theorem log_one_exp (r : ℝ) : Ideal.log (1 + Ideal.exp (r : EReal)) = ((Real.log (1 + Real.exp r) : ℝ) : EReal) := by
  have h : (1 : EReal) + Ideal.exp (r : EReal) = ((1 + Real.exp r : ℝ) : EReal) := by
    rw [Ideal.exp_coe, EReal.coe_add, EReal.coe_one]
  rw [h, Ideal.log_coe, if_neg (by have := Real.exp_pos r; linarith)]

/-- The logarithm of one. -/
theorem log_one : Ideal.log 1 = 0 := by
  show Ideal.log ((1 : ℝ) : EReal) = 0
  rw [Ideal.log_coe, if_neg (by norm_num), Real.log_one]; rfl

/-- One and the top add up to the top. -/
theorem one_add_top : (1 : EReal) + ⊤ = ⊤ := EReal.add_top_of_ne_bot (EReal.coe_ne_bot 1)

/-- The plain logarithm of the logistic function is the kernel's. -/
theorem lsg_eq (z : EReal) : (-if -z ≠ -z then -z else max (-z) 0 + Ideal.log1p (Ideal.exp (-mag (-z)))) = lsg z := by
  rw [if_neg (not_not.mpr rfl), mag_neg]
  unfold lsg Ideal.log1p
  rw [zero_sub]
  induction z using EReal.rec with
  | bot => rw [mag_bot]; simp [Ideal.exp_bot, log_one]
  | top => rw [mag_top]; simp [Ideal.exp_bot, log_one]
  | coe r =>
    rw [mag_coe, ← EReal.coe_neg |r|, log_one_exp, ← EReal.coe_neg, ← EReal.coe_zero, ← EReal.coe_strictMono.monotone.map_max, ← EReal.coe_strictMono.monotone.map_min,
      ← EReal.coe_add, ← EReal.coe_sub, ← EReal.coe_neg]
    congr 1
    rcases le_total r 0 with h | h
    · rw [max_eq_left (by linarith), min_eq_left h]; ring
    · rw [max_eq_right (by linarith), min_eq_right h]; ring

/-- The plain key is the kernel's. -/
theorem kee_eq (l z : EReal) : l * Ideal.div 1 (1 + Ideal.exp (- -z)) = kee l z := by
  unfold kee
  rw [zero_sub, neg_neg, mul_assoc]
  congr 1
  induction z using EReal.rec with
  | bot => rw [mag_bot]; simp [Ideal.exp_bot]
  | top => rw [mag_top]; simp [Ideal.exp_bot, Ideal.exp_top, Ideal.div, one_add_top]
  | coe r =>
    have hd (s : ℝ) : Ideal.div 1 (1 + Ideal.exp (s : EReal)) = ((1 / (1 + Real.exp s) : ℝ) : EReal) := by
      have h : (1 : EReal) + Ideal.exp (s : EReal) = ((1 + Real.exp s : ℝ) : EReal) := by
        rw [Ideal.exp_coe, EReal.coe_add, EReal.coe_one]
      rw [h, Ideal.div_coe (by have := Real.exp_pos s; linarith), one_mul]
    rw [mag_coe, ← EReal.coe_neg, hd, hd]
    by_cases h : 0 ≤ r
    · rw [if_pos (EReal.coe_nonneg.mpr h), abs_of_nonneg h, Ideal.exp_coe, ← EReal.coe_mul]
      congr 1
      have h1 := Real.exp_pos r
      have h2 := Real.exp_pos (-r)
      have h3 : Real.exp (-r) * Real.exp r = 1 := by rw [← Real.exp_add]; simp
      field_simp
      nlinarith
    · rw [if_neg (fun h' => h (EReal.coe_nonneg.mp h')), abs_of_neg (not_le.mp h), neg_neg, one_mul]

/-- Two, as the 32-bit float it is. -/
theorem two_word : Ideal.ofBits .f32 0x40000000#32 = ((2 : ℝ) : EReal) := by
  simp [Ideal.ofBits, Ideal.ieee]
  rw [← EReal.coe_mul]; norm_num

/-- Over the logarithm of two is times its inverse. -/
theorem div_log_two (x : EReal) : Ideal.div x (Ideal.log (Ideal.ofBits .f32 0x40000000#32)) = x * (((Real.log 2)⁻¹ : ℝ) : EReal) := by
  rw [two_word, Ideal.log_coe, if_neg (by norm_num), Ideal.div_coe (Real.log_pos (by norm_num)).ne', one_div]

end Cert.Proof.HgIn
end
-- ==== Proof.HgRef.lean ====
module

public import proofs.«01_k».proof.Proof.Rms
public import proofs.«01_k».proof.Proof.HgMath
public import proofs.«01_k».proof.Proof.Gen.Reference9Ideal.Run
public import Idealize.ShloMosaic.Lib.Pointwise

@[expose] public section
set_option maxRecDepth 16384
noncomputable section

/-! The reference of the recurrence's input projection, read at an index over the extended reals. -/

namespace Cert.Proof.HgIn
open Idealize.ShloMosaic Idealize.ShloMosaic.TcCoe Idealize.SL.Sem
open Cert.Reference9Ideal Cert.Reference9Ideal.Gen

/-- The reference's projection of the normed rows. -/
def proj (x : FVec Ideal S2x16384x2048 .f32) (g : FVec Ideal S2048 .f32) (w : FVec Ideal S2048x5120 .f32) : FVec Ideal S2x16384x5120 .f32 :=
  Host.dotGeneral dot_S2x16384x2048_S2048x5120_S2x16384x5120_2_0_01_1_n_n none (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) w

/-- The projection's first columns: the query's. -/
def cols0 (p : FVec Ideal S2x16384x5120 .f32) : FVec Ideal S2x16384x1024 .f32 := extractStridedSlice S2x16384x1024 ![0, 0, 0] p slices_S2x16384x5120_S2x16384x1024_0_0_0
/-- The second: the forward gate's. -/
def cols1 (p : FVec Ideal S2x16384x5120 .f32) : FVec Ideal S2x16384x1024 .f32 := extractStridedSlice S2x16384x1024 ![0, 0, 1024] p slices_S2x16384x5120_S2x16384x1024_0_0_1024
/-- The third: the backward gate's. -/
def cols2 (p : FVec Ideal S2x16384x5120 .f32) : FVec Ideal S2x16384x1024 .f32 := extractStridedSlice S2x16384x1024 ![0, 0, 2048] p slices_S2x16384x5120_S2x16384x1024_0_0_2048
/-- The fourth: the value's. -/
def cols3 (p : FVec Ideal S2x16384x5120 .f32) : FVec Ideal S2x16384x1024 .f32 := extractStridedSlice S2x16384x1024 ![0, 0, 3072] p slices_S2x16384x5120_S2x16384x1024_0_0_3072
/-- The fifth: the output gate's. -/
def cols4 (p : FVec Ideal S2x16384x5120 .f32) : FVec Ideal S2x16384x1024 .f32 := extractStridedSlice S2x16384x1024 ![0, 0, 4096] p slices_S2x16384x5120_S2x16384x1024_0_0_4096

/-- The forward direction's lower bounds. -/
def low0 (l : FVec Ideal S2x1024 .f32) : FVec Ideal S1024 .f32 := shapeCast _ (extractStridedSlice S1x1024 ![0, 0] l slices_S2x1024_S1x1024_0_0) shapeCasts_S1x1024_S1024
/-- The backward direction's. -/
def low1 (l : FVec Ideal S2x1024 .f32) : FVec Ideal S1024 .f32 := shapeCast _ (extractStridedSlice S1x1024 ![1, 0] l slices_S2x1024_S1x1024_1_0) shapeCasts_S1x1024_S1024

/-- The query. -/
def refQ (z : FVec Ideal S2x16384x1024 .f32) : FVec Ideal S32768x1024 .f32 :=
  shapeCast _ (mulf (mulf z (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf z))))) (broadcastInDim S2x16384x1024 ![] bcast_S_S2x16384x1024 (constant S_ .f32 0x3DB504F3#32))) shapeCasts_S2x16384x1024_S32768x1024

/-- The key of a direction. -/
def refK (l : FVec Ideal S1024 .f32) (z : FVec Ideal S2x16384x1024 .f32) : FVec Ideal S32768x1024 .f32 :=
  shapeCast _ (mulf (broadcastInDim S2x16384x1024 ![0, 1, 2] bcast_S1x1x1024_S2x16384x1024_0_1_2 (broadcastInDim S1x1x1024 ![2] bcast_S1024_S1x1x1024_2 (subf (broadcastInDim S1024 ![] bcast_S_S1024 (constant S_ .f32 0x3F800000#32)) l))) (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (Host.negf z)))))) shapeCasts_S2x16384x1024_S32768x1024

/-- The logarithm of a gate's logistic. -/
def refG (z : FVec Ideal S2x16384x1024 .f32) : FVec Ideal S2x16384x1024 .f32 :=
  Host.negf (select (cmpf .une (subf (Host.negf z) (broadcastInDim S2x16384x1024 ![] bcast_S_S2x16384x1024 (constant S_ .f32 0x00000000#32))) (subf (Host.negf z) (broadcastInDim S2x16384x1024 ![] bcast_S_S2x16384x1024 (constant S_ .f32 0x00000000#32)))) (addf (Host.negf z) (broadcastInDim S2x16384x1024 ![] bcast_S_S2x16384x1024 (constant S_ .f32 0x00000000#32))) (addf (maximumf (Host.negf z) (broadcastInDim S2x16384x1024 ![] bcast_S_S2x16384x1024 (constant S_ .f32 0x00000000#32))) (Host.log1p (Host.exp (Host.negf (Host.absf (subf (Host.negf z) (broadcastInDim S2x16384x1024 ![] bcast_S_S2x16384x1024 (constant S_ .f32 0x00000000#32)))))))))

/-- A lower bound's logarithm, at every token. -/
def refA (l : FVec Ideal S1024 .f32) : FVec Ideal S2x16384x1024 .f32 :=
  broadcastInDim S2x16384x1024 ![0, 1, 2] bcast_S1x1x1024_S2x16384x1024_0_1_2 (broadcastInDim S1x1x1024 ![2] bcast_S1024_S1x1x1024_2 (Host.log l))

/-- The logarithm of the rest of one, with the gate's logarithm added. -/
def refB (l : FVec Ideal S1024 .f32) (z : FVec Ideal S2x16384x1024 .f32) : FVec Ideal S2x16384x1024 .f32 :=
  addf (broadcastInDim S2x16384x1024 ![0, 1, 2] bcast_S1x1x1024_S2x16384x1024_0_1_2 (broadcastInDim S1x1x1024 ![2] bcast_S1024_S1x1x1024_2 (Host.log1p (Host.negf l)))) (refG z)

/-- The logarithm of the sum of two exponentials, over that of two. -/
def refE (a b : FVec Ideal S2x16384x1024 .f32) : FVec Ideal S32768x1024 .f32 :=
  shapeCast _ (Host.divf (select (cmpf .une (subf a b) (subf a b)) (addf a b) (addf (maximumf a b) (Host.log1p (Host.exp (Host.negf (Host.absf (subf a b))))))) (broadcastInDim S2x16384x1024 ![] bcast_S_S2x16384x1024 (Host.log (constant S_ .f32 0x40000000#32)))) shapeCasts_S2x16384x1024_S32768x1024

/-- The forget gate's logarithm to the base two. -/
def refF (l : FVec Ideal S1024 .f32) (z : FVec Ideal S2x16384x1024 .f32) : FVec Ideal S32768x1024 .f32 := refE (refA l) (refB l z)

/-- The value. -/
def refV (z : FVec Ideal S2x16384x1024 .f32) : FVec Ideal S32768x1024 .bf16 := truncf .bf16 (shapeCast _ z shapeCasts_S2x16384x1024_S32768x1024) bitsLt_bf16_f32

/-- The output gate. -/
def refO (z : FVec Ideal S2x16384x1024 .f32) : FVec Ideal S32768x1024 .f32 := shapeCast _ z shapeCasts_S2x16384x1024_S32768x1024

/-- The projection at an index. -/
theorem proj_apply (x : FVec Ideal S2x16384x2048 .f32) (g : FVec Ideal S2048 .f32) (w : FVec Ideal S2048x5120 .f32) (b : Fin 2) (s : Fin 16384) (n : Fin 5120) :
    proj x g w (ix3 b s n) = ∑ e : Fin 2048, rms (fun e => x (ix3 b s e)) (fun e => g (ix1 e)) e * w (ix2 e n) := by
  pointwise [proj, rms]

/-- The query at a row and a column. -/
theorem refQ_apply (z : FVec Ideal S2x16384x1024 .f32) (r : Fin 32768) (n : Fin 1024) : refQ z (ix2 r n) = qry (z (ix3 (⟨r.val / 16384, by omega⟩ : Fin 2) (⟨r.val % 16384, by omega⟩ : Fin 16384) n)) := by
  rw [← qry_eq]
  pointwise [refQ]

/-- A key at a row and a column. -/
theorem refK_apply (l : FVec Ideal S1024 .f32) (z : FVec Ideal S2x16384x1024 .f32) (r : Fin 32768) (n : Fin 1024) : refK l z (ix2 r n) = kee (1 - l (ix1 n)) (z (ix3 (⟨r.val / 16384, by omega⟩ : Fin 2) (⟨r.val % 16384, by omega⟩ : Fin 16384) n)) := by
  rw [← kee_eq]
  pointwise [refK]

/-- A gate's logarithm at a token and a column. -/
theorem refG_apply (z : FVec Ideal S2x16384x1024 .f32) (b : Fin 2) (s : Fin 16384) (n : Fin 1024) : refG z (ix3 b s n) = lsg (z (ix3 b s n)) := by
  rw [← lsg_eq]
  pointwise [refG, mag]

/-- The bounds' logarithms at an index. -/
theorem refA_apply (l : FVec Ideal S1024 .f32) (b : Fin 2) (s : Fin 16384) (n : Fin 1024) : refA l (ix3 b s n) = Ideal.log (l (ix1 n)) := by
  pointwise [refA]

/-- The gate's second term at an index. -/
theorem refB_apply (l : FVec Ideal S1024 .f32) (z : FVec Ideal S2x16384x1024 .f32) (b : Fin 2) (s : Fin 16384) (n : Fin 1024) :
    refB l z (ix3 b s n) = Ideal.log1p (-l (ix1 n)) + lsg (z (ix3 b s n)) := by
  rw [← refG_apply]
  pointwise [refB]

/-- The logarithm of the sum, to base 2, at an index. -/
theorem refE_apply (a b : FVec Ideal S2x16384x1024 .f32) (r : Fin 32768) (n : Fin 1024) :
    refE a b (ix2 r n) = lse (a (ix3 (⟨r.val / 16384, by omega⟩ : Fin 2) (⟨r.val % 16384, by omega⟩ : Fin 16384) n)) (b (ix3 (⟨r.val / 16384, by omega⟩ : Fin 2) (⟨r.val % 16384, by omega⟩ : Fin 16384) n)) * (((Real.log 2)⁻¹ : ℝ) : EReal) := by
  rw [← lse_eq, ← div_log_two]
  pointwise [refE, mag]

/-- A forget gate's logarithm at a row and a column. -/
theorem refF_apply (l : FVec Ideal S1024 .f32) (z : FVec Ideal S2x16384x1024 .f32) (r : Fin 32768) (n : Fin 1024) :
    refF l z (ix2 r n) = lse (Ideal.log (l (ix1 n))) (Ideal.log1p (-l (ix1 n)) + lsg (z (ix3 (⟨r.val / 16384, by omega⟩ : Fin 2) (⟨r.val % 16384, by omega⟩ : Fin 16384) n))) * (((Real.log 2)⁻¹ : ℝ) : EReal) := by
  unfold refF
  rw [refE_apply, refA_apply, refB_apply]

/-- The values at an index. -/
theorem refV_apply (z : FVec Ideal S2x16384x1024 .f32) (r : Fin 32768) (n : Fin 1024) : refV z (ix2 r n) = z (ix3 (⟨r.val / 16384, by omega⟩ : Fin 2) (⟨r.val % 16384, by omega⟩ : Fin 16384) n) := by
  pointwise [refV]

/-- The output gates at an index. -/
theorem refO_apply (z : FVec Ideal S2x16384x1024 .f32) (r : Fin 32768) (n : Fin 1024) : refO z (ix2 r n) = z (ix3 (⟨r.val / 16384, by omega⟩ : Fin 2) (⟨r.val % 16384, by omega⟩ : Fin 16384) n) := by
  pointwise [refO]

/-- The first direction's bounds. -/
theorem low0_apply (l : FVec Ideal S2x1024 .f32) (n : Fin 1024) : low0 l (ix1 n) = l (ix2 0 n) := by
  pointwise [low0]

/-- The second direction's bounds. -/
theorem low1_apply (l : FVec Ideal S2x1024 .f32) (n : Fin 1024) : low1 l (ix1 n) = l (ix2 1 n) := by
  pointwise [low1]

/-- A group of columns at an index. -/
theorem cols0_apply (p : FVec Ideal S2x16384x5120 .f32) (b : Fin 2) (s : Fin 16384) (n : Fin 1024) :
    cols0 p (ix3 b s n) = p (ix3 b s (⟨0 * 1024 + n.val, by omega⟩ : Fin 5120)) := by
  pointwise [cols0]

/-- A group of columns at an index. -/
theorem cols1_apply (p : FVec Ideal S2x16384x5120 .f32) (b : Fin 2) (s : Fin 16384) (n : Fin 1024) :
    cols1 p (ix3 b s n) = p (ix3 b s (⟨1 * 1024 + n.val, by omega⟩ : Fin 5120)) := by
  pointwise [cols1]

/-- A group of columns at an index. -/
theorem cols2_apply (p : FVec Ideal S2x16384x5120 .f32) (b : Fin 2) (s : Fin 16384) (n : Fin 1024) :
    cols2 p (ix3 b s n) = p (ix3 b s (⟨2 * 1024 + n.val, by omega⟩ : Fin 5120)) := by
  pointwise [cols2]

/-- A group of columns at an index. -/
theorem cols3_apply (p : FVec Ideal S2x16384x5120 .f32) (b : Fin 2) (s : Fin 16384) (n : Fin 1024) :
    cols3 p (ix3 b s n) = p (ix3 b s (⟨3 * 1024 + n.val, by omega⟩ : Fin 5120)) := by
  pointwise [cols3]

/-- A group of columns at an index. -/
theorem cols4_apply (p : FVec Ideal S2x16384x5120 .f32) (b : Fin 2) (s : Fin 16384) (n : Fin 1024) :
    cols4 p (ix3 b s n) = p (ix3 b s (⟨4 * 1024 + n.val, by omega⟩ : Fin 5120)) := by
  pointwise [cols4]

open Cert.Reference9Ideal.Value in
/-- The reference's run, its results by their names. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = refQ (cols0 (proj (m ((c.tc : Thread nD τ).loc main_arg0)) (m ((c.tc : Thread nD τ).loc main_arg1)) (m ((c.tc : Thread nD τ).loc main_arg2))))
      ∧ r.2.mem ((c.tc : Thread nD τ).loc main_v96) = refF (low0 (m ((c.tc : Thread nD τ).loc main_arg3))) (cols1 (proj (m ((c.tc : Thread nD τ).loc main_arg0)) (m ((c.tc : Thread nD τ).loc main_arg1)) (m ((c.tc : Thread nD τ).loc main_arg2))))
      ∧ r.2.mem ((c.tc : Thread nD τ).loc main_v97) = refK (low0 (m ((c.tc : Thread nD τ).loc main_arg3))) (cols1 (proj (m ((c.tc : Thread nD τ).loc main_arg0)) (m ((c.tc : Thread nD τ).loc main_arg1)) (m ((c.tc : Thread nD τ).loc main_arg2))))
      ∧ r.2.mem ((c.tc : Thread nD τ).loc main_v100) = refF (low1 (m ((c.tc : Thread nD τ).loc main_arg3))) (cols2 (proj (m ((c.tc : Thread nD τ).loc main_arg0)) (m ((c.tc : Thread nD τ).loc main_arg1)) (m ((c.tc : Thread nD τ).loc main_arg2))))
      ∧ r.2.mem ((c.tc : Thread nD τ).loc main_v101) = refK (low1 (m ((c.tc : Thread nD τ).loc main_arg3))) (cols2 (proj (m ((c.tc : Thread nD τ).loc main_arg0)) (m ((c.tc : Thread nD τ).loc main_arg1)) (m ((c.tc : Thread nD τ).loc main_arg2))))
      ∧ r.2.mem ((c.tc : Thread nD τ).loc main_v103) = refV (cols3 (proj (m ((c.tc : Thread nD τ).loc main_arg0)) (m ((c.tc : Thread nD τ).loc main_arg1)) (m ((c.tc : Thread nD τ).loc main_arg2))))
      ∧ r.2.mem ((c.tc : Thread nD τ).loc main_v104) = refO (cols4 (proj (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold refQ refF refE refA refB refG refK refV refO cols0 cols1 cols2 cols3 cols4 low0 low1 proj
  exact run (F := Ideal) m ρ

end Cert.Proof.HgIn
end
-- ==== Proof.HgBlk.lean ====
module

public import proofs.«01_k».proof.Proof.HgIRun
public import proofs.«01_k».proof.Proof.HgRef
public import Idealize.ShloMosaic.Lib.Pipeline.ValueKit
public import Idealize.ShloMosaic.Lib.Pointwise

@[expose] public section
set_option maxRecDepth 16384
noncomputable section

/-! The launch's blocks, read at an index over the extended reals. -/

namespace Cert.Proof.HgIn
open Idealize.ShloMosaic Idealize.ShloMosaic.TcCoe Idealize.SL.Sem
open Cert.Kernel9Ideal Cert.Kernel9Ideal.Gen
open Cert.Proof.HgI

/-! ## What the body computes -/

/-- The query at an index. -/
theorem pay13_apply (z : Vec Ideal S1024x512 .f32) (r : Fin 1024) (n : Fin 512) : k0_pay13 z (ix2 r n) = qry (z (ix2 r n)) := by
  pointwise [k0_pay13, qry]

/-- The named constant is the inverse of two's logarithm. -/
theorem log2e_val : (Named.named (F := Ideal) κ "log2_e" 0x3FB8AA3B#32 : Ideal .f32) = (((Real.log 2)⁻¹ : ℝ) : EReal) :=
  IdealRules.named_const.ideal_named_scalar _ _ _ _ rfl

/-- The gate's logarithm, to base 2, at an index. -/
theorem pay3_apply (z : Vec Ideal S1024x512 .f32) (a b : Vec Ideal S1x1x512 .f32) (r : Fin 1024) (n : Fin 512) :
    k0_pay16 (k0_pay3 z a b) (ix2 r n) = lse (a (ix3 0 0 n)) (b (ix3 0 0 n) + lsg (z (ix2 r n))) * (((Real.log 2)⁻¹ : ℝ) : EReal) := by
  rw [← log2e_val]
  pointwise [k0_pay16, k0_pay3, k0_pay1, lse, lsg, mag]

/-- Both directions' gates are computed alike. -/
theorem pay8_eq (z : Vec Ideal S1024x512 .f32) (a b : Vec Ideal S1x1x512 .f32) : k0_pay19 (k0_pay8 z a b) = k0_pay16 (k0_pay3 z a b) := rfl

/-- The key at an index. -/
theorem pay15_apply (z : Vec Ideal S1024x512 .f32) (a : Vec Ideal S1x1x512 .f32) (r : Fin 1024) (n : Fin 512) :
    k0_pay15 (k0_pay2 z) (k0_pay4 z) (k0_pay5 a) (ix2 r n) = kee (a (ix3 0 0 n)) (z (ix2 r n)) := by
  pointwise [k0_pay15, k0_pay2, k0_pay4, k0_pay5, k0_pay1, kee, mag]

/-- Both directions' keys are computed alike. -/
theorem pay18_eq (z : Vec Ideal S1024x512 .f32) (a : Vec Ideal S1x1x512 .f32) : k0_pay18 (k0_pay7 z) (k0_pay9 z) (k0_pay10 a) = k0_pay15 (k0_pay2 z) (k0_pay4 z) (k0_pay5 a) := rfl

/-- The normed rows at an index. -/
theorem pay11_apply (x : Vec Ideal S1024x2048 .f32) (g : Vec Ideal S1x2048 .f32) (r : Fin 1024) (n : Fin 2048) :
    k0_pay11 x g (ix2 r n) = rms (fun e => x (ix2 r e)) (fun e => g (ix2 0 e)) n := by
  pointwise [k0_pay11, rms]

/-- The product at an index. -/
theorem pay12_apply (x : Vec Ideal S1024x2048 .bf16) (w : Vec Ideal S2048x512 .bf16) (r : Fin 1024) (n : Fin 512) :
    k0_pay12 x w (ix2 r n) = ∑ e : Fin 2048, x (ix2 r e) * w (ix2 e n) := by
  pointwise [k0_pay12]

/-- A row of the bounds' block at a column. -/
theorem lbRow_apply (k : Fin 3) (b : Vec Ideal S1x3x512 .f32) (n : Fin 512) : lbRow k b (ix3 0 0 n) = b (ix3 0 k n) := by
  refine congrArg b (funext fun a => Fin.ext ?_)
  fin_cases a
  · rfl
  · show k.val + 1 * 0 = k.val; omega
  · show 0 + 1 * n.val = n.val; omega

/-! ## The arguments as the kernel is given them -/

variable (m : (ℓ : Loc nD τ sig) → Buf (Elt Ideal) ℓ)

/-- The rows. -/
def hostX (x : FVec Ideal S2x16384x2048 .f32) : FVec Ideal S32768x2048 .f32 := shapeCast S32768x2048 x shapeCasts_S2x16384x2048_S32768x2048

/-- The gain. -/
def hostG (g : FVec Ideal S2048 .f32) : FVec Ideal S1x2048 .f32 := shapeCast S1x2048 g shapeCasts_S2048_S1x2048

/-- The bounds' logarithms, those of the rests of one, and the rests. -/
def hostL (l : FVec Ideal S2x1024 .f32) : FVec Ideal S2x3x1024 .f32 :=
  concatenate S2x3x1024 1 [⟨S2x1x1024, broadcastInDim S2x1x1024 ![0, 2] bcast_S2x1024_S2x1x1024_0_2 (Host.log l)⟩, ⟨S2x1x1024, broadcastInDim S2x1x1024 ![0, 2] bcast_S2x1024_S2x1x1024_0_2 (Host.log1p (Host.negf l))⟩, ⟨S2x1x1024, broadcastInDim S2x1x1024 ![0, 2] bcast_S2x1024_S2x1x1024_0_2 (subf (broadcastInDim S2x1024 ![] bcast_S_S2x1024 (constant S_ .f32 0x3F800000#32)) l)⟩] concatenates_S2x1x1024_S2x1x1024_S2x1x1024_S2x3x1024_d1

/-- The rows at an index. -/
theorem hostX_apply (x : FVec Ideal S2x16384x2048 .f32) (r : Fin 32768) (e : Fin 2048) :
    hostX x (ix2 r e) = x (ix3 (⟨r.val / 16384, by omega⟩ : Fin 2) (⟨r.val % 16384, by omega⟩ : Fin 16384) e) := by
  pointwise [hostX]

/-- The gain at an index. -/
theorem hostG_apply (g : FVec Ideal S2048 .f32) (e : Fin 2048) : hostG g (ix2 0 e) = g (ix1 e) := by
  pointwise [hostG]

/-- Three arrays side by side, at an index. -/
theorem cat3_apply (f : Fin 3 → FVec Ideal S2x1x1024 .f32) (d : Fin 2) (k : Fin 3) (n : Fin 1024) :
    concatenate S2x3x1024 1 [⟨S2x1x1024, f 0⟩, ⟨S2x1x1024, f 1⟩, ⟨S2x1x1024, f 2⟩] concatenates_S2x1x1024_S2x1x1024_S2x1x1024_S2x3x1024_d1 (ix3 d k n) = f k (ix3 d 0 n) :=
  concatenate_ofFn_apply (s₁ := S2x1x1024) (t := S2x3x1024) 1 f concatenates_S2x1x1024_S2x1x1024_S2x1x1024_S2x3x1024_d1 rfl 1 rfl (ix3 d k n) k (Nat.div_one _)
    (ix3 d 0 n) (by show 0 = k.val % 1; omega) (fun b hb => by fin_cases b <;> first | rfl | exact absurd rfl hb)

/-- The bounds, their logarithms and those of their rests, at an index. -/
theorem hostL_apply (l : FVec Ideal S2x1024 .f32) (d : Fin 2) (k : Fin 3) (n : Fin 1024) :
    hostL l (ix3 d k n) = (![Ideal.log (l (ix2 d n)), Ideal.log1p (-l (ix2 d n)), 1 - l (ix2 d n)] : Fin 3 → EReal) k := by
  refine (cat3_apply ![broadcastInDim S2x1x1024 ![0, 2] bcast_S2x1024_S2x1x1024_0_2 (Host.log l), broadcastInDim S2x1x1024 ![0, 2] bcast_S2x1024_S2x1x1024_0_2 (Host.log1p (Host.negf l)), broadcastInDim S2x1x1024 ![0, 2] bcast_S2x1024_S2x1x1024_0_2 (subf (broadcastInDim S2x1024 ![] bcast_S_S2x1024 (constant S_ .f32 0x3F800000#32)) l)] d k n).trans ?_
  fin_cases k
  · show broadcastInDim S2x1x1024 ![0, 2] bcast_S2x1024_S2x1x1024_0_2 (Host.log l) (ix3 d 0 n) = Ideal.log (l (ix2 d n))
    pointwise
  · show broadcastInDim S2x1x1024 ![0, 2] bcast_S2x1024_S2x1x1024_0_2 (Host.log1p (Host.negf l)) (ix3 d 0 n) = Ideal.log1p (-l (ix2 d n))
    pointwise
  · show broadcastInDim S2x1x1024 ![0, 2] bcast_S2x1024_S2x1x1024_0_2 (subf (broadcastInDim S2x1024 ![] bcast_S_S2x1024 (constant S_ .f32 0x3F800000#32)) l) (ix3 d 0 n) = 1 - l (ix2 d n)
    pointwise

/-- The rows as launched. -/
theorem V_x (c : Dev nD) : V m c main_v9 = hostX (m (c, Proc.tc.devRef main_arg0)) := by
  unfold V
  after_results <;> rfl

/-- The gain as launched. -/
theorem V_g (c : Dev nD) : V m c main_v11 = hostG (m (c, Proc.tc.devRef main_arg1)) := by
  unfold V
  after_results <;> rfl

/-- The weights as launched. -/
theorem V_w (c : Dev nD) : V m c main_v10 = (truncf .bf16 (m (c, Proc.tc.devRef main_arg2) : FVec Ideal S2048x5120 .f32) bitsLt_bf16_f32 : FVec Ideal S2048x5120 .bf16) := by
  unfold V
  after_results <;> rfl

/-- The bounds as launched. -/
theorem V_l (c : Dev nD) : V m c main_v8 = hostL (m (c, Proc.tc.devRef main_arg3)) := by
  unfold V
  after_results <;> rfl

/-! ## The blocks at a grid point -/

/-- The block that the window holds at a grid point. -/
theorem idx0 : ∀ t : Fin grid0.N, win0_0.index t = ![t.val / 11, 0] := by decide +kernel
/-- The block that the window holds at a grid point. -/
theorem idx1 : ∀ t : Fin grid0.N, win0_1.index t = ![0, 0] := by decide +kernel
/-- The block that the window holds at a grid point. -/
theorem idx2 : ∀ t : Fin grid0.N, win0_2.index t = ![0, min (t.val % 11) 9] := by decide +kernel
/-- The block that the window holds at a grid point. -/
theorem idx3 : ∀ t : Fin grid0.N, (t.val % 11 = 3 ∨ t.val % 11 = 4 ∨ t.val % 11 = 5 ∨ t.val % 11 = 6) → win0_3.index t = ![(t.val % 11 - 3) / 2, 0, (t.val % 11 - 3) % 2] := by decide +kernel

/-- A grid point is one of 352. -/
theorem lt_N (t : Fin cfg0.N) : t.val < 352 := t.isLt

/-- A grid point's block of the rows. -/
theorem blk_x (c : Dev nD) (t : Fin cfg0.N) (r : Fin 1024) (e : Fin 2048) :
    (iblk m c 0 t : Vec Ideal S1024x2048 .f32) (ix2 r e) = hostX (m (c, Proc.tc.devRef main_arg0)) (ix2 ⟨t.val / 11 * 1024 + r.val, by have := lt_N t; omega⟩ e) := by
  unfold iblk
  show V m c main_v9 ((win0_0.blk t).view.emb (ix2 r e)) = _
  rw [V_x]
  refine congrArg (hostX _) (funext fun a => Fin.ext ?_)
  fin_cases a <;> blk_simp [idx0] <;> rfl

/-- The gain's block. -/
theorem blk_g (c : Dev nD) (t : Fin cfg0.N) (e : Fin 2048) :
    (iblk m c 1 t : Vec Ideal S1x2048 .f32) (ix2 0 e) = hostG (m (c, Proc.tc.devRef main_arg1)) (ix2 0 e) := by
  unfold iblk
  show V m c main_v11 ((win0_1.blk t).view.emb (ix2 0 e)) = _
  rw [V_g]
  refine congrArg (hostG _) (funext fun a => Fin.ext ?_)
  fin_cases a <;> blk_simp [idx1] <;> rfl

/-- A grid point's block of the weights. -/
theorem blk_w (c : Dev nD) (t : Fin cfg0.N) (e : Fin 2048) (n : Fin 512) :
    (iblk m c 2 t : Vec Ideal S2048x512 .bf16) (ix2 e n) = (m (c, Proc.tc.devRef main_arg2) : FVec Ideal S2048x5120 .f32) (ix2 e ⟨min (t.val % 11) 9 * 512 + n.val, by omega⟩) := by
  unfold iblk
  show V m c main_v10 ((win0_2.blk t).view.emb (ix2 e n)) = _
  rw [V_w]
  refine congrArg (m (c, Proc.tc.devRef main_arg2) : FVec Ideal S2048x5120 .f32) (funext fun a => Fin.ext ?_)
  fin_cases a <;> blk_simp [idx2] <;> rfl

/-- A grid point's block of the bounds, where the gates are computed. -/
theorem blk_l (c : Dev nD) (t : Fin cfg0.N) (ht : t.val % 11 = 3 ∨ t.val % 11 = 4 ∨ t.val % 11 = 5 ∨ t.val % 11 = 6) (k : Fin 3) (n : Fin 512) :
    (iblk m c 3 t : Vec Ideal S1x3x512 .f32) (ix3 0 k n)
      = hostL (m (c, Proc.tc.devRef main_arg3)) (ix3 ⟨(t.val % 11 - 3) / 2, by omega⟩ k ⟨(t.val % 11 - 3) % 2 * 512 + n.val, by omega⟩) := by
  unfold iblk
  show V m c main_v8 ((win0_3.blk t).view.emb (ix3 0 k n)) = _
  rw [V_l]
  refine congrArg (hostL _) (funext fun a => Fin.ext ?_)
  fin_cases a <;> blk_simp [idx3 t ht] <;> rfl

/-- The projection of the normed rows, by a flat row and a column. -/
def pj (c : Dev nD) : FVec Ideal Cert.Reference9Ideal.S2x16384x5120 .f32 :=
  proj (m (c, Proc.tc.devRef main_arg0)) (m (c, Proc.tc.devRef main_arg1)) (m (c, Proc.tc.devRef main_arg2))

/-- The product made at a grid point is a tile of the projection. -/
theorem zS_apply (c : Dev nD) (u : ℕ) (hu : u < 352) (h : u % 11 < 10) (r : Fin 1024) (n : Fin 512) :
    zS m c u (ix2 r n) = pj m c (ix3 (⟨(u / 11 * 1024 + r.val) / 16384, by omega⟩ : Fin 2) (⟨(u / 11 * 1024 + r.val) % 16384, by omega⟩ : Fin 16384) (⟨u % 11 * 512 + n.val, by omega⟩ : Fin 5120)) := by
  unfold zS pj
  rw [proj_apply]
  refine (pay12_apply _ _ r n).trans (Finset.sum_congr rfl fun e _ => congrArg₂ (fun a b : EReal => a * b) ?_ ?_)
  · unfold hS
    refine (pay11_apply _ _ r e).trans ?_
    have hp : (pt (u - u % 11)).val / 11 = u / 11 := by simp only [pt]; omega
    refine congr (congrArg₂ rms (funext fun e => ?_) (funext fun e => ?_)) rfl
    · refine ((blk_x m c _ r e).trans (hostX_apply _ _ _)).trans ?_
      refine congrArg _ ?_
      simp only [hp]
    · exact (blk_g m c _ e).trans (hostG_apply _ _)
  · refine (blk_w m c _ e n).trans (congrArg _ ?_)
    have hp : min ((pt u).val % 11) 9 = u % 11 := by simp only [pt]; omega
    simp only [hp]

end Cert.Proof.HgIn
end
-- ==== Proof.HgIn.lean ====
module

public import proofs.«01_k».proof.Proof.HgBlk
public import proofs.«01_k».proof.Defs

@[expose] public section
set_option maxRecDepth 16384
noncomputable section

/-! The launch's arrays of results, and the equality with the reference's. -/

namespace Cert.Proof.HgIn
open Idealize.ShloMosaic Idealize.ShloMosaic.TcCoe Idealize.SL.Sem
open Cert.Kernel9Ideal Cert.Kernel9Ideal.Gen
open Cert.Proof.HgI
open Idealize.ShloMosaic.Pipeline (Dat)

variable (m : (ℓ : Loc nD τ sig) → Buf (Elt Ideal) ℓ)

/-- The tile read at a point of the `g`-th group of columns. -/
theorem tile_apply (c : Dev nD) (g : Fin 5) (u : ℕ) (hu : u < 352) (hg : u % 11 = 2 * g.val + 1 ∨ u % 11 = 2 * g.val + 2) (r : Fin 1024) (n : Fin 512) :
    zS m c (u - 1) (ix2 r n) = pj m c (ix3 (⟨(u / 11 * 1024 + r.val) / 16384, by omega⟩ : Fin 2) (⟨(u / 11 * 1024 + r.val) % 16384, by omega⟩ : Fin 16384)
      (⟨g.val * 1024 + ((u % 11 - 1 - 2 * g.val) * 512 + n.val), by omega⟩ : Fin 5120)) := by
  refine (zS_apply m c (u - 1) (by omega) (by omega) r n).trans (congrArg _ ?_)
  have h1 : (u - 1) / 11 = u / 11 := by omega
  have h2 : (u - 1) % 11 * 512 + n.val = g.val * 1024 + ((u % 11 - 1 - 2 * g.val) * 512 + n.val) := by omega
  simp only [h1, h2]

/-- A row of the bounds at a point of the gates. -/
theorem bound_apply (c : Dev nD) (d : Fin 2) (u : ℕ) (hu : u < 352) (hg : u % 11 = 2 * d.val + 3 ∨ u % 11 = 2 * d.val + 4) (k : Fin 3) (n : Fin 512) :
    lbRow k (iblk m c 3 (pt u)) (ix3 0 0 n) = hostL (m (c, Proc.tc.devRef main_arg3)) (ix3 d k ⟨(u % 11 - 3 - 2 * d.val) * 512 + n.val, by omega⟩) := by
  have hp : (pt u).val % 11 = u % 11 := by simp only [pt]; omega
  refine (lbRow_apply k _ n).trans ((blk_l m c (pt u) (by omega) k n).trans (congrArg _ ?_))
  have h1 : (u % 11 - 3) / 2 = d.val := by omega
  have h2 : (u % 11 - 3) % 2 = u % 11 - 3 - 2 * d.val := by omega
  simp only [hp, h1, h2]

/-- The block that the window holds at a grid point. -/
theorem idx4 : ∀ t : Fin grid0.N, win0_4.flush t = true → win0_4.index t = ![(wr 343 t.val) / 11, (wr 343 t.val) % 11 - 1 - 2 * 0] := by decide +kernel
/-- The blocks written back cover the array. -/
theorem covers4 : (cfg0.win 4).Covers := by decide +kernel

/-- A block is written back where its group of columns was computed. -/
theorem at4 (t : Fin grid0.N) (hf : win0_4.flush t = true) : wr 343 t.val < 352 ∧ (wr 343 t.val % 11 = 2 * 0 + 1 ∨ wr 343 t.val % 11 = 2 * 0 + 2) := by
  have h := fl4 t hf
  have ht := lt_N t
  unfold wr
  split <;> omega

/-- A grid point's block of the queries. -/
theorem out4_apply (c : Dev nD) (u : ℕ) (hu : u < 352) (hg : u % 11 = 2 * 0 + 1 ∨ u % 11 = 2 * 0 + 2) (r : Fin 1024) (n : Fin 512) :
    out4 m c u (ix2 r n) = (refQ (cols0 (pj m c))) (ix2 (⟨u / 11 * 1024 + r.val, by omega⟩ : Fin 32768) (⟨(u % 11 - 1 - 2 * 0) * 512 + n.val, by omega⟩ : Fin 1024)) := by
  have hz := (tile_apply m c 0 u hu hg r n).trans (cols0_apply (pj m c) _ _ (⟨(u % 11 - 1 - 2 * 0) * 512 + n.val, by omega⟩ : Fin 1024)).symm
  rw [refQ_apply]
  exact (pay13_apply _ r n).trans (congrArg qry hz)

/-- The launch's array of the queries is the reference's. -/
theorem arr4_eq (c : Dev nD) : (dats m 0 c).arrAt 4 cfg0.N = refQ (cols0 (pj m c)) := by
  refine (dats m 0 c).arrAt_eq_of_covers 4 _ covers4 fun t hf y => ?_
  blk_simp
  rw [after4]
  obtain ⟨r, n, rfl⟩ : ∃ (r : Fin 1024) (n : Fin 512), y = ix2 r n := ⟨y 0, y 1, eq_ix2 y⟩
  obtain ⟨hu, hg⟩ := at4 t hf
  have hemb : (win0_4.blk t).view.emb (ix2 r n) = ix2 (⟨(wr 343 t.val) / 11 * 1024 + r.val, by omega⟩ : Fin 32768) (⟨((wr 343 t.val) % 11 - 1 - 2 * 0) * 512 + n.val, by omega⟩ : Fin 1024) := by
    funext a
    refine Fin.ext ?_
    fin_cases a <;> blk_simp [idx4 t hf] <;> rfl
  rw [hemb]
  exact out4_apply m c _ hu hg r n

/-- The block that the window holds at a grid point. -/
theorem idx5 : ∀ t : Fin grid0.N, win0_5.flush t = true → win0_5.index t = ![(wr 345 t.val) / 11, (wr 345 t.val) % 11 - 1 - 2 * 1] := by decide +kernel
/-- The blocks written back cover the array. -/
theorem covers5 : (cfg0.win 5).Covers := by decide +kernel

/-- A block is written back where its group of columns was computed. -/
theorem at5 (t : Fin grid0.N) (hf : win0_5.flush t = true) : wr 345 t.val < 352 ∧ (wr 345 t.val % 11 = 2 * 1 + 1 ∨ wr 345 t.val % 11 = 2 * 1 + 2) := by
  have h := fl5 t hf
  have ht := lt_N t
  unfold wr
  split <;> omega

/-- A grid point's block of the first gates' logarithms. -/
theorem out5_apply (c : Dev nD) (u : ℕ) (hu : u < 352) (hg : u % 11 = 2 * 1 + 1 ∨ u % 11 = 2 * 1 + 2) (r : Fin 1024) (n : Fin 512) :
    out5 m c u (ix2 r n) = (refF (low0 (m (c, Proc.tc.devRef main_arg3))) (cols1 (pj m c))) (ix2 (⟨u / 11 * 1024 + r.val, by omega⟩ : Fin 32768) (⟨(u % 11 - 1 - 2 * 1) * 512 + n.val, by omega⟩ : Fin 1024)) := by
  have hz := (tile_apply m c 1 u hu hg r n).trans (cols1_apply (pj m c) _ _ (⟨(u % 11 - 1 - 2 * 1) * 512 + n.val, by omega⟩ : Fin 1024)).symm
  have hb := fun k => bound_apply m c 0 u hu hg k n
  rw [refF_apply, low0_apply]
  refine (pay3_apply _ _ _ r n).trans (congrArg (· * _) (congrArg₂ lse ?_ (congrArg₂ (· + ·) ?_ (congrArg lsg hz))))
  · exact (hb 0).trans (hostL_apply _ _ _ _)
  · exact (hb 1).trans (hostL_apply _ _ _ _)

/-- The launch's array of the first gates' logarithms is the reference's. -/
theorem arr5_eq (c : Dev nD) : (dats m 0 c).arrAt 5 cfg0.N = refF (low0 (m (c, Proc.tc.devRef main_arg3))) (cols1 (pj m c)) := by
  refine (dats m 0 c).arrAt_eq_of_covers 5 _ covers5 fun t hf y => ?_
  blk_simp
  rw [after5]
  obtain ⟨r, n, rfl⟩ : ∃ (r : Fin 1024) (n : Fin 512), y = ix2 r n := ⟨y 0, y 1, eq_ix2 y⟩
  obtain ⟨hu, hg⟩ := at5 t hf
  have hemb : (win0_5.blk t).view.emb (ix2 r n) = ix2 (⟨(wr 345 t.val) / 11 * 1024 + r.val, by omega⟩ : Fin 32768) (⟨((wr 345 t.val) % 11 - 1 - 2 * 1) * 512 + n.val, by omega⟩ : Fin 1024) := by
    funext a
    refine Fin.ext ?_
    fin_cases a <;> blk_simp [idx5 t hf] <;> rfl
  rw [hemb]
  exact out5_apply m c _ hu hg r n

/-- The block that the window holds at a grid point. -/
theorem idx6 : ∀ t : Fin grid0.N, win0_6.flush t = true → win0_6.index t = ![(wr 345 t.val) / 11, (wr 345 t.val) % 11 - 1 - 2 * 1] := by decide +kernel
/-- The blocks written back cover the array. -/
theorem covers6 : (cfg0.win 6).Covers := by decide +kernel

/-- A block is written back where its group of columns was computed. -/
theorem at6 (t : Fin grid0.N) (hf : win0_6.flush t = true) : wr 345 t.val < 352 ∧ (wr 345 t.val % 11 = 2 * 1 + 1 ∨ wr 345 t.val % 11 = 2 * 1 + 2) := by
  have h := fl6 t hf
  have ht := lt_N t
  unfold wr
  split <;> omega

/-- A grid point's block of the first keys. -/
theorem out6_apply (c : Dev nD) (u : ℕ) (hu : u < 352) (hg : u % 11 = 2 * 1 + 1 ∨ u % 11 = 2 * 1 + 2) (r : Fin 1024) (n : Fin 512) :
    out6 m c u (ix2 r n) = (refK (low0 (m (c, Proc.tc.devRef main_arg3))) (cols1 (pj m c))) (ix2 (⟨u / 11 * 1024 + r.val, by omega⟩ : Fin 32768) (⟨(u % 11 - 1 - 2 * 1) * 512 + n.val, by omega⟩ : Fin 1024)) := by
  have hz := (tile_apply m c 1 u hu hg r n).trans (cols1_apply (pj m c) _ _ (⟨(u % 11 - 1 - 2 * 1) * 512 + n.val, by omega⟩ : Fin 1024)).symm
  have hb := fun k => bound_apply m c 0 u hu hg k n
  rw [refK_apply, low0_apply]
  exact (pay15_apply _ _ r n).trans (congrArg₂ kee ((hb 2).trans (hostL_apply _ _ _ _)) hz)

/-- The launch's array of the first keys is the reference's. -/
theorem arr6_eq (c : Dev nD) : (dats m 0 c).arrAt 6 cfg0.N = refK (low0 (m (c, Proc.tc.devRef main_arg3))) (cols1 (pj m c)) := by
  refine (dats m 0 c).arrAt_eq_of_covers 6 _ covers6 fun t hf y => ?_
  blk_simp
  rw [after6]
  obtain ⟨r, n, rfl⟩ : ∃ (r : Fin 1024) (n : Fin 512), y = ix2 r n := ⟨y 0, y 1, eq_ix2 y⟩
  obtain ⟨hu, hg⟩ := at6 t hf
  have hemb : (win0_6.blk t).view.emb (ix2 r n) = ix2 (⟨(wr 345 t.val) / 11 * 1024 + r.val, by omega⟩ : Fin 32768) (⟨((wr 345 t.val) % 11 - 1 - 2 * 1) * 512 + n.val, by omega⟩ : Fin 1024) := by
    funext a
    refine Fin.ext ?_
    fin_cases a <;> blk_simp [idx6 t hf] <;> rfl
  rw [hemb]
  exact out6_apply m c _ hu hg r n

/-- The block that the window holds at a grid point. -/
theorem idx7 : ∀ t : Fin grid0.N, win0_7.flush t = true → win0_7.index t = ![(wr 347 t.val) / 11, (wr 347 t.val) % 11 - 1 - 2 * 2] := by decide +kernel
/-- The blocks written back cover the array. -/
theorem covers7 : (cfg0.win 7).Covers := by decide +kernel

/-- A block is written back where its group of columns was computed. -/
theorem at7 (t : Fin grid0.N) (hf : win0_7.flush t = true) : wr 347 t.val < 352 ∧ (wr 347 t.val % 11 = 2 * 2 + 1 ∨ wr 347 t.val % 11 = 2 * 2 + 2) := by
  have h := fl7 t hf
  have ht := lt_N t
  unfold wr
  split <;> omega

/-- A grid point's block of the second gates' logarithms. -/
theorem out7_apply (c : Dev nD) (u : ℕ) (hu : u < 352) (hg : u % 11 = 2 * 2 + 1 ∨ u % 11 = 2 * 2 + 2) (r : Fin 1024) (n : Fin 512) :
    out7 m c u (ix2 r n) = (refF (low1 (m (c, Proc.tc.devRef main_arg3))) (cols2 (pj m c))) (ix2 (⟨u / 11 * 1024 + r.val, by omega⟩ : Fin 32768) (⟨(u % 11 - 1 - 2 * 2) * 512 + n.val, by omega⟩ : Fin 1024)) := by
  have hz := (tile_apply m c 2 u hu hg r n).trans (cols2_apply (pj m c) _ _ (⟨(u % 11 - 1 - 2 * 2) * 512 + n.val, by omega⟩ : Fin 1024)).symm
  have hb := fun k => bound_apply m c 1 u hu hg k n
  rw [refF_apply, low1_apply]
  refine ((congrFun (pay8_eq _ _ _) _).trans <| pay3_apply _ _ _ r n).trans (congrArg (· * _) (congrArg₂ lse ?_ (congrArg₂ (· + ·) ?_ (congrArg lsg hz))))
  · exact (hb 0).trans (hostL_apply _ _ _ _)
  · exact (hb 1).trans (hostL_apply _ _ _ _)

/-- The launch's array of the second gates' logarithms is the reference's. -/
theorem arr7_eq (c : Dev nD) : (dats m 0 c).arrAt 7 cfg0.N = refF (low1 (m (c, Proc.tc.devRef main_arg3))) (cols2 (pj m c)) := by
  refine (dats m 0 c).arrAt_eq_of_covers 7 _ covers7 fun t hf y => ?_
  blk_simp
  rw [after7]
  obtain ⟨r, n, rfl⟩ : ∃ (r : Fin 1024) (n : Fin 512), y = ix2 r n := ⟨y 0, y 1, eq_ix2 y⟩
  obtain ⟨hu, hg⟩ := at7 t hf
  have hemb : (win0_7.blk t).view.emb (ix2 r n) = ix2 (⟨(wr 347 t.val) / 11 * 1024 + r.val, by omega⟩ : Fin 32768) (⟨((wr 347 t.val) % 11 - 1 - 2 * 2) * 512 + n.val, by omega⟩ : Fin 1024) := by
    funext a
    refine Fin.ext ?_
    fin_cases a <;> blk_simp [idx7 t hf] <;> rfl
  rw [hemb]
  exact out7_apply m c _ hu hg r n

/-- The block that the window holds at a grid point. -/
theorem idx8 : ∀ t : Fin grid0.N, win0_8.flush t = true → win0_8.index t = ![(wr 347 t.val) / 11, (wr 347 t.val) % 11 - 1 - 2 * 2] := by decide +kernel
/-- The blocks written back cover the array. -/
theorem covers8 : (cfg0.win 8).Covers := by decide +kernel

/-- A block is written back where its group of columns was computed. -/
theorem at8 (t : Fin grid0.N) (hf : win0_8.flush t = true) : wr 347 t.val < 352 ∧ (wr 347 t.val % 11 = 2 * 2 + 1 ∨ wr 347 t.val % 11 = 2 * 2 + 2) := by
  have h := fl8 t hf
  have ht := lt_N t
  unfold wr
  split <;> omega

/-- A grid point's block of the second keys. -/
theorem out8_apply (c : Dev nD) (u : ℕ) (hu : u < 352) (hg : u % 11 = 2 * 2 + 1 ∨ u % 11 = 2 * 2 + 2) (r : Fin 1024) (n : Fin 512) :
    out8 m c u (ix2 r n) = (refK (low1 (m (c, Proc.tc.devRef main_arg3))) (cols2 (pj m c))) (ix2 (⟨u / 11 * 1024 + r.val, by omega⟩ : Fin 32768) (⟨(u % 11 - 1 - 2 * 2) * 512 + n.val, by omega⟩ : Fin 1024)) := by
  have hz := (tile_apply m c 2 u hu hg r n).trans (cols2_apply (pj m c) _ _ (⟨(u % 11 - 1 - 2 * 2) * 512 + n.val, by omega⟩ : Fin 1024)).symm
  have hb := fun k => bound_apply m c 1 u hu hg k n
  rw [refK_apply, low1_apply]
  exact ((congrFun (pay18_eq _ _) _).trans <| pay15_apply _ _ r n).trans (congrArg₂ kee ((hb 2).trans (hostL_apply _ _ _ _)) hz)

/-- The launch's array of the second keys is the reference's. -/
theorem arr8_eq (c : Dev nD) : (dats m 0 c).arrAt 8 cfg0.N = refK (low1 (m (c, Proc.tc.devRef main_arg3))) (cols2 (pj m c)) := by
  refine (dats m 0 c).arrAt_eq_of_covers 8 _ covers8 fun t hf y => ?_
  blk_simp
  rw [after8]
  obtain ⟨r, n, rfl⟩ : ∃ (r : Fin 1024) (n : Fin 512), y = ix2 r n := ⟨y 0, y 1, eq_ix2 y⟩
  obtain ⟨hu, hg⟩ := at8 t hf
  have hemb : (win0_8.blk t).view.emb (ix2 r n) = ix2 (⟨(wr 347 t.val) / 11 * 1024 + r.val, by omega⟩ : Fin 32768) (⟨((wr 347 t.val) % 11 - 1 - 2 * 2) * 512 + n.val, by omega⟩ : Fin 1024) := by
    funext a
    refine Fin.ext ?_
    fin_cases a <;> blk_simp [idx8 t hf] <;> rfl
  rw [hemb]
  exact out8_apply m c _ hu hg r n

/-- The block that the window holds at a grid point. -/
theorem idx9 : ∀ t : Fin grid0.N, win0_9.flush t = true → win0_9.index t = ![(wr 349 t.val) / 11, (wr 349 t.val) % 11 - 1 - 2 * 3] := by decide +kernel
/-- The blocks written back cover the array. -/
theorem covers9 : (cfg0.win 9).Covers := by decide +kernel

/-- A block is written back where its group of columns was computed. -/
theorem at9 (t : Fin grid0.N) (hf : win0_9.flush t = true) : wr 349 t.val < 352 ∧ (wr 349 t.val % 11 = 2 * 3 + 1 ∨ wr 349 t.val % 11 = 2 * 3 + 2) := by
  have h := fl9 t hf
  have ht := lt_N t
  unfold wr
  split <;> omega

/-- A grid point's block of the values. -/
theorem out9_apply (c : Dev nD) (u : ℕ) (hu : u < 352) (hg : u % 11 = 2 * 3 + 1 ∨ u % 11 = 2 * 3 + 2) (r : Fin 1024) (n : Fin 512) :
    out9 m c u (ix2 r n) = (refV (cols3 (pj m c))) (ix2 (⟨u / 11 * 1024 + r.val, by omega⟩ : Fin 32768) (⟨(u % 11 - 1 - 2 * 3) * 512 + n.val, by omega⟩ : Fin 1024)) := by
  have hz := (tile_apply m c 3 u hu hg r n).trans (cols3_apply (pj m c) _ _ (⟨(u % 11 - 1 - 2 * 3) * 512 + n.val, by omega⟩ : Fin 1024)).symm
  rw [refV_apply]
  exact hz

/-- The launch's array of the values is the reference's. -/
theorem arr9_eq (c : Dev nD) : (dats m 0 c).arrAt 9 cfg0.N = refV (cols3 (pj m c)) := by
  refine (dats m 0 c).arrAt_eq_of_covers 9 _ covers9 fun t hf y => ?_
  blk_simp
  rw [after9]
  obtain ⟨r, n, rfl⟩ : ∃ (r : Fin 1024) (n : Fin 512), y = ix2 r n := ⟨y 0, y 1, eq_ix2 y⟩
  obtain ⟨hu, hg⟩ := at9 t hf
  have hemb : (win0_9.blk t).view.emb (ix2 r n) = ix2 (⟨(wr 349 t.val) / 11 * 1024 + r.val, by omega⟩ : Fin 32768) (⟨((wr 349 t.val) % 11 - 1 - 2 * 3) * 512 + n.val, by omega⟩ : Fin 1024) := by
    funext a
    refine Fin.ext ?_
    fin_cases a <;> blk_simp [idx9 t hf] <;> rfl
  rw [hemb]
  exact out9_apply m c _ hu hg r n

/-- The block that the window holds at a grid point. -/
theorem idx10 : ∀ t : Fin grid0.N, win0_10.flush t = true → win0_10.index t = ![(t.val) / 11, (t.val) % 11 - 1 - 2 * 4] := by decide +kernel
/-- The blocks written back cover the array. -/
theorem covers10 : (cfg0.win 10).Covers := by decide +kernel

/-- A block is written back where its group of columns was computed. -/
theorem at10 (t : Fin grid0.N) (hf : win0_10.flush t = true) : t.val < 352 ∧ (t.val % 11 = 2 * 4 + 1 ∨ t.val % 11 = 2 * 4 + 2) := by
  have h := fl10 t hf
  have ht := lt_N t
  omega

/-- A grid point's block of the output gates. -/
theorem out10_apply (c : Dev nD) (u : ℕ) (hu : u < 352) (hg : u % 11 = 2 * 4 + 1 ∨ u % 11 = 2 * 4 + 2) (r : Fin 1024) (n : Fin 512) :
    out10 m c u (ix2 r n) = (refO (cols4 (pj m c))) (ix2 (⟨u / 11 * 1024 + r.val, by omega⟩ : Fin 32768) (⟨(u % 11 - 1 - 2 * 4) * 512 + n.val, by omega⟩ : Fin 1024)) := by
  have hz := (tile_apply m c 4 u hu hg r n).trans (cols4_apply (pj m c) _ _ (⟨(u % 11 - 1 - 2 * 4) * 512 + n.val, by omega⟩ : Fin 1024)).symm
  rw [refO_apply]
  exact hz

/-- The launch's array of the output gates is the reference's. -/
theorem arr10_eq (c : Dev nD) : (dats m 0 c).arrAt 10 cfg0.N = refO (cols4 (pj m c)) := by
  refine (dats m 0 c).arrAt_eq_of_covers 10 _ covers10 fun t hf y => ?_
  blk_simp
  rw [after10]
  obtain ⟨r, n, rfl⟩ : ∃ (r : Fin 1024) (n : Fin 512), y = ix2 r n := ⟨y 0, y 1, eq_ix2 y⟩
  obtain ⟨hu, hg⟩ := at10 t hf
  have hemb : (win0_10.blk t).view.emb (ix2 r n) = ix2 (⟨(t.val) / 11 * 1024 + r.val, by omega⟩ : Fin 32768) (⟨((t.val) % 11 - 1 - 2 * 4) * 512 + n.val, by omega⟩ : Fin 1024) := by
    funext a
    refine Fin.ext ?_
    fin_cases a <;> blk_simp [idx10 t hf] <;> rfl
  rw [hemb]
  exact out10_apply m c _ hu hg r n

/-- What the named constant stands for. -/
theorem preserves : Cert.preserves_Kernel9_Kernel9Ideal :=
  IdealRules.named_const.statement Cert.Kernel9Ideal.κ "log2_e" .f32 0x3FB8AA3B#32 (((Real.log 2)⁻¹ : ℝ) : EReal) rfl

/-- The kernel and the reference end with equal arrays of results. -/
theorem algebraic : Cert.algebraic_Kernel9Ideal_Reference9Ideal := by
  intro m g m' g' hp hm
  refine ⟨fun c => refQ (cols0 (pj m c)), fun c => refF (low0 (m (c, Proc.tc.devRef main_arg3))) (cols1 (pj m c)), fun c => refK (low0 (m (c, Proc.tc.devRef main_arg3))) (cols1 (pj m c)), fun c => refF (low1 (m (c, Proc.tc.devRef main_arg3))) (cols2 (pj m c)), fun c => refK (low1 (m (c, Proc.tc.devRef main_arg3))) (cols2 (pj m c)), fun c => refV (cols3 (pj m c)), fun c => refO (cols4 (pj m c)), ?_, ?_⟩
  · refine (θ_run Cert.Kernel9Ideal.defs _ _).mono (fun r h c => ?_) (run_main (F := Ideal) m g)
    exact ⟨((h.1 c).1 4).trans (arr4_eq m c), ((h.1 c).1 5).trans (arr5_eq m c), ((h.1 c).1 6).trans (arr6_eq m c), ((h.1 c).1 7).trans (arr7_eq m c), ((h.1 c).1 8).trans (arr8_eq m c), ((h.1 c).1 9).trans (arr9_eq m c), ((h.1 c).1 10).trans (arr10_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩
  · refine (θ_run Cert.Reference9Ideal.defs _ _).mono (fun r h c => ?_) (run_ref m' g')
    have hh := h c
    rw [(hm c).1, (hm c).2.1, (hm c).2.2.1, (hm c).2.2.2] at hh
    exact ⟨hh.1, hh.2.1, hh.2.2.1, hh.2.2.2.1, hh.2.2.2.2.1, hh.2.2.2.2.2.1, hh.2.2.2.2.2.2.1, (h c).2.2.2.2.2.2.2⟩

end Cert.Proof.HgIn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.ReferenceIdeal.Run
public import proofs.«01_k».proof.Proof.AttAlg
public import proofs.«01_k».proof.Proof.FfnIn
public import proofs.«01_k».proof.Proof.FfnOut
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.NormSample
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.NormPrompt
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.CrossOut
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.MixOut
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Cross
public import proofs.«01_k».proof.Proof.Gen.Kernel8.Value
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.HgIn
public import proofs.«01_k».proof.Proof.HgBRun
public import Idealize.ShloMosaic.Adequacy
public import Idealize.ShloMosaic.Init

@[expose] public section

noncomputable section

/-! The claims, assembled. -/

namespace Cert.Proof

open Idealize.ShloMosaic Idealize.SL.Sem Cert.Kernel

/-- The kernel's run read at its arguments: for any float values, every run ends with them unchanged and every counter at
zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c =>
    ⟨((h.1 c).2 Cert.KernelIdeal.main_arg0 (Pipeline.mem_restRefs_of Cert.KernelIdeal.main_arg0 (by decide) (by decide))).trans (Cert.KernelIdeal.Gen.V_main_arg0 m c),
     ((h.1 c).2 Cert.KernelIdeal.main_arg1 (Pipeline.mem_restRefs_of Cert.KernelIdeal.main_arg1 (by decide) (by decide))).trans (Cert.KernelIdeal.Gen.V_main_arg1 m c),
     ((h.1 c).2 Cert.KernelIdeal.main_arg2 (Pipeline.mem_restRefs_of Cert.KernelIdeal.main_arg2 (by decide) (by decide))).trans (Cert.KernelIdeal.Gen.V_main_arg2 m c)⟩, h.2⟩)
    (Att.run_main (F := F) m ρ)

/-- The two programs' kernels are one table. -/
theorem defs₀_same : Cert.Kernel.defs₀ (F := Bits) = Cert.KernelIdeal.defs₀ (F := Bits) := by
  unfold Cert.Kernel.defs₀ Cert.KernelIdeal.defs₀
  congr 1
  funext l
  match l with
  | 0 => funext x; rfl

/-- So are their tables of kernels and regions. -/
theorem defs_same : Cert.Kernel.defs (F := Bits) = Cert.KernelIdeal.defs (F := Bits) := by
  unfold Cert.Kernel.defs Cert.KernelIdeal.defs
  exact congrArg (Pipeline.defs _) defs₀_same

/-- The kernel's frame, on words. -/
theorem frame_kernel : Cert.quiescent_Kernel := fun m ρ _ => by
  rw [defs_same]
  exact frame_any (F := Bits) m ρ

/-- The kernel's frame, over the extended reals. -/
theorem frame_ideal : Cert.quiescent_KernelIdeal := fun m ρ _ => frame_any (F := Ideal) m ρ

/-- The reference's frame: its run read at its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs' kernels of the feed-forward part's first product are one table. -/
theorem defs₀_same2 : Cert.Kernel2.defs₀ (F := Bits) = Cert.Kernel2Ideal.defs₀ (F := Bits) := by
  unfold Cert.Kernel2.defs₀ Cert.Kernel2Ideal.defs₀
  congr 1
  funext l
  match l with
  | 0 => funext x; rfl

/-- So are their tables of kernels and regions. -/
theorem defs_same2 : Cert.Kernel2.defs (F := Bits) = Cert.Kernel2Ideal.defs (F := Bits) := by
  unfold Cert.Kernel2.defs Cert.Kernel2Ideal.defs
  exact congrArg (Pipeline.defs _) defs₀_same2

/-- The frame of the first product, on words. -/
theorem frame_kernel2 : Cert.quiescent_Kernel2 := fun m ρ _ => by
  rw [defs_same2]
  exact Cert.Kernel2Ideal.Gen.frame (F := Bits) m ρ

/-- The frame of the first product, over the extended reals. -/
theorem frame_ideal2 : Cert.quiescent_Kernel2Ideal := fun m ρ _ => Cert.Kernel2Ideal.Gen.frame (F := Ideal) m ρ

/-- The frame of the first product's reference. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs' kernels of the feed-forward part's second product are one table. -/
theorem defs₀_same3 : Cert.Kernel3.defs₀ (F := Bits) = Cert.Kernel3Ideal.defs₀ (F := Bits) := by
  unfold Cert.Kernel3.defs₀ Cert.Kernel3Ideal.defs₀
  congr 1
  funext l
  match l with
  | 0 => funext x; rfl

/-- So are their tables of kernels and regions. -/
theorem defs_same3 : Cert.Kernel3.defs (F := Bits) = Cert.Kernel3Ideal.defs (F := Bits) := by
  unfold Cert.Kernel3.defs Cert.Kernel3Ideal.defs
  exact congrArg (Pipeline.defs _) defs₀_same3

/-- The frame of the second product, on words. -/
theorem frame_kernel3 : Cert.quiescent_Kernel3 := fun m ρ _ => by
  rw [defs_same3]
  exact Cert.Kernel3Ideal.Gen.frame (F := Bits) m ρ

/-- The frame of the second product, over the extended reals. -/
theorem frame_ideal3 : Cert.quiescent_Kernel3Ideal := fun m ρ _ => Cert.Kernel3Ideal.Gen.frame (F := Ideal) m ρ

/-- The frame of the second product's reference. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two programs' kernels of the final norm, for the long batch are one table. -/
theorem defs₀_same4 : Cert.Kernel4.defs₀ (F := Bits) = Cert.Kernel4Ideal.defs₀ (F := Bits) := by
  unfold Cert.Kernel4.defs₀ Cert.Kernel4Ideal.defs₀
  congr 1
  funext l
  match l with
  | 0 => funext x; rfl

/-- So are their tables of kernels and regions. -/
theorem defs_same4 : Cert.Kernel4.defs (F := Bits) = Cert.Kernel4Ideal.defs (F := Bits) := by
  unfold Cert.Kernel4.defs Cert.Kernel4Ideal.defs
  exact congrArg (Pipeline.defs _) defs₀_same4

/-- The frame of the final norm, for the long batch, on words. -/
theorem frame_kernel4 : Cert.quiescent_Kernel4 := fun m ρ _ => by
  rw [defs_same4]
  exact Cert.Kernel4Ideal.Gen.frame (F := Bits) m ρ

/-- The frame of the final norm, for the long batch, over the extended reals. -/
theorem frame_ideal4 : Cert.quiescent_Kernel4Ideal := fun m ρ _ => Cert.Kernel4Ideal.Gen.frame (F := Ideal) m ρ

/-- The frame of the reference of the final norm, for the long batch. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two programs' kernels of the final norm, for the short batch are one table. -/
theorem defs₀_same5 : Cert.Kernel5.defs₀ (F := Bits) = Cert.Kernel5Ideal.defs₀ (F := Bits) := by
  unfold Cert.Kernel5.defs₀ Cert.Kernel5Ideal.defs₀
  congr 1
  funext l
  match l with
  | 0 => funext x; rfl

/-- So are their tables of kernels and regions. -/
theorem defs_same5 : Cert.Kernel5.defs (F := Bits) = Cert.Kernel5Ideal.defs (F := Bits) := by
  unfold Cert.Kernel5.defs Cert.Kernel5Ideal.defs
  exact congrArg (Pipeline.defs _) defs₀_same5

/-- The frame of the final norm, for the short batch, on words. -/
theorem frame_kernel5 : Cert.quiescent_Kernel5 := fun m ρ _ => by
  rw [defs_same5]
  exact Cert.Kernel5Ideal.Gen.frame (F := Bits) m ρ

/-- The frame of the final norm, for the short batch, over the extended reals. -/
theorem frame_ideal5 : Cert.quiescent_Kernel5Ideal := fun m ρ _ => Cert.Kernel5Ideal.Gen.frame (F := Ideal) m ρ

/-- The frame of the reference of the final norm, for the short batch. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two programs' kernels of the cross-attention's output projection are one table. -/
theorem defs₀_same6 : Cert.Kernel6.defs₀ (F := Bits) = Cert.Kernel6Ideal.defs₀ (F := Bits) := by
  unfold Cert.Kernel6.defs₀ Cert.Kernel6Ideal.defs₀
  congr 1
  funext l
  match l with
  | 0 => funext x; rfl

/-- So are their tables of kernels and regions. -/
theorem defs_same6 : Cert.Kernel6.defs (F := Bits) = Cert.Kernel6Ideal.defs (F := Bits) := by
  unfold Cert.Kernel6.defs Cert.Kernel6Ideal.defs
  exact congrArg (Pipeline.defs _) defs₀_same6

/-- The frame of the cross-attention's output projection, on words. -/
theorem frame_kernel6 : Cert.quiescent_Kernel6 := fun m ρ _ => by
  rw [defs_same6]
  exact Cert.Kernel6Ideal.Gen.frame (F := Bits) m ρ

/-- The frame of the cross-attention's output projection, over the extended reals. -/
theorem frame_ideal6 : Cert.quiescent_Kernel6Ideal := fun m ρ _ => Cert.Kernel6Ideal.Gen.frame (F := Ideal) m ρ

/-- The frame of the reference of the cross-attention's output projection. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The two programs' kernels of the mixer's output projection are one table. -/
theorem defs₀_same7 : Cert.Kernel7.defs₀ (F := Bits) = Cert.Kernel7Ideal.defs₀ (F := Bits) := by
  unfold Cert.Kernel7.defs₀ Cert.Kernel7Ideal.defs₀
  congr 1
  funext l
  match l with
  | 0 => funext x; rfl

/-- So are their tables of kernels and regions. -/
theorem defs_same7 : Cert.Kernel7.defs (F := Bits) = Cert.Kernel7Ideal.defs (F := Bits) := by
  unfold Cert.Kernel7.defs Cert.Kernel7Ideal.defs
  exact congrArg (Pipeline.defs _) defs₀_same7

/-- The frame of the mixer's output projection, on words. -/
theorem frame_kernel7 : Cert.quiescent_Kernel7 := fun m ρ _ => by
  rw [defs_same7]
  exact Cert.Kernel7Ideal.Gen.frame (F := Bits) m ρ

/-- The frame of the mixer's output projection, over the extended reals. -/
theorem frame_ideal7 : Cert.quiescent_Kernel7Ideal := fun m ρ _ => Cert.Kernel7Ideal.Gen.frame (F := Ideal) m ρ

/-- The frame of the reference of the mixer's output projection. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The frame of the cross-attention, on words. -/
theorem frame_kernel8 : Cert.quiescent_Kernel8 := fun m ρ _ => Cert.Kernel8.Gen.frame (F := Bits) m ρ

/-- The frame of the cross-attention, over the extended reals. -/
theorem frame_ideal8 : Cert.quiescent_Kernel8Ideal := fun m ρ _ => Cert.Kernel8Ideal.Gen.frame (F := Ideal) m ρ

/-- The frame of the reference of the cross-attention. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The frame of the recurrence's input projection, on words. -/
theorem frame_kernel9 : Cert.quiescent_Kernel9 := fun m ρ _ =>
  (θ_run Cert.Kernel9.defs _ _).mono (fun _ h => ⟨fun c =>
    ⟨((h.1 c).2 Cert.Kernel9.main_arg0 (Pipeline.mem_restRefs_of Cert.Kernel9.main_arg0 (by decide) (by decide))).trans (Cert.Kernel9.Gen.V_main_arg0 m c),
     ((h.1 c).2 Cert.Kernel9.main_arg1 (Pipeline.mem_restRefs_of Cert.Kernel9.main_arg1 (by decide) (by decide))).trans (Cert.Kernel9.Gen.V_main_arg1 m c),
     ((h.1 c).2 Cert.Kernel9.main_arg2 (Pipeline.mem_restRefs_of Cert.Kernel9.main_arg2 (by decide) (by decide))).trans (Cert.Kernel9.Gen.V_main_arg2 m c),
     ((h.1 c).2 Cert.Kernel9.main_arg3 (Pipeline.mem_restRefs_of Cert.Kernel9.main_arg3 (by decide) (by decide))).trans (Cert.Kernel9.Gen.V_main_arg3 m c)⟩, h.2⟩)
    (HgB.run_main (F := Bits) m ρ)

/-- The frame of the recurrence's input projection, over the extended reals. -/
theorem frame_ideal9 : Cert.quiescent_Kernel9Ideal := fun m ρ _ =>
  (θ_run Cert.Kernel9Ideal.defs _ _).mono (fun _ h => ⟨fun c =>
    ⟨((h.1 c).2 Cert.Kernel9Ideal.main_arg0 (Pipeline.mem_restRefs_of Cert.Kernel9Ideal.main_arg0 (by decide) (by decide))).trans (Cert.Kernel9Ideal.Gen.V_main_arg0 m c),
     ((h.1 c).2 Cert.Kernel9Ideal.main_arg1 (Pipeline.mem_restRefs_of Cert.Kernel9Ideal.main_arg1 (by decide) (by decide))).trans (Cert.Kernel9Ideal.Gen.V_main_arg1 m c),
     ((h.1 c).2 Cert.Kernel9Ideal.main_arg2 (Pipeline.mem_restRefs_of Cert.Kernel9Ideal.main_arg2 (by decide) (by decide))).trans (Cert.Kernel9Ideal.Gen.V_main_arg2 m c),
     ((h.1 c).2 Cert.Kernel9Ideal.main_arg3 (Pipeline.mem_restRefs_of Cert.Kernel9Ideal.main_arg3 (by decide) (by decide))).trans (Cert.Kernel9Ideal.Gen.V_main_arg3 m c)⟩, h.2⟩)
    (HgI.run_main (F := Ideal) m ρ)

/-- The frame of the reference of the recurrence's input projection. -/
theorem frame_reference9 : Cert.quiescent_Reference9Ideal := fun m ρ _ =>
  (θ_run Cert.Reference9Ideal.defs _ _).mono (fun r h => ⟨fun c => (h c).2.2.2.2.2.2.2, sem_eq_zero_of_no_sems (by decide) r.2⟩)
    (Cert.Reference9Ideal.Value.run (F := Ideal) m ρ)

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Att.preFacts, Cross.preFacts,
  frame_kernel, frame_ideal, fun m ρ _ => frame_any (F := Ideal) m ρ, frame_reference,
  fun m ρ _ => frame_reference m ρ trivial,
  frame_kernel2, frame_ideal2, frame_reference2, frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, fun m ρ _ => frame_ideal8 m ρ trivial, frame_reference8, fun m ρ _ => frame_reference8 m ρ trivial,
  frame_kernel9, frame_ideal9, frame_reference9,
  trivial, @Att.algebraic Att.preFacts, trivial, FfnIn.algebraic, trivial, FfnOut.algebraic, trivial, NormSample.algebraic, trivial, NormPrompt.algebraic, trivial, CrossOut.algebraic, trivial, MixOut.algebraic,
  Cross.preserves, @Cross.algebraic Cross.preFacts, HgIn.preserves, HgIn.algebraic⟩

end Cert.Proof

end
